-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v38_6) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "s" .f32 0x3DB504F3#32 (((Real.sqrt 128)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_1)) (v2 : (c : Dev Cert.Kernel6Ideal.nD) → Buf (Elt Ideal) ((c.tc : Thread Cert.Kernel6Ideal.nD Cert.Kernel6Ideal.τ).loc Cert.Kernel6Ideal.main_v36_2)) (v3 : (c : Dev Cert.Kernel6Ideal.nD) → Buf (Elt Ideal) ((c.tc : Thread Cert.Kernel6Ideal.nD Cert.Kernel6Ideal.τ).loc Cert.Kernel6Ideal.main_v36_3)) (v4 : (c : Dev Cert.Kernel6Ideal.nD) → Buf (Elt Ideal) ((c.tc : Thread Cert.Kernel6Ideal.nD Cert.Kernel6Ideal.τ).loc Cert.Kernel6Ideal.main_v36_4)) (v5 : (c : Dev Cert.Kernel6Ideal.nD) → Buf (Elt Ideal) ((c.tc : Thread Cert.Kernel6Ideal.nD Cert.Kernel6Ideal.τ).loc Cert.Kernel6Ideal.main_v36_5)) (v6 : (c : Dev Cert.Kernel6Ideal.nD) → Buf (Elt Ideal) ((c.tc : Thread Cert.Kernel6Ideal.nD Cert.Kernel6Ideal.τ).loc Cert.Kernel6Ideal.main_v36_6)) (v7 : (c : Dev Cert.Kernel6Ideal.nD) → Buf (Elt Ideal) ((c.tc : Thread Cert.Kernel6Ideal.nD Cert.Kernel6Ideal.τ).loc Cert.Kernel6Ideal.main_v36_7)) (v8 : (c : Dev Cert.Kernel6Ideal.nD) → Buf (Elt Ideal) ((c.tc : Thread Cert.Kernel6Ideal.nD Cert.Kernel6Ideal.τ).loc Cert.Kernel6Ideal.main_v36_8)) (v9 : (c : Dev Cert.Kernel6Ideal.nD) → Buf (Elt Ideal) ((c.tc : Thread Cert.Kernel6Ideal.nD Cert.Kernel6Ideal.τ).loc Cert.Kernel6Ideal.main_v36_9)) (v10 : (c : Dev Cert.Kernel6Ideal.nD) → Buf (Elt Ideal) ((c.tc : Thread Cert.Kernel6Ideal.nD Cert.Kernel6Ideal.τ).loc Cert.Kernel6Ideal.main_v36_10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_1) = v1 c
          ∧ r.2.mem ((c.tc : Thread Cert.Kernel6Ideal.nD Cert.Kernel6Ideal.τ).loc Cert.Kernel6Ideal.main_v36_2) = v2 c
          ∧ r.2.mem ((c.tc : Thread Cert.Kernel6Ideal.nD Cert.Kernel6Ideal.τ).loc Cert.Kernel6Ideal.main_v36_3) = v3 c
          ∧ r.2.mem ((c.tc : Thread Cert.Kernel6Ideal.nD Cert.Kernel6Ideal.τ).loc Cert.Kernel6Ideal.main_v36_4) = v4 c
          ∧ r.2.mem ((c.tc : Thread Cert.Kernel6Ideal.nD Cert.Kernel6Ideal.τ).loc Cert.Kernel6Ideal.main_v36_5) = v5 c
          ∧ r.2.mem ((c.tc : Thread Cert.Kernel6Ideal.nD Cert.Kernel6Ideal.τ).loc Cert.Kernel6Ideal.main_v36_6) = v6 c
          ∧ r.2.mem ((c.tc : Thread Cert.Kernel6Ideal.nD Cert.Kernel6Ideal.τ).loc Cert.Kernel6Ideal.main_v36_7) = v7 c
          ∧ r.2.mem ((c.tc : Thread Cert.Kernel6Ideal.nD Cert.Kernel6Ideal.τ).loc Cert.Kernel6Ideal.main_v36_8) = v8 c
          ∧ r.2.mem ((c.tc : Thread Cert.Kernel6Ideal.nD Cert.Kernel6Ideal.τ).loc Cert.Kernel6Ideal.main_v36_9) = v9 c
          ∧ r.2.mem ((c.tc : Thread Cert.Kernel6Ideal.nD Cert.Kernel6Ideal.τ).loc Cert.Kernel6Ideal.main_v36_10) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v92) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_v98) = v3 c
          ∧ r.2.mem ((c.tc : Thread Cert.Reference6Ideal.nD Cert.Reference6Ideal.τ).loc Cert.Reference6Ideal.main_v99) = v4 c
          ∧ r.2.mem ((c.tc : Thread Cert.Reference6Ideal.nD Cert.Reference6Ideal.τ).loc Cert.Reference6Ideal.main_v100) = v5 c
          ∧ r.2.mem ((c.tc : Thread Cert.Reference6Ideal.nD Cert.Reference6Ideal.τ).loc Cert.Reference6Ideal.main_v101) = v6 c
          ∧ r.2.mem ((c.tc : Thread Cert.Reference6Ideal.nD Cert.Reference6Ideal.τ).loc Cert.Reference6Ideal.main_v71) = v7 c
          ∧ r.2.mem ((c.tc : Thread Cert.Reference6Ideal.nD Cert.Reference6Ideal.τ).loc Cert.Reference6Ideal.main_v73) = v8 c
          ∧ r.2.mem ((c.tc : Thread Cert.Reference6Ideal.nD Cert.Reference6Ideal.τ).loc Cert.Reference6Ideal.main_v69) = v9 c
          ∧ r.2.mem ((c.tc : Thread Cert.Reference6Ideal.nD Cert.Reference6Ideal.τ).loc Cert.Reference6Ideal.main_v102) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8448x11264 : Shape := ⟨2, ![8448, 11264]⟩
abbrev S8448x128 : Shape := ⟨2, ![8448, 128]⟩
abbrev S8 : Shape := ⟨1, ![8]⟩
abbrev S2048 : Shape := ⟨1, ![2048]⟩
abbrev S8x128x256 : Shape := ⟨3, ![8, 128, 256]⟩
abbrev S8x1x128 : Shape := ⟨3, ![8, 1, 128]⟩
abbrev S8x1x1 : Shape := ⟨3, ![8, 1, 1]⟩
abbrev S_ : Shape := ⟨0, ![]⟩
abbrev S8x8x8 : Shape := ⟨3, ![8, 8, 8]⟩
abbrev S1 : Shape := ⟨1, ![1]⟩
abbrev S2 : Shape := ⟨1, ![2]⟩
abbrev S8x8x128 : Shape := ⟨3, ![8, 8, 128]⟩
abbrev S8x1 : Shape := ⟨2, ![8, 1]⟩
abbrev S8x128 : Shape := ⟨2, ![8, 128]⟩
abbrev S8x1x256 : Shape := ⟨3, ![8, 1, 256]⟩
abbrev S8448x16 : Shape := ⟨2, ![8448, 16]⟩
abbrev S8448x2x8 : Shape := ⟨3, ![8448, 2, 8]⟩
abbrev S8x8448x2 : Shape := ⟨3, ![8, 8448, 2]⟩
abbrev S8x8448x8 : Shape := ⟨3, ![8, 8448, 8]⟩
abbrev S8x2x8448 : Shape := ⟨3, ![8, 2, 8448]⟩
abbrev S8x8x8448 : Shape := ⟨3, ![8, 8, 8448]⟩
abbrev S8192x2048 : Shape := ⟨2, ![8192, 2048]⟩
abbrev S4x8x128x256 : Shape := ⟨4, ![4, 8, 128, 256]⟩
abbrev S4x8x1x128 : Shape := ⟨4, ![4, 8, 1, 128]⟩
abbrev S4x8x1x1 : Shape := ⟨4, ![4, 8, 1, 1]⟩
abbrev S128x128 : Shape := ⟨2, ![128, 128]⟩
abbrev S128x256 : Shape := ⟨2, ![128, 256]⟩
abbrev S1x128x8 : Shape := ⟨3, ![1, 128, 8]⟩
abbrev S1x8x128 : Shape := ⟨3, ![1, 8, 128]⟩
abbrev S1x8x8 : Shape := ⟨3, ![1, 8, 8]⟩
abbrev S1x1x256 : Shape := ⟨3, ![1, 1, 256]⟩
abbrev S1x128x256 : Shape := ⟨3, ![1, 128, 256]⟩
abbrev S1x1x128 : Shape := ⟨3, ![1, 1, 128]⟩
abbrev S1x1x1 : Shape := ⟨3, ![1, 1, 1]⟩
abbrev S1x1x128x256 : Shape := ⟨4, ![1, 1, 128, 256]⟩
abbrev S1x1x1x128 : Shape := ⟨4, ![1, 1, 1, 128]⟩
abbrev S1x1x1x1 : Shape := ⟨4, ![1, 1, 1, 1]⟩
abbrev S1x128 : Shape := ⟨2, ![1, 128]⟩
abbrev S1x1 : Shape := ⟨2, ![1, 1]⟩
abbrev S128x8 : Shape := ⟨2, ![128, 8]⟩
abbrev S1x1x8 : Shape := ⟨3, ![1, 1, 8]⟩
abbrev S1x8 : Shape := ⟨2, ![1, 8]⟩
abbrev S128x1 : Shape := ⟨2, ![128, 1]⟩
abbrev S128 : Shape := ⟨1, ![128]⟩
abbrev S1x256 : Shape := ⟨2, ![1, 256]⟩

abbrev nBuf : Space → Nat
  | .hbm => 49
  | .vmem => 35
  | .smem => 0
  | _ => 0

abbrev bufTy : (tb : Table) → Fin (tcTables nBuf tb) → BufTy
  | .hbm, ⟨0, _⟩ => ⟨S8448x11264, .f32⟩
  | .hbm, ⟨1, _⟩ => ⟨S8448x128, .f32⟩
  | .hbm, ⟨2, _⟩ => ⟨S8, .f32⟩
  | .hbm, ⟨3, _⟩ => ⟨S8, .f32⟩
  | .hbm, ⟨4, _⟩ => ⟨S2048, .f32⟩
  | .hbm, ⟨5, _⟩ => ⟨S8x128x256, .f32⟩
  | .hbm, ⟨6, _⟩ => ⟨S8x1x128, .f32⟩
  | .hbm, ⟨7, _⟩ => ⟨S8x1x1, .f32⟩
  | .hbm, ⟨8, _⟩ => ⟨S_, .f32⟩
  | .hbm, ⟨9, _⟩ => ⟨S8x8x8, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S8x8x8, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x8x8, .f32⟩
  | .hbm, ⟨22, _⟩ => ⟨S_, .f32⟩
  | .hbm, ⟨23, _⟩ => ⟨S8x8x128, .f32⟩
  | .hbm, ⟨24, _⟩ => ⟨S8x1, .f32⟩
  | .hbm, ⟨25, _⟩ => ⟨S8x128, .f32⟩
  | .hbm, ⟨26, _⟩ => ⟨S_, .i32⟩
  | .hbm, ⟨27, _⟩ => ⟨S1, .i32⟩
  | .hbm, ⟨28, _⟩ => ⟨S8x8x128, .f32⟩
  | .hbm, ⟨29, _⟩ => ⟨S8x1, .f32⟩
  | .hbm, ⟨30, _⟩ => ⟨S8x128, .f32⟩
  | .hbm, ⟨31, _⟩ => ⟨S_, .i32⟩
  | .hbm, ⟨32, _⟩ => ⟨S1, .i32⟩
  | .hbm, ⟨33, _⟩ => ⟨S8x8x128, .f32⟩
  | .hbm, ⟨34, _⟩ => ⟨S8x1x256, .f32⟩
  | .hbm, ⟨35, _⟩ => ⟨S8448x16, .f32⟩
  | .hbm, ⟨36, _⟩ => ⟨S8448x2x8, .f32⟩
  | .hbm, ⟨37, _⟩ => ⟨S8x8448x2, .f32⟩
  | .hbm, ⟨38, _⟩ => ⟨S_, .i32⟩
  | .hbm, ⟨39, _⟩ => ⟨S_, .f32⟩
  | .hbm, ⟨40, _⟩ => ⟨S8x8448x8, .f32⟩
  | .hbm, ⟨41, _⟩ => ⟨S8x2x8448, .f32⟩
  | .hbm, ⟨42, _⟩ => ⟨S_, .i32⟩
  | .hbm, ⟨43, _⟩ => ⟨S_, .f32⟩
  | .hbm, ⟨44, _⟩ => ⟨S8x8x8448, .f32⟩
  | .hbm, ⟨45, _⟩ => ⟨S8192x2048, .bf16⟩
  | .hbm, ⟨46, _⟩ => ⟨S4x8x128x256, .f32⟩
  | .hbm, ⟨47, _⟩ => ⟨S4x8x1x128, .f32⟩
  | .hbm, ⟨48, _⟩ => ⟨S4x8x1x1, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S1x128x8, .f32⟩
  | .local _ .vmem, ⟨9, _⟩ => ⟨S1x128x8, .f32⟩
  | .local _ .vmem, ⟨10, _⟩ => ⟨S1x8x128, .f32⟩
  | .local _ .vmem, ⟨11, _⟩ => ⟨S1x8x128, .f32⟩
  | .local _ .vmem, ⟨12, _⟩ => ⟨S1x8x8, .f32⟩
  | .local _ .vmem, ⟨13, _⟩ => ⟨S1x8x8, .f32⟩
  | .local _ .vmem, ⟨14, _⟩ => ⟨S1x8x128, .f32⟩
  | .local _ .vmem, ⟨15, _⟩ => ⟨S1x8x128, .f32⟩
  | .local _ .vmem, ⟨16, _⟩ => ⟨S1x1x256, .f32⟩
  | .local _ .vmem, ⟨17, _⟩ => ⟨S1x1x256, .f32⟩
  | .local _ .vmem, ⟨18, _⟩ => ⟨S1x128x256, .f32⟩
  | .local _ .vmem, ⟨19, _⟩ => ⟨S1x128x256, .f32⟩
  | .local _ .vmem, ⟨20, _⟩ => ⟨S1x1x128, .f32⟩
  | .local _ .vmem, ⟨21, _⟩ => ⟨S1x1x128, .f32⟩
  | .local _ .vmem, ⟨22, _⟩ => ⟨S1x1x1, .f32⟩
  | .local _ .vmem, ⟨23, _⟩ => ⟨S1x1x1, .f32⟩
  | .local _ .vmem, ⟨24, _⟩ => ⟨S128x256, .bf16⟩
  | .local _ .vmem, ⟨25, _⟩ => ⟨S128x256, .bf16⟩
  | .local _ .vmem, ⟨26, _⟩ => ⟨S1x1x128x256, .f32⟩
  | .local _ .vmem, ⟨27, _⟩ => ⟨S1x1x128x256, .f32⟩
  | .local _ .vmem, ⟨28, _⟩ => ⟨S1x1x1x128, .f32⟩
  | .local _ .vmem, ⟨29, _⟩ => ⟨S1x1x1x128, .f32⟩
  | .local _ .vmem, ⟨30, _⟩ => ⟨S1x1x1x1, .f32⟩
  | .local _ .vmem, ⟨31, _⟩ => ⟨S1x1x1x1, .f32⟩
  | .local _ .vmem, ⟨32, _⟩ => ⟨S128x256, .f32⟩
  | .local _ .vmem, ⟨33, _⟩ => ⟨S1x128, .f32⟩
  | .local _ .vmem, ⟨34, _⟩ => ⟨S1x1, .f32⟩
  | _, _ => ⟨S8448x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_call1_v0 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev main_v25_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v168 : BitVec 1 := Scalar.cmpi .eq arg2 c15_i32
  let v169 : BitVec 32 := Scalar.extui v168
  let c0_i32_64 : BitVec 32 := 0#32
  let v170 : BitVec 1 := Scalar.cmpi .ne v169 c0_i32_64
  v170

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c40_i32 : BitVec 32 := 40#32
  let v3 : BitVec 32 := Scalar.addi c40_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c48_i32 : BitVec 32 := 48#32
  let v3 : BitVec 32 := Scalar.addi c48_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c28_i32 : BitVec 32 := 28#32
  let v3 : BitVec 32 := Scalar.addi c28_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c36_i32 : BitVec 32 := 36#32
  let v3 : BitVec 32 := Scalar.addi c36_i32 arg1
  let c0_i32_0 : BitVec 32 := 0#32
  ![v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![arg1.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S8448x11264 : Shape := ⟨2, ![8448, 11264]⟩
abbrev S8448x128 : Shape := ⟨2, ![8448, 128]⟩
abbrev S8 : Shape := ⟨1, ![8]⟩
abbrev S2048 : Shape := ⟨1, ![2048]⟩
abbrev S8x128x256 : Shape := ⟨3, ![8, 128, 256]⟩
abbrev S8x1x128 : Shape := ⟨3, ![8, 1, 128]⟩
abbrev S8x1x1 : Shape := ⟨3, ![8, 1, 1]⟩
abbrev S8192x1024 : Shape := ⟨2, ![8192, 1024]⟩
abbrev S4x2048x8x128 : Shape := ⟨4, ![4, 2048, 8, 128]⟩
abbrev S_ : Shape := ⟨0, ![]⟩
abbrev S8192x2048 : Shape := ⟨2, ![8192, 2048]⟩
abbrev S4x2048x8x256 : Shape := ⟨4, ![4, 2048, 8, 256]⟩
abbrev S8192x8 : Shape := ⟨2, ![8192, 8]⟩
abbrev S4x2048x8 : Shape := ⟨3, ![4, 2048, 8]⟩
abbrev S1x1x8 : Shape := ⟨3, ![1, 1, 8]⟩
abbrev S1x8x128x256 : Shape := ⟨4, ![1, 8, 128, 256]⟩
abbrev S4x8x128x256 : Shape := ⟨4, ![4, 8, 128, 256]⟩
abbrev S1x8x128 : Shape := ⟨3, ![1, 8, 128]⟩
abbrev S4x8x128 : Shape := ⟨3, ![4, 8, 128]⟩
abbrev S1x8 : Shape := ⟨2, ![1, 8]⟩
abbrev S4x8 : Shape := ⟨2, ![4, 8]⟩
abbrev S4x16x128x8x128 : Shape := ⟨5, ![4, 16, 128, 8, 128]⟩
abbrev S16x4x128x8x128 : Shape := ⟨5, ![16, 4, 128, 8, 128]⟩
abbrev S4x16x128x8x256 : Shape := ⟨5, ![4, 16, 128, 8, 256]⟩
abbrev S16x4x128x8x256 : Shape := ⟨5, ![16, 4, 128, 8, 256]⟩
abbrev S4x16x128x8 : Shape := ⟨4, ![4, 16, 128, 8]⟩
abbrev S16x4x128x8 : Shape := ⟨4, ![16, 4, 128, 8]⟩
abbrev S1x4x128x8x128 : Shape := ⟨5, ![1, 4, 128, 8, 128]⟩
abbrev S4x128x8x128 : Shape := ⟨4, ![4, 128, 8, 128]⟩
abbrev S1x4x128x8x256 : Shape := ⟨5, ![1, 4, 128, 8, 256]⟩
abbrev S4x128x8x256 : Shape := ⟨4, ![4, 128, 8, 256]⟩
abbrev S1x4x128x8 : Shape := ⟨4, ![1, 4, 128, 8]⟩
abbrev S4x128x8 : Shape := ⟨3, ![4, 128, 8]⟩
abbrev S128x128 : Shape := ⟨2, ![128, 128]⟩
abbrev S1x128x128x1 : Shape := ⟨4, ![1, 128, 128, 1]⟩
abbrev S4x128x1x8 : Shape := ⟨4, ![4, 128, 1, 8]⟩
abbrev S4x1x128x8 : Shape := ⟨4, ![4, 1, 128, 8]⟩
abbrev S4x128x128x8 : Shape := ⟨4, ![4, 128, 128, 8]⟩
abbrev S4x1x8 : Shape := ⟨3, ![4, 1, 8]⟩
abbrev S4x8x128x128 : Shape := ⟨4, ![4, 8, 128, 128]⟩
abbrev S4x8x256x128 : Shape := ⟨4, ![4, 8, 256, 128]⟩
abbrev S4x128x8x1 : Shape := ⟨4, ![4, 128, 8, 1]⟩
abbrev S4x8x1x1 : Shape := ⟨4, ![4, 8, 1, 1]⟩
abbrev S4x8x1 : Shape := ⟨3, ![4, 8, 1]⟩
abbrev S8x256 : Shape := ⟨2, ![8, 256]⟩
abbrev S4x2048x8x1 : Shape := ⟨4, ![4, 2048, 8, 1]⟩
abbrev S1x1x8x256 : Shape := ⟨4, ![1, 1, 8, 256]⟩
abbrev S4x8x1x128 : Shape := ⟨4, ![4, 8, 1, 128]⟩

abbrev nBuf : Space → Nat
  | .hbm => 240
  | .vmem => 0
  | .smem => 0
  | _ => 0

abbrev hbmTy0_0 (i : Nat) : BufTy := match i % 128 with
  | 0 => ⟨S8448x11264, .f32⟩
  | 1 => ⟨S8448x128, .f32⟩
  | 2 => ⟨S8, .f32⟩
  | 3 => ⟨S8, .f32⟩
  | 4 => ⟨S2048, .f32⟩
  | 5 => ⟨S8x128x256, .f32⟩
  | 6 => ⟨S8x1x128, .f32⟩
  | 7 => ⟨S8x1x1, .f32⟩
  | 8 => ⟨S8192x1024, .f32⟩
  | 9 => ⟨S4x2048x8x128, .f32⟩
  | 10 => ⟨S8192x1024, .f32⟩
  | 11 => ⟨S4x2048x8x128, .f32⟩
  | 12 => ⟨S_, .f32⟩
  | 13 => ⟨S_, .f32⟩
  | 14 => ⟨S_, .f32⟩
  | 15 => ⟨S_, .f32⟩
  | 16 => ⟨S4x2048x8x128, .f32⟩
  | 17 => ⟨S4x2048x8x128, .f32⟩
  | 18 => ⟨S8192x2048, .f32⟩
  | 19 => ⟨S4x2048x8x256, .f32⟩
  | 20 => ⟨S8192x8, .f32⟩
  | 21 => ⟨S4x2048x8, .f32⟩
  | 22 => ⟨S1x1x8, .f32⟩
  | 23 => ⟨S4x2048x8, .f32⟩
  | 24 => ⟨S4x2048x8, .f32⟩
  | 25 => ⟨S8192x8, .f32⟩
  | 26 => ⟨S4x2048x8, .f32⟩
  | 27 => ⟨S1x1x8, .f32⟩
  | 28 => ⟨S4x2048x8, .f32⟩
  | 29 => ⟨S4x2048x8, .f32⟩
  | 30 => ⟨S4x2048x8, .f32⟩
  | 31 => ⟨S_, .f32⟩
  | 32 => ⟨S4x2048x8, .f32⟩
  | 33 => ⟨S4x2048x8, .f32⟩
  | 34 => ⟨S4x2048x8, .f32⟩
  | 35 => ⟨S4x2048x8, .f32⟩
  | 36 => ⟨S4x2048x8, .i1⟩
  | 37 => ⟨S4x2048x8, .f32⟩
  | 38 => ⟨S4x2048x8, .f32⟩
  | 39 => ⟨S4x2048x8, .f32⟩
  | 40 => ⟨S4x2048x8, .f32⟩
  | 41 => ⟨S4x2048x8, .f32⟩
  | 42 => ⟨S4x2048x8, .f32⟩
  | 43 => ⟨S4x2048x8, .f32⟩
  | 44 => ⟨S4x2048x8, .f32⟩
  | 45 => ⟨S4x2048x8, .f32⟩
  | 46 => ⟨S1x8x128x256, .f32⟩
  | 47 => ⟨S4x8x128x256, .f32⟩
  | 48 => ⟨S1x8x128, .f32⟩
  | 49 => ⟨S4x8x128, .f32⟩
  | 50 => ⟨S1x8, .f32⟩
  | 51 => ⟨S4x8, .f32⟩
  | 52 => ⟨S4x16x128x8x128, .f32⟩
  | 53 => ⟨S16x4x128x8x128, .f32⟩
  | 54 => ⟨S4x16x128x8x128, .f32⟩
  | 55 => ⟨S16x4x128x8x128, .f32⟩
  | 56 => ⟨S4x16x128x8x256, .f32⟩
  | 57 => ⟨S16x4x128x8x256, .f32⟩
  | 58 => ⟨S4x16x128x8, .f32⟩
  | 59 => ⟨S16x4x128x8, .f32⟩
  | 60 => ⟨S4x16x128x8, .f32⟩
  | 61 => ⟨S16x4x128x8, .f32⟩
  | 62 => ⟨S_, .f32⟩
  | 63 => ⟨S16x4x128x8x256, .f32⟩
  | 64 => ⟨S_, .i32⟩
  | 65 => ⟨S16x4x128x8x128, .f32⟩
  | 66 => ⟨S16x4x128x8x128, .f32⟩
  | 67 => ⟨S16x4x128x8x256, .f32⟩
  | 68 => ⟨S16x4x128x8, .f32⟩
  | 69 => ⟨S16x4x128x8, .f32⟩
  | 70 => ⟨S_, .i32⟩
  | 71 => ⟨S4x8x128x256, .f32⟩
  | 72 => ⟨S4x8x128, .f32⟩
  | 73 => ⟨S4x8, .f32⟩
  | 74 => ⟨S16x4x128x8x256, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x4x128x8x128, .f32⟩
  | 82 => ⟨S4x128x8x128, .f32⟩
  | 83 => ⟨S_, .i32⟩
  | 84 => ⟨S_, .i32⟩
  | 85 => ⟨S_, .i32⟩
  | 86 => ⟨S_, .i32⟩
  | 87 => ⟨S1x4x128x8x128, .f32⟩
  | 88 => ⟨S4x128x8x128, .f32⟩
  | 89 => ⟨S_, .i32⟩
  | 90 => ⟨S_, .i32⟩
  | 91 => ⟨S_, .i32⟩
  | 92 => ⟨S_, .i32⟩
  | 93 => ⟨S1x4x128x8x256, .f32⟩
  | 94 => ⟨S4x128x8x256, .f32⟩
  | 95 => ⟨S_, .i32⟩
  | 96 => ⟨S_, .i32⟩
  | 97 => ⟨S_, .i32⟩
  | 98 => ⟨S1x4x128x8, .f32⟩
  | 99 => ⟨S4x128x8, .f32⟩
  | 100 => ⟨S_, .i32⟩
  | 101 => ⟨S_, .i32⟩
  | 102 => ⟨S_, .i32⟩
  | 103 => ⟨S1x4x128x8, .f32⟩
  | 104 => ⟨S4x128x8, .f32⟩
  | 105 => ⟨S_, .f32⟩
  | 106 => ⟨S_, .f32⟩
  | 107 => ⟨S4x128x8, .f32⟩
  | 108 => ⟨S_, .i1⟩
  | 109 => ⟨S128x128, .i1⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .i1⟩
  | 117 => ⟨S128x128, .i1⟩
  | 118 => ⟨S128x128, .i1⟩
  | 119 => ⟨S1x128x128x1, .i1⟩
  | 120 => ⟨S4x128x1x8, .f32⟩
  | 121 => ⟨S4x1x128x8, .f32⟩
  | 122 => ⟨S4x128x128x8, .f32⟩
  | 123 => ⟨S4x128x128x8, .f32⟩
  | 124 => ⟨S4x128x128x8, .f32⟩
  | 125 => ⟨S4x1x128x8, .f32⟩
  | 126 => ⟨S4x128x128x8, .f32⟩
  | 127 => ⟨S4x128x128x8, .f32⟩
  | _ => ⟨S8448x11264, .f32⟩

abbrev hbmTy0_1 (i : Nat) : BufTy := match i % 128 with
  | 0 => ⟨S_, .f32⟩
  | 1 => ⟨S_, .f32⟩
  | 2 => ⟨S4x128x128x8, .i1⟩
  | 3 => ⟨S4x128x128x8, .f32⟩
  | 4 => ⟨S4x128x128x8, .f32⟩
  | 5 => ⟨S4x1x8, .f32⟩
  | 6 => ⟨S4x128x8, .f32⟩
  | 7 => ⟨S4x128x8, .f32⟩
  | 8 => ⟨S_, .f32⟩
  | 9 => ⟨S4x128x8, .f32⟩
  | 10 => ⟨S4x128x8, .f32⟩
  | 11 => ⟨S4x128x1x8, .f32⟩
  | 12 => ⟨S4x128x128x8, .f32⟩
  | 13 => ⟨S4x128x128x8, .f32⟩
  | 14 => ⟨S4x128x128x8, .f32⟩
  | 15 => ⟨S4x128x8, .f32⟩
  | 16 => ⟨S4x128x8, .f32⟩
  | 17 => ⟨S4x8x128x128, .f32⟩
  | 18 => ⟨S4x128x128x8, .f32⟩
  | 19 => ⟨S4x128x128x8, .f32⟩
  | 20 => ⟨S4x8x256x128, .f32⟩
  | 21 => ⟨S4x128x8x256, .f32⟩
  | 22 => ⟨S4x128x8x1, .f32⟩
  | 23 => ⟨S4x8x256x128, .f32⟩
  | 24 => ⟨S4x128x8x256, .f32⟩
  | 25 => ⟨S4x128x8x256, .f32⟩
  | 26 => ⟨S4x128x8x256, .f32⟩
  | 27 => ⟨S4x128x8x256, .f32⟩
  | 28 => ⟨S_, .f32⟩
  | 29 => ⟨S4x128x8, .f32⟩
  | 30 => ⟨S4x8x128, .f32⟩
  | 31 => ⟨S4x128x8, .f32⟩
  | 32 => ⟨S4x128x8, .f32⟩
  | 33 => ⟨S4x128x8, .f32⟩
  | 34 => ⟨S4x128x8, .f32⟩
  | 35 => ⟨S4x128x8, .f32⟩
  | 36 => ⟨S4x128x8, .f32⟩
  | 37 => ⟨S4x128x8, .f32⟩
  | 38 => ⟨S4x128x8x1, .f32⟩
  | 39 => ⟨S4x128x8x256, .f32⟩
  | 40 => ⟨S4x128x8x256, .f32⟩
  | 41 => ⟨S4x1x8, .f32⟩
  | 42 => ⟨S4x8, .f32⟩
  | 43 => ⟨S4x8, .f32⟩
  | 44 => ⟨S4x1x8, .f32⟩
  | 45 => ⟨S4x128x8, .f32⟩
  | 46 => ⟨S4x128x8, .f32⟩
  | 47 => ⟨S4x128x8, .f32⟩
  | 48 => ⟨S_, .f32⟩
  | 49 => ⟨S4x8, .f32⟩
  | 50 => ⟨S4x8, .f32⟩
  | 51 => ⟨S4x1x8, .f32⟩
  | 52 => ⟨S4x128x8, .f32⟩
  | 53 => ⟨S4x128x8, .f32⟩
  | 54 => ⟨S4x128x8, .f32⟩
  | 55 => ⟨S4x8, .f32⟩
  | 56 => ⟨S4x8, .f32⟩
  | 57 => ⟨S4x8x1x1, .f32⟩
  | 58 => ⟨S4x8x128x256, .f32⟩
  | 59 => ⟨S4x8x128x256, .f32⟩
  | 60 => ⟨S4x128x8x1, .f32⟩
  | 61 => ⟨S4x128x8x128, .f32⟩
  | 62 => ⟨S4x128x8x128, .f32⟩
  | 63 => ⟨S4x8x128x256, .f32⟩
  | 64 => ⟨S4x8x128x256, .f32⟩
  | 65 => ⟨S4x8x1, .f32⟩
  | 66 => ⟨S4x8x128, .f32⟩
  | 67 => ⟨S4x8x128, .f32⟩
  | 68 => ⟨S4x8x128, .f32⟩
  | 69 => ⟨S4x8x128, .f32⟩
  | 70 => ⟨S1x4x128x8x256, .f32⟩
  | 71 => ⟨S_, .i32⟩
  | 72 => ⟨S_, .i32⟩
  | 73 => ⟨S_, .i32⟩
  | 74 => ⟨S_, .i32⟩
  | 75 => ⟨S16x4x128x8x256, .f32⟩
  | 76 => ⟨S_, .i32⟩
  | 77 => ⟨S_, .i32⟩
  | 78 => ⟨S4x16x128x8x256, .f32⟩
  | 79 => ⟨S4x2048x8x256, .f32⟩
  | 80 => ⟨S8x256, .f32⟩
  | 81 => ⟨S4x2048x8x256, .f32⟩
  | 82 => ⟨S_, .f32⟩
  | 83 => ⟨S4x2048x8, .f32⟩
  | 84 => ⟨S4x2048x8x1, .f32⟩
  | 85 => ⟨S_, .f32⟩
  | 86 => ⟨S4x2048x8x1, .f32⟩
  | 87 => ⟨S4x2048x8x1, .f32⟩
  | 88 => ⟨S_, .f32⟩
  | 89 => ⟨S4x2048x8x1, .f32⟩
  | 90 => ⟨S4x2048x8x1, .f32⟩
  | 91 => ⟨S4x2048x8x1, .f32⟩
  | 92 => ⟨S4x2048x8x256, .f32⟩
  | 93 => ⟨S4x2048x8x256, .f32⟩
  | 94 => ⟨S1x1x8x256, .f32⟩
  | 95 => ⟨S4x2048x8x256, .f32⟩
  | 96 => ⟨S4x2048x8x256, .f32⟩
  | 97 => ⟨S8192x2048, .f32⟩
  | 98 => ⟨S4x2048x8x256, .f32⟩
  | 99 => ⟨S4x2048x8x256, .f32⟩
  | 100 => ⟨S4x2048x8x256, .f32⟩
  | 101 => ⟨S_, .f32⟩
  | 102 => ⟨S4x2048x8x256, .f32⟩
  | 103 => ⟨S4x2048x8x256, .f32⟩
  | 104 => ⟨S_, .f32⟩
  | 105 => ⟨S4x2048x8x256, .f32⟩
  | 106 => ⟨S4x2048x8x256, .f32⟩
  | 107 => ⟨S4x2048x8x256, .f32⟩
  | 108 => ⟨S8192x2048, .f32⟩
  | 109 => ⟨S8192x2048, .bf16⟩
  | 110 => ⟨S4x8x1x128, .f32⟩
  | 111 => ⟨S4x8x1x1, .f32⟩
  | _ => ⟨S8448x11264, .f32⟩

abbrev hbmTy (i : Nat) : BufTy := match i / 128 with
  | 0 => hbmTy0_0 i
  | 1 => hbmTy0_1 i
  | _ => ⟨S8448x11264, .f32⟩

abbrev bufTy : (tb : Table) → Fin (tcTables nBuf tb) → BufTy
  | .hbm, ⟨i, _⟩ => hbmTy i
  | _, _ => ⟨S8448x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_c : Ref sig .tc := ⟨.hbm, 64, rfl⟩
abbrev main_v38_0 : Ref sig .tc := ⟨.hbm, 65, rfl⟩
abbrev main_v38_1 : Ref sig .tc := ⟨.hbm, 66, rfl⟩
abbrev main_v38_2 : Ref sig .tc := ⟨.hbm, 67, rfl⟩
abbrev main_v38_3 : Ref sig .tc := ⟨.hbm, 68, rfl⟩
abbrev main_v38_4 : Ref sig .tc := ⟨.hbm, 69, rfl⟩
abbrev main_v38_5 : Ref sig .tc := ⟨.hbm, 70, rfl⟩
abbrev main_v38_6 : Ref sig .tc := ⟨.hbm, 71, rfl⟩
abbrev main_v38_7 : Ref sig .tc := ⟨.hbm, 72, rfl⟩
abbrev main_v38_8 : Ref sig .tc := ⟨.hbm, 73, rfl⟩
abbrev main_v38_9 : Ref sig .tc := ⟨.hbm, 74, rfl⟩
abbrev main_while0c_c_16 : Ref sig .tc := ⟨.hbm, 75, rfl⟩
abbrev main_while0c_v68 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v68 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v69 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v70 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_v0 : Ref sig .tc := ⟨.hbm, 98, rfl⟩
abbrev main_while0b_v71 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_v0 : Ref sig .tc := ⟨.hbm, 103, rfl⟩
abbrev main_while0b_v72 : Ref sig .tc := ⟨.hbm, 104, rfl⟩
abbrev main_while0b_call6_call0_cst : Ref sig .tc := ⟨.hbm, 105, rfl⟩
abbrev main_while0b_call6_call0_v0 : Ref sig .tc := ⟨.hbm, 106, rfl⟩
abbrev main_while0b_v73 : Ref sig .tc := ⟨.hbm, 107, rfl⟩
abbrev main_while0b_c_16 : Ref sig .tc := ⟨.hbm, 108, rfl⟩
abbrev main_while0b_v74 : Ref sig .tc := ⟨.hbm, 109, rfl⟩
abbrev main_while0b_call7_v0 : Ref sig .tc := ⟨.hbm, 110, rfl⟩
abbrev main_while0b_call7_c : Ref sig .tc := ⟨.hbm, 111, rfl⟩
abbrev main_while0b_call7_v1 : Ref sig .tc := ⟨.hbm, 112, rfl⟩
abbrev main_while0b_call7_v2 : Ref sig .tc := ⟨.hbm, 113, rfl⟩
abbrev main_while0b_call7_v3 : Ref sig .tc := ⟨.hbm, 114, rfl⟩
abbrev main_while0b_call7_v4 : Ref sig .tc := ⟨.hbm, 115, rfl⟩
abbrev main_while0b_call7_c_0 : Ref sig .tc := ⟨.hbm, 116, rfl⟩
abbrev main_while0b_call7_v5 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_cst_17 : Ref sig .tc := ⟨.hbm, 128, rfl⟩
abbrev main_while0b_call8_v0 : Ref sig .tc := ⟨.hbm, 129, rfl⟩
abbrev main_while0b_call8_v1 : Ref sig .tc := ⟨.hbm, 130, rfl⟩
abbrev main_while0b_call8_v2 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_cst_18 : Ref sig .tc := ⟨.hbm, 136, rfl⟩
abbrev main_while0b_v89 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_v105 : Ref sig .tc := ⟨.hbm, 153, rfl⟩
abbrev main_while0b_v106 : Ref sig .tc := ⟨.hbm, 154, rfl⟩
abbrev main_while0b_v107 : Ref sig .tc := ⟨.hbm, 155, rfl⟩
abbrev main_while0b_cst_19 : Ref sig .tc := ⟨.hbm, 156, rfl⟩
abbrev main_while0b_v108 : Ref sig .tc := ⟨.hbm, 157, rfl⟩
abbrev main_while0b_v109 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_v120 : Ref sig .tc := ⟨.hbm, 169, rfl⟩
abbrev main_while0b_v121 : Ref sig .tc := ⟨.hbm, 170, rfl⟩
abbrev main_while0b_v122 : Ref sig .tc := ⟨.hbm, 171, rfl⟩
abbrev main_while0b_v123 : Ref sig .tc := ⟨.hbm, 172, rfl⟩
abbrev main_while0b_v124 : Ref sig .tc := ⟨.hbm, 173, rfl⟩
abbrev main_while0b_v125 : Ref sig .tc := ⟨.hbm, 174, rfl⟩
abbrev main_while0b_v126 : Ref sig .tc := ⟨.hbm, 175, rfl⟩
abbrev main_while0b_cst_20 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_v131 : Ref sig .tc := ⟨.hbm, 181, rfl⟩
abbrev main_while0b_v132 : Ref sig .tc := ⟨.hbm, 182, rfl⟩
abbrev main_while0b_v133 : Ref sig .tc := ⟨.hbm, 183, rfl⟩
abbrev main_while0b_v134 : Ref sig .tc := ⟨.hbm, 184, rfl⟩
abbrev main_while0b_v135 : Ref sig .tc := ⟨.hbm, 185, rfl⟩
abbrev main_while0b_v136 : Ref sig .tc := ⟨.hbm, 186, rfl⟩
abbrev main_while0b_v137 : Ref sig .tc := ⟨.hbm, 187, rfl⟩
abbrev main_while0b_v138 : Ref sig .tc := ⟨.hbm, 188, rfl⟩
abbrev main_while0b_v139 : Ref sig .tc := ⟨.hbm, 189, rfl⟩
abbrev main_while0b_v140 : Ref sig .tc := ⟨.hbm, 190, rfl⟩
abbrev main_while0b_v141 : Ref sig .tc := ⟨.hbm, 191, rfl⟩
abbrev main_while0b_v142 : Ref sig .tc := ⟨.hbm, 192, rfl⟩
abbrev main_while0b_v143 : Ref sig .tc := ⟨.hbm, 193, rfl⟩
abbrev main_while0b_v144 : Ref sig .tc := ⟨.hbm, 194, rfl⟩
abbrev main_while0b_v145 : Ref sig .tc := ⟨.hbm, 195, rfl⟩
abbrev main_while0b_v146 : Ref sig .tc := ⟨.hbm, 196, rfl⟩
abbrev main_while0b_v147 : Ref sig .tc := ⟨.hbm, 197, rfl⟩
abbrev main_while0b_call9_v0 : Ref sig .tc := ⟨.hbm, 198, rfl⟩
abbrev main_while0b_call9_c : Ref sig .tc := ⟨.hbm, 199, rfl⟩
abbrev main_while0b_call9_c_0 : Ref sig .tc := ⟨.hbm, 200, rfl⟩
abbrev main_while0b_call9_c_1 : Ref sig .tc := ⟨.hbm, 201, rfl⟩
abbrev main_while0b_call9_c_2 : Ref sig .tc := ⟨.hbm, 202, rfl⟩
abbrev main_while0b_v148 : Ref sig .tc := ⟨.hbm, 203, rfl⟩
abbrev main_while0b_c_21 : Ref sig .tc := ⟨.hbm, 204, rfl⟩
abbrev main_while0b_v149 : Ref sig .tc := ⟨.hbm, 205, rfl⟩
abbrev main_v39 : Ref sig .tc := ⟨.hbm, 206, rfl⟩
abbrev main_v40 : Ref sig .tc := ⟨.hbm, 207, rfl⟩
abbrev main_v41 : Ref sig .tc := ⟨.hbm, 208, rfl⟩
abbrev main_v42 : Ref sig .tc := ⟨.hbm, 209, rfl⟩
abbrev main_cst_2 : Ref sig .tc := ⟨.hbm, 210, rfl⟩
abbrev main_v43 : Ref sig .tc := ⟨.hbm, 211, rfl⟩
abbrev main_v44 : Ref sig .tc := ⟨.hbm, 212, rfl⟩
abbrev main_cst_3 : Ref sig .tc := ⟨.hbm, 213, rfl⟩
abbrev main_v45 : Ref sig .tc := ⟨.hbm, 214, rfl⟩
abbrev main_v46 : Ref sig .tc := ⟨.hbm, 215, rfl⟩
abbrev main_cst_4 : Ref sig .tc := ⟨.hbm, 216, rfl⟩
abbrev main_v47 : Ref sig .tc := ⟨.hbm, 217, rfl⟩
abbrev main_v48 : Ref sig .tc := ⟨.hbm, 218, rfl⟩
abbrev main_v49 : Ref sig .tc := ⟨.hbm, 219, rfl⟩
abbrev main_v50 : Ref sig .tc := ⟨.hbm, 220, rfl⟩
abbrev main_v51 : Ref sig .tc := ⟨.hbm, 221, rfl⟩
abbrev main_v52 : Ref sig .tc := ⟨.hbm, 222, rfl⟩
abbrev main_v53 : Ref sig .tc := ⟨.hbm, 223, rfl⟩
abbrev main_v54 : Ref sig .tc := ⟨.hbm, 224, rfl⟩
abbrev main_v55 : Ref sig .tc := ⟨.hbm, 225, rfl⟩
abbrev main_v56 : Ref sig .tc := ⟨.hbm, 226, rfl⟩
abbrev main_v57 : Ref sig .tc := ⟨.hbm, 227, rfl⟩
abbrev main_v58 : Ref sig .tc := ⟨.hbm, 228, rfl⟩
abbrev main_cst_5 : Ref sig .tc := ⟨.hbm, 229, rfl⟩
abbrev main_v59 : Ref sig .tc := ⟨.hbm, 230, rfl⟩
abbrev main_v60 : Ref sig .tc := ⟨.hbm, 231, rfl⟩
abbrev main_cst_6 : Ref sig .tc := ⟨.hbm, 232, rfl⟩
abbrev main_v61 : Ref sig .tc := ⟨.hbm, 233, rfl⟩
abbrev main_v62 : Ref sig .tc := ⟨.hbm, 234, rfl⟩
abbrev main_v63 : Ref sig .tc := ⟨.hbm, 235, rfl⟩
abbrev main_v64 : Ref sig .tc := ⟨.hbm, 236, rfl⟩
abbrev main_v65 : Ref sig .tc := ⟨.hbm, 237, rfl⟩
abbrev main_v66 : Ref sig .tc := ⟨.hbm, 238, rfl⟩
abbrev main_v67 : Ref sig .tc := ⟨.hbm, 239, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8448x2048 : Shape := ⟨2, ![8448, 2048]⟩
abbrev S2048 : Shape := ⟨1, ![2048]⟩
abbrev S2048x11312 : Shape := ⟨2, ![2048, 11312]⟩
abbrev S2048x2048 : Shape := ⟨2, ![2048, 2048]⟩
abbrev S2048x3072 : Shape := ⟨2, ![2048, 3072]⟩
abbrev S2048x32 : Shape := ⟨2, ![2048, 32]⟩
abbrev S2048x1024 : Shape := ⟨2, ![2048, 1024]⟩
abbrev S2048x8 : Shape := ⟨2, ![2048, 8]⟩
abbrev S2048x11264 : Shape := ⟨2, ![2048, 11264]⟩
abbrev S_ : Shape := ⟨0, ![]⟩
abbrev S2048x80 : Shape := ⟨2, ![2048, 80]⟩
abbrev S2048x128 : Shape := ⟨2, ![2048, 128]⟩
abbrev S1x2048 : Shape := ⟨2, ![1, 2048]⟩
abbrev S8448x11264 : Shape := ⟨2, ![8448, 11264]⟩
abbrev S8448x128 : Shape := ⟨2, ![8448, 128]⟩
abbrev S768x2048 : Shape := ⟨2, ![768, 2048]⟩
abbrev S2048x512 : Shape := ⟨2, ![2048, 512]⟩
abbrev S768x512 : Shape := ⟨2, ![768, 512]⟩
abbrev S768x128 : Shape := ⟨2, ![768, 128]⟩
abbrev S768 : Shape := ⟨1, ![768]⟩
abbrev S768x1 : Shape := ⟨2, ![768, 1]⟩

abbrev nBuf : Space → Nat
  | .hbm => 21
  | .vmem => 11
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11312, .f32⟩
  | .hbm, ⟨3, _⟩ => ⟨S2048x2048, .f32⟩
  | .hbm, ⟨4, _⟩ => ⟨S2048x3072, .f32⟩
  | .hbm, ⟨5, _⟩ => ⟨S2048x32, .f32⟩
  | .hbm, ⟨6, _⟩ => ⟨S2048x1024, .f32⟩
  | .hbm, ⟨7, _⟩ => ⟨S2048x1024, .f32⟩
  | .hbm, ⟨8, _⟩ => ⟨S2048x2048, .f32⟩
  | .hbm, ⟨9, _⟩ => ⟨S2048x8, .f32⟩
  | .hbm, ⟨10, _⟩ => ⟨S2048x8, .f32⟩
  | .hbm, ⟨11, _⟩ => ⟨S2048x2048, .f32⟩
  | .hbm, ⟨12, _⟩ => ⟨S2048x11264, .f32⟩
  | .hbm, ⟨13, _⟩ => ⟨S2048x11264, .bf16⟩
  | .hbm, ⟨14, _⟩ => ⟨S_, .f32⟩
  | .hbm, ⟨15, _⟩ => ⟨S2048x80, .f32⟩
  | .hbm, ⟨16, _⟩ => ⟨S2048x128, .f32⟩
  | .hbm, ⟨17, _⟩ => ⟨S2048x128, .bf16⟩
  | .hbm, ⟨18, _⟩ => ⟨S1x2048, .f32⟩
  | .hbm, ⟨19, _⟩ => ⟨S8448x11264, .f32⟩
  | .hbm, ⟨20, _⟩ => ⟨S8448x128, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | .local _ .vmem, ⟨6, _⟩ => ⟨S768x512, .f32⟩
  | .local _ .vmem, ⟨7, _⟩ => ⟨S768x512, .f32⟩
  | .local _ .vmem, ⟨8, _⟩ => ⟨S768x128, .f32⟩
  | .local _ .vmem, ⟨9, _⟩ => ⟨S768x128, .f32⟩
  | .local _ .vmem, ⟨10, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8448x2048 : Shape := ⟨2, ![8448, 2048]⟩
abbrev S2048 : Shape := ⟨1, ![2048]⟩
abbrev S2048x11312 : Shape := ⟨2, ![2048, 11312]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x11312 : Shape := ⟨2, ![8448, 11312]⟩
abbrev S8448x3072 : Shape := ⟨2, ![8448, 3072]⟩
abbrev S8448x32 : Shape := ⟨2, ![8448, 32]⟩
abbrev S8448x1024 : Shape := ⟨2, ![8448, 1024]⟩
abbrev S8448x8 : Shape := ⟨2, ![8448, 8]⟩
abbrev S8448x11264 : Shape := ⟨2, ![8448, 11264]⟩
abbrev S8448x80 : Shape := ⟨2, ![8448, 80]⟩
abbrev S8448x128 : Shape := ⟨2, ![8448, 128]⟩

abbrev nBuf : Space → Nat
  | .hbm => 33
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x11312, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x11312, .f32⟩
  | .hbm, ⟨20, _⟩ => ⟨S8448x2048, .f32⟩
  | .hbm, ⟨21, _⟩ => ⟨S8448x3072, .f32⟩
  | .hbm, ⟨22, _⟩ => ⟨S8448x32, .f32⟩
  | .hbm, ⟨23, _⟩ => ⟨S8448x1024, .f32⟩
  | .hbm, ⟨24, _⟩ => ⟨S8448x1024, .f32⟩
  | .hbm, ⟨25, _⟩ => ⟨S8448x2048, .f32⟩
  | .hbm, ⟨26, _⟩ => ⟨S8448x8, .f32⟩
  | .hbm, ⟨27, _⟩ => ⟨S8448x8, .f32⟩
  | .hbm, ⟨28, _⟩ => ⟨S8448x2048, .f32⟩
  | .hbm, ⟨29, _⟩ => ⟨S8448x11264, .f32⟩
  | .hbm, ⟨30, _⟩ => ⟨S_, .f32⟩
  | .hbm, ⟨31, _⟩ => ⟨S8448x80, .f32⟩
  | .hbm, ⟨32, _⟩ => ⟨S8448x128, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel3.lean ====
abbrev S8448x2048 : Shape := ⟨2, ![8448, 2048]⟩
abbrev S8448x11264 : Shape := ⟨2, ![8448, 11264]⟩
abbrev S2048 : Shape := ⟨1, ![2048]⟩
abbrev S4096x2048 : Shape := ⟨2, ![4096, 2048]⟩
abbrev S1x2048 : Shape := ⟨2, ![1, 2048]⟩
abbrev S384x2048 : Shape := ⟨2, ![384, 2048]⟩
abbrev S4096x512 : Shape := ⟨2, ![4096, 512]⟩
abbrev S384x512 : Shape := ⟨2, ![384, 512]⟩
abbrev S384x4096 : Shape := ⟨2, ![384, 4096]⟩
abbrev S384 : Shape := ⟨1, ![384]⟩
abbrev S384x1 : Shape := ⟨2, ![384, 1]⟩

abbrev nBuf : Space → Nat
  | .hbm => 9
  | .vmem => 14
  | .smem => 0
  | _ => 0

abbrev bufTy : (tb : Table) → Fin (tcTables nBuf tb) → BufTy
  | .hbm, ⟨0, _⟩ => ⟨S8448x2048, .f32⟩
  | .hbm, ⟨1, _⟩ => ⟨S8448x11264, .f32⟩
  | .hbm, ⟨2, _⟩ => ⟨S8448x2048, .bf16⟩
  | .hbm, ⟨3, _⟩ => ⟨S2048, .f32⟩
  | .hbm, ⟨4, _⟩ => ⟨S4096x2048, .f32⟩
  | .hbm, ⟨5, _⟩ => ⟨S8448x2048, .f32⟩
  | .hbm, ⟨6, _⟩ => ⟨S1x2048, .f32⟩
  | .hbm, ⟨7, _⟩ => ⟨S4096x2048, .bf16⟩
  | .hbm, ⟨8, _⟩ => ⟨S8448x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S384x2048, .bf16⟩
  | .local _ .vmem, ⟨5, _⟩ => ⟨S384x2048, .bf16⟩
  | .local _ .vmem, ⟨6, _⟩ => ⟨S1x2048, .f32⟩
  | .local _ .vmem, ⟨7, _⟩ => ⟨S4096x512, .bf16⟩
  | .local _ .vmem, ⟨8, _⟩ => ⟨S4096x512, .bf16⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x4096, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8448x2048 : Shape := ⟨2, ![8448, 2048]⟩
abbrev S8448x11264 : Shape := ⟨2, ![8448, 11264]⟩
abbrev S2048 : Shape := ⟨1, ![2048]⟩
abbrev S4096x2048 : Shape := ⟨2, ![4096, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x4096 : Shape := ⟨2, ![8448, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x11264, .f32⟩
  | .hbm, ⟨2, _⟩ => ⟨S8448x2048, .bf16⟩
  | .hbm, ⟨3, _⟩ => ⟨S2048, .f32⟩
  | .hbm, ⟨4, _⟩ => ⟨S4096x2048, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S8448x2048, .f32⟩
  | .hbm, ⟨9, _⟩ => ⟨S_, .f32⟩
  | .hbm, ⟨10, _⟩ => ⟨S8448x2048, .f32⟩
  | .hbm, ⟨11, _⟩ => ⟨S8448x2048, .f32⟩
  | .hbm, ⟨12, _⟩ => ⟨S_, .f32⟩
  | .hbm, ⟨13, _⟩ => ⟨S8448x2048, .f32⟩
  | .hbm, ⟨14, _⟩ => ⟨S8448x2048, .f32⟩
  | .hbm, ⟨15, _⟩ => ⟨S8448x2048, .f32⟩
  | .hbm, ⟨16, _⟩ => ⟨S8448x2048, .f32⟩
  | .hbm, ⟨17, _⟩ => ⟨S8448x2048, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448x1, .f32⟩
  | .hbm, ⟨28, _⟩ => ⟨S8448x2048, .f32⟩
  | .hbm, ⟨29, _⟩ => ⟨S8448x2048, .f32⟩
  | .hbm, ⟨30, _⟩ => ⟨S1x2048, .f32⟩
  | .hbm, ⟨31, _⟩ => ⟨S8448x2048, .f32⟩
  | .hbm, ⟨32, _⟩ => ⟨S8448x2048, .f32⟩
  | .hbm, ⟨33, _⟩ => ⟨S8448x2048, .f32⟩
  | .hbm, ⟨34, _⟩ => ⟨S8448x4096, .f32⟩
  | .hbm, ⟨35, _⟩ => ⟨S8448x2048, .f32⟩
  | .hbm, ⟨36, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel4.lean ====
abbrev S8448x2048 : Shape := ⟨2, ![8448, 2048]⟩
abbrev S2048 : Shape := ⟨1, ![2048]⟩
abbrev S2048x2048 : Shape := ⟨2, ![2048, 2048]⟩
abbrev S2x8x128x128 : Shape := ⟨4, ![2, 8, 128, 128]⟩
abbrev S8x2x128x128 : Shape := ⟨4, ![8, 2, 128, 128]⟩
abbrev S16x128x128 : Shape := ⟨3, ![16, 128, 128]⟩
abbrev S1x2048 : Shape := ⟨2, ![1, 2048]⟩
abbrev S16x128x8448 : Shape := ⟨3, ![16, 128, 8448]⟩
abbrev S384x2048 : Shape := ⟨2, ![384, 2048]⟩
abbrev S16x128x384 : Shape := ⟨3, ![16, 128, 384]⟩
abbrev S384 : Shape := ⟨1, ![384]⟩
abbrev S384x1 : Shape := ⟨2, ![384, 1]⟩
abbrev S2048x384 : Shape := ⟨2, ![2048, 384]⟩
abbrev S1x128x128 : Shape := ⟨3, ![1, 128, 128]⟩
abbrev S128x128 : Shape := ⟨2, ![128, 128]⟩
abbrev S128x384 : Shape := ⟨2, ![128, 384]⟩
abbrev S1x128x384 : Shape := ⟨3, ![1, 128, 384]⟩

abbrev nBuf : Space → Nat
  | .hbm => 12
  | .vmem => 9
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S2x8x128x128, .f32⟩
  | .hbm, ⟨4, _⟩ => ⟨S8x2x128x128, .f32⟩
  | .hbm, ⟨5, _⟩ => ⟨S16x128x128, .f32⟩
  | .hbm, ⟨6, _⟩ => ⟨S16x128x128, .bf16⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S8448x2048, .bf16⟩
  | .hbm, ⟨11, _⟩ => ⟨S16x128x8448, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S2048x2048, .bf16⟩
  | .local _ .vmem, ⟨4, _⟩ => ⟨S16x128x128, .bf16⟩
  | .local _ .vmem, ⟨5, _⟩ => ⟨S384x2048, .bf16⟩
  | .local _ .vmem, ⟨6, _⟩ => ⟨S384x2048, .bf16⟩
  | .local _ .vmem, ⟨7, _⟩ => ⟨S16x128x384, .f32⟩
  | .local _ .vmem, ⟨8, _⟩ => ⟨S16x128x384, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8448x2048 : Shape := ⟨2, ![8448, 2048]⟩
abbrev S2048 : Shape := ⟨1, ![2048]⟩
abbrev S2048x2048 : Shape := ⟨2, ![2048, 2048]⟩
abbrev S2x8x128x128 : Shape := ⟨4, ![2, 8, 128, 128]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x8x2x128 : Shape := ⟨4, ![8448, 8, 2, 128]⟩
abbrev S8x2x128x8448 : Shape := ⟨4, ![8, 2, 128, 8448]⟩
abbrev S16x128x8448 : Shape := ⟨3, ![16, 128, 8448]⟩

abbrev nBuf : Space → Nat
  | .hbm => 27
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S2x8x128x128, .f32⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S1x2048, .f32⟩
  | .hbm, ⟨18, _⟩ => ⟨S8448x2048, .f32⟩
  | .hbm, ⟨19, _⟩ => ⟨S8448x2048, .f32⟩
  | .hbm, ⟨20, _⟩ => ⟨S8448x2048, .f32⟩
  | .hbm, ⟨21, _⟩ => ⟨S8448x8x2x128, .f32⟩
  | .hbm, ⟨22, _⟩ => ⟨S8x2x128x8448, .f32⟩
  | .hbm, ⟨23, _⟩ => ⟨S8448x8x2x128, .f32⟩
  | .hbm, ⟨24, _⟩ => ⟨S8448x2048, .bf16⟩
  | .hbm, ⟨25, _⟩ => ⟨S8x2x128x8448, .f32⟩
  | .hbm, ⟨26, _⟩ => ⟨S16x128x8448, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S8448x2048 : Shape := ⟨2, ![8448, 2048]⟩
abbrev S2048 : Shape := ⟨1, ![2048]⟩
abbrev S1x2048 : Shape := ⟨2, ![1, 2048]⟩
abbrev S768x2048 : Shape := ⟨2, ![768, 2048]⟩
abbrev S768 : Shape := ⟨1, ![768]⟩
abbrev S768x1 : Shape := ⟨2, ![768, 1]⟩

abbrev nBuf : Space → Nat
  | .hbm => 4
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S1x2048, .f32⟩
  | .hbm, ⟨3, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S768x2048, .f32⟩
  | .local _ .vmem, ⟨4, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8448x2048 : Shape := ⟨2, ![8448, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S8448x2048, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x2048, .f32⟩
  | .hbm, ⟨14, _⟩ => ⟨S8448x2048, .f32⟩
  | .hbm, ⟨15, _⟩ => ⟨S1x2048, .f32⟩
  | .hbm, ⟨16, _⟩ => ⟨S8448x2048, .f32⟩
  | .hbm, ⟨17, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S8448x11264 : Shape := ⟨2, ![8448, 11264]⟩
abbrev S8448x128 : Shape := ⟨2, ![8448, 128]⟩
abbrev S128x3x3072 : Shape := ⟨3, ![128, 3, 3072]⟩
abbrev S128x8x128 : Shape := ⟨3, ![128, 8, 128]⟩
abbrev S128x8 : Shape := ⟨2, ![128, 8]⟩
abbrev S4x3072 : Shape := ⟨2, ![4, 3072]⟩
abbrev S3072 : Shape := ⟨1, ![3072]⟩
abbrev S32 : Shape := ⟨1, ![32]⟩
abbrev S8 : Shape := ⟨1, ![8]⟩
abbrev S32x32 : Shape := ⟨2, ![32, 32]⟩
abbrev S_ : Shape := ⟨0, ![]⟩
abbrev S32x32x64 : Shape := ⟨3, ![32, 32, 64]⟩
abbrev S32x2048 : Shape := ⟨2, ![32, 2048]⟩
abbrev S8x8 : Shape := ⟨2, ![8, 8]⟩
abbrev S8x8x128 : Shape := ⟨3, ![8, 8, 128]⟩
abbrev S8x1024 : Shape := ⟨2, ![8, 1024]⟩
abbrev S128x11264 : Shape := ⟨2, ![128, 11264]⟩
abbrev S128x3072 : Shape := ⟨2, ![128, 3072]⟩
abbrev S3x128x3072 : Shape := ⟨3, ![3, 128, 3072]⟩
abbrev S128x1024 : Shape := ⟨2, ![128, 1024]⟩
abbrev S1x3072 : Shape := ⟨2, ![1, 3072]⟩
abbrev S128x128 : Shape := ⟨2, ![128, 128]⟩
abbrev S128x2048 : Shape := ⟨2, ![128, 2048]⟩
abbrev S1x32 : Shape := ⟨2, ![1, 32]⟩
abbrev S1x8 : Shape := ⟨2, ![1, 8]⟩
abbrev S1024x8 : Shape := ⟨2, ![1024, 8]⟩
abbrev S1x128x3072 : Shape := ⟨3, ![1, 128, 3072]⟩
abbrev S128x32 : Shape := ⟨2, ![128, 32]⟩

abbrev nBuf : Space → Nat
  | .hbm => 60
  | .vmem => 28
  | .smem => 0
  | _ => 0

abbrev bufTy : (tb : Table) → Fin (tcTables nBuf tb) → BufTy
  | .hbm, ⟨0, _⟩ => ⟨S8448x11264, .f32⟩
  | .hbm, ⟨1, _⟩ => ⟨S8448x128, .f32⟩
  | .hbm, ⟨2, _⟩ => ⟨S128x3x3072, .f32⟩
  | .hbm, ⟨3, _⟩ => ⟨S128x8x128, .f32⟩
  | .hbm, ⟨4, _⟩ => ⟨S128x8, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S8, .f32⟩
  | .hbm, ⟨10, _⟩ => ⟨S8, .f32⟩
  | .hbm, ⟨11, _⟩ => ⟨S32, .f32⟩
  | .hbm, ⟨12, _⟩ => ⟨S32, .f32⟩
  | .hbm, ⟨13, _⟩ => ⟨S32x32, .i32⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i1⟩
  | .hbm, ⟨19, _⟩ => ⟨S32x32, .f32⟩
  | .hbm, ⟨20, _⟩ => ⟨S32x32x64, .f32⟩
  | .hbm, ⟨21, _⟩ => ⟨S32x2048, .f32⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S8x8x128, .f32⟩
  | .hbm, ⟨30, _⟩ => ⟨S8x1024, .f32⟩
  | .hbm, ⟨31, _⟩ => ⟨S128x11264, .f32⟩
  | .hbm, ⟨32, _⟩ => ⟨S128x3072, .f32⟩
  | .hbm, ⟨33, _⟩ => ⟨S3x128x3072, .f32⟩
  | .hbm, ⟨34, _⟩ => ⟨S128x1024, .f32⟩
  | .hbm, ⟨35, _⟩ => ⟨S1x3072, .f32⟩
  | .hbm, ⟨36, _⟩ => ⟨S128x128, .f32⟩
  | .hbm, ⟨37, _⟩ => ⟨S128x2048, .f32⟩
  | .hbm, ⟨38, _⟩ => ⟨S1x32, .f32⟩
  | .hbm, ⟨39, _⟩ => ⟨S1x32, .f32⟩
  | .hbm, ⟨40, _⟩ => ⟨S1x8, .f32⟩
  | .hbm, ⟨41, _⟩ => ⟨S1x8, .f32⟩
  | .hbm, ⟨42, _⟩ => ⟨S1024x8, .f32⟩
  | .hbm, ⟨43, _⟩ => ⟨S1x128x3072, .f32⟩
  | .hbm, ⟨44, _⟩ => ⟨S128x3072, .f32⟩
  | .hbm, ⟨45, _⟩ => ⟨S1x128x3072, .f32⟩
  | .hbm, ⟨46, _⟩ => ⟨S128x3072, .f32⟩
  | .hbm, ⟨47, _⟩ => ⟨S1x128x3072, .f32⟩
  | .hbm, ⟨48, _⟩ => ⟨S128x3072, .f32⟩
  | .hbm, ⟨49, _⟩ => ⟨S128x2048, .f32⟩
  | .hbm, ⟨50, _⟩ => ⟨S128x2048, .f32⟩
  | .hbm, ⟨51, _⟩ => ⟨S128x1024, .f32⟩
  | .hbm, ⟨52, _⟩ => ⟨S128x32, .f32⟩
  | .hbm, ⟨53, _⟩ => ⟨S128x1024, .f32⟩
  | .hbm, ⟨54, _⟩ => ⟨S128x8, .f32⟩
  | .hbm, ⟨55, _⟩ => ⟨S128x8, .f32⟩
  | .hbm, ⟨56, _⟩ => ⟨S128x8, .f32⟩
  | .hbm, ⟨57, _⟩ => ⟨S128x8, .f32⟩
  | .hbm, ⟨58, _⟩ => ⟨S128x8, .f32⟩
  | .hbm, ⟨59, _⟩ => ⟨S128x1024, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S4x3072, .f32⟩
  | .local _ .vmem, ⟨5, _⟩ => ⟨S1x3072, .f32⟩
  | .local _ .vmem, ⟨6, _⟩ => ⟨S128x128, .f32⟩
  | .local _ .vmem, ⟨7, _⟩ => ⟨S128x2048, .f32⟩
  | .local _ .vmem, ⟨8, _⟩ => ⟨S128x1024, .f32⟩
  | .local _ .vmem, ⟨9, _⟩ => ⟨S128x8, .f32⟩
  | .local _ .vmem, ⟨10, _⟩ => ⟨S1x32, .f32⟩
  | .local _ .vmem, ⟨11, _⟩ => ⟨S1x32, .f32⟩
  | .local _ .vmem, ⟨12, _⟩ => ⟨S1x8, .f32⟩
  | .local _ .vmem, ⟨13, _⟩ => ⟨S1x8, .f32⟩
  | .local _ .vmem, ⟨14, _⟩ => ⟨S32x2048, .f32⟩
  | .local _ .vmem, ⟨15, _⟩ => ⟨S1024x8, .f32⟩
  | .local _ .vmem, ⟨16, _⟩ => ⟨S8x1024, .f32⟩
  | .local _ .vmem, ⟨17, _⟩ => ⟨S128x2048, .f32⟩
  | .local _ .vmem, ⟨18, _⟩ => ⟨S128x2048, .f32⟩
  | .local _ .vmem, ⟨19, _⟩ => ⟨S128x1024, .f32⟩
  | .local _ .vmem, ⟨20, _⟩ => ⟨S128x32, .f32⟩
  | .local _ .vmem, ⟨21, _⟩ => ⟨S128x1024, .f32⟩
  | .local _ .vmem, ⟨22, _⟩ => ⟨S128x8, .f32⟩
  | .local _ .vmem, ⟨23, _⟩ => ⟨S128x8, .f32⟩
  | .local _ .vmem, ⟨24, _⟩ => ⟨S128x8, .f32⟩
  | .local _ .vmem, ⟨25, _⟩ => ⟨S128x8, .f32⟩
  | .local _ .vmem, ⟨26, _⟩ => ⟨S128x8, .f32⟩
  | .local _ .vmem, ⟨27, _⟩ => ⟨S128x1024, .f32⟩
  | _, _ => ⟨S8448x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev main_v36_4 : Ref sig .tc := ⟨.hbm, 53, rfl⟩
abbrev main_v36_5 : Ref sig .tc := ⟨.hbm, 54, rfl⟩
abbrev main_v36_6 : Ref sig .tc := ⟨.hbm, 55, rfl⟩
abbrev main_v36_7 : Ref sig .tc := ⟨.hbm, 56, rfl⟩
abbrev main_v36_8 : Ref sig .tc := ⟨.hbm, 57, rfl⟩
abbrev main_v36_9 : Ref sig .tc := ⟨.hbm, 58, rfl⟩
abbrev main_v36_10 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S128x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x8 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S128x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x8 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Kernel6Ideal.lean ====
variable {F : FTy → Type} [FloatOps F] [Named F]
def κ : String → Option EReal := fun
  | "s" => some (((Real.sqrt 128)⁻¹ : ℝ) : EReal)
  | _ => none
-- ==== Reference6Ideal.lean ====
abbrev S8448x11264 : Shape := ⟨2, ![8448, 11264]⟩
abbrev S8448x128 : Shape := ⟨2, ![8448, 128]⟩
abbrev S128x3x3072 : Shape := ⟨3, ![128, 3, 3072]⟩
abbrev S128x8x128 : Shape := ⟨3, ![128, 8, 128]⟩
abbrev S128x8 : Shape := ⟨2, ![128, 8]⟩
abbrev S4x3072 : Shape := ⟨2, ![4, 3072]⟩
abbrev S3072 : Shape := ⟨1, ![3072]⟩
abbrev S32 : Shape := ⟨1, ![32]⟩
abbrev S8 : Shape := ⟨1, ![8]⟩
abbrev S128x11264 : Shape := ⟨2, ![128, 11264]⟩
abbrev S128x128 : Shape := ⟨2, ![128, 128]⟩
abbrev S128x3072 : Shape := ⟨2, ![128, 3072]⟩
abbrev S128x1x3072 : Shape := ⟨3, ![128, 1, 3072]⟩
abbrev S128x4x3072 : Shape := ⟨3, ![128, 4, 3072]⟩
abbrev S1x3072 : Shape := ⟨2, ![1, 3072]⟩
abbrev S1x1x3072 : Shape := ⟨3, ![1, 1, 3072]⟩
abbrev S_ : Shape := ⟨0, ![]⟩
abbrev S128x1x2048 : Shape := ⟨3, ![128, 1, 2048]⟩
abbrev S128x2048 : Shape := ⟨2, ![128, 2048]⟩
abbrev S128x1x1024 : Shape := ⟨3, ![128, 1, 1024]⟩
abbrev S128x1024 : Shape := ⟨2, ![128, 1024]⟩
abbrev S128x32 : Shape := ⟨2, ![128, 32]⟩
abbrev S1x32 : Shape := ⟨2, ![1, 32]⟩
abbrev S128x32x64 : Shape := ⟨3, ![128, 32, 64]⟩
abbrev S128x32x1 : Shape := ⟨3, ![128, 32, 1]⟩
abbrev S1x8 : Shape := ⟨2, ![1, 8]⟩
abbrev S128x8x1 : Shape := ⟨3, ![128, 8, 1]⟩

abbrev nBuf : Space → Nat
  | .hbm => 154
  | .vmem => 0
  | .smem => 0
  | _ => 0

abbrev hbmTy0_0 (i : Nat) : BufTy := match i % 128 with
  | 0 => ⟨S8448x11264, .f32⟩
  | 1 => ⟨S8448x128, .f32⟩
  | 2 => ⟨S128x3x3072, .f32⟩
  | 3 => ⟨S128x8x128, .f32⟩
  | 4 => ⟨S128x8, .f32⟩
  | 5 => ⟨S4x3072, .f32⟩
  | 6 => ⟨S3072, .f32⟩
  | 7 => ⟨S32, .f32⟩
  | 8 => ⟨S32, .f32⟩
  | 9 => ⟨S8, .f32⟩
  | 10 => ⟨S8, .f32⟩
  | 11 => ⟨S128x11264, .f32⟩
  | 12 => ⟨S128x128, .f32⟩
  | 13 => ⟨S128x3072, .f32⟩
  | 14 => ⟨S128x1x3072, .f32⟩
  | 15 => ⟨S128x4x3072, .f32⟩
  | 16 => ⟨S1x3072, .f32⟩
  | 17 => ⟨S3072, .f32⟩
  | 18 => ⟨S128x1x3072, .f32⟩
  | 19 => ⟨S1x1x3072, .f32⟩
  | 20 => ⟨S128x1x3072, .f32⟩
  | 21 => ⟨S128x1x3072, .f32⟩
  | 22 => ⟨S_, .f32⟩
  | 23 => ⟨S128x1x3072, .f32⟩
  | 24 => ⟨S128x1x3072, .f32⟩
  | 25 => ⟨S1x3072, .f32⟩
  | 26 => ⟨S3072, .f32⟩
  | 27 => ⟨S128x1x3072, .f32⟩
  | 28 => ⟨S1x1x3072, .f32⟩
  | 29 => ⟨S128x1x3072, .f32⟩
  | 30 => ⟨S128x1x3072, .f32⟩
  | 31 => ⟨S128x1x3072, .f32⟩
  | 32 => ⟨S1x3072, .f32⟩
  | 33 => ⟨S3072, .f32⟩
  | 34 => ⟨S128x1x3072, .f32⟩
  | 35 => ⟨S1x1x3072, .f32⟩
  | 36 => ⟨S128x1x3072, .f32⟩
  | 37 => ⟨S128x1x3072, .f32⟩
  | 38 => ⟨S128x1x3072, .f32⟩
  | 39 => ⟨S1x3072, .f32⟩
  | 40 => ⟨S3072, .f32⟩
  | 41 => ⟨S128x1x3072, .f32⟩
  | 42 => ⟨S1x1x3072, .f32⟩
  | 43 => ⟨S128x1x3072, .f32⟩
  | 44 => ⟨S128x1x3072, .f32⟩
  | 45 => ⟨S128x1x3072, .f32⟩
  | 46 => ⟨S1x1x3072, .f32⟩
  | 47 => ⟨S128x1x3072, .f32⟩
  | 48 => ⟨S128x1x3072, .f32⟩
  | 49 => ⟨S128x1x3072, .f32⟩
  | 50 => ⟨S128x1x3072, .f32⟩
  | 51 => ⟨S_, .f32⟩
  | 52 => ⟨S128x1x3072, .f32⟩
  | 53 => ⟨S128x1x3072, .f32⟩
  | 54 => ⟨S_, .f32⟩
  | 55 => ⟨S128x1x3072, .f32⟩
  | 56 => ⟨S128x1x3072, .f32⟩
  | 57 => ⟨S128x1x3072, .f32⟩
  | 58 => ⟨S128x1x2048, .f32⟩
  | 59 => ⟨S128x2048, .f32⟩
  | 60 => ⟨S128x1x1024, .f32⟩
  | 61 => ⟨S128x1024, .f32⟩
  | 62 => ⟨S128x32, .f32⟩
  | 63 => ⟨S1x32, .f32⟩
  | 64 => ⟨S128x32, .f32⟩
  | 65 => ⟨S128x32, .f32⟩
  | 66 => ⟨S_, .f32⟩
  | 67 => ⟨S128x32, .f32⟩
  | 68 => ⟨S128x32, .f32⟩
  | 69 => ⟨S128x32, .f32⟩
  | 70 => ⟨S128x32, .f32⟩
  | 71 => ⟨S128x32, .i1⟩
  | 72 => ⟨S128x32, .f32⟩
  | 73 => ⟨S128x32, .f32⟩
  | 74 => ⟨S128x32, .f32⟩
  | 75 => ⟨S128x32, .f32⟩
  | 76 => ⟨S128x32, .f32⟩
  | 77 => ⟨S128x32, .f32⟩
  | 78 => ⟨S128x32, .f32⟩
  | 79 => ⟨S128x32, .f32⟩
  | 80 => ⟨S128x32x64, .f32⟩
  | 81 => ⟨S128x32x1, .f32⟩
  | 82 => ⟨S128x32x64, .f32⟩
  | 83 => ⟨S128x32x64, .f32⟩
  | 84 => ⟨S128x1024, .f32⟩
  | 85 => ⟨S128x8x128, .f32⟩
  | 86 => ⟨S128x1024, .f32⟩
  | 87 => ⟨S128x8x128, .f32⟩
  | 88 => ⟨S_, .f32⟩
  | 89 => ⟨S_, .f32⟩
  | 90 => ⟨S_, .f32⟩
  | 91 => ⟨S_, .f32⟩
  | 92 => ⟨S128x8x128, .f32⟩
  | 93 => ⟨S128x8x128, .f32⟩
  | 94 => ⟨S128x8, .f32⟩
  | 95 => ⟨S1x8, .f32⟩
  | 96 => ⟨S128x8, .f32⟩
  | 97 => ⟨S128x8, .f32⟩
  | 98 => ⟨S128x8, .f32⟩
  | 99 => ⟨S1x8, .f32⟩
  | 100 => ⟨S128x8, .f32⟩
  | 101 => ⟨S128x8, .f32⟩
  | 102 => ⟨S128x8, .f32⟩
  | 103 => ⟨S_, .f32⟩
  | 104 => ⟨S128x8, .f32⟩
  | 105 => ⟨S128x8, .f32⟩
  | 106 => ⟨S128x8, .f32⟩
  | 107 => ⟨S128x8, .f32⟩
  | 108 => ⟨S128x8, .i1⟩
  | 109 => ⟨S128x8, .f32⟩
  | 110 => ⟨S128x8, .f32⟩
  | 111 => ⟨S128x8, .f32⟩
  | 112 => ⟨S128x8, .f32⟩
  | 113 => ⟨S128x8, .f32⟩
  | 114 => ⟨S128x8, .f32⟩
  | 115 => ⟨S128x8, .f32⟩
  | 116 => ⟨S128x8, .f32⟩
  | 117 => ⟨S128x8, .f32⟩
  | 118 => ⟨S128x8, .f32⟩
  | 119 => ⟨S128x8, .f32⟩
  | 120 => ⟨S128x8, .f32⟩
  | 121 => ⟨S128x8, .f32⟩
  | 122 => ⟨S128x8, .f32⟩
  | 123 => ⟨S128x8, .f32⟩
  | 124 => ⟨S128x8, .f32⟩
  | 125 => ⟨S128x8, .f32⟩
  | 126 => ⟨S128x8, .f32⟩
  | 127 => ⟨S128x8, .f32⟩
  | _ => ⟨S8448x11264, .f32⟩

abbrev hbmTy0_1 (i : Nat) : BufTy := match i % 128 with
  | 0 => ⟨S128x8, .f32⟩
  | 1 => ⟨S128x8, .f32⟩
  | 2 => ⟨S128x8, .f32⟩
  | 3 => ⟨S128x8, .f32⟩
  | 4 => ⟨S128x8, .f32⟩
  | 5 => ⟨S_, .f32⟩
  | 6 => ⟨S128x8, .f32⟩
  | 7 => ⟨S128x8, .f32⟩
  | 8 => ⟨S128x8x1, .f32⟩
  | 9 => ⟨S128x8x128, .f32⟩
  | 10 => ⟨S128x8x128, .f32⟩
  | 11 => ⟨S128x8x1, .f32⟩
  | 12 => ⟨S128x8x128, .f32⟩
  | 13 => ⟨S128x8x128, .f32⟩
  | 14 => ⟨S128x8x128, .f32⟩
  | 15 => ⟨S128x2048, .f32⟩
  | 16 => ⟨S32, .f32⟩
  | 17 => ⟨S32, .f32⟩
  | 18 => ⟨S1x32, .f32⟩
  | 19 => ⟨S128x32, .f32⟩
  | 20 => ⟨S128x32, .f32⟩
  | 21 => ⟨S128x32, .f32⟩
  | 22 => ⟨S128x1024, .f32⟩
  | 23 => ⟨S128x8, .f32⟩
  | 24 => ⟨S128x8, .f32⟩
  | 25 => ⟨S128x1024, .f32⟩
  | _ => ⟨S8448x11264, .f32⟩

abbrev hbmTy (i : Nat) : BufTy := match i / 128 with
  | 0 => hbmTy0_0 i
  | 1 => hbmTy0_1 i
  | _ => ⟨S8448x11264, .f32⟩

abbrev bufTy : (tb : Table) → Fin (tcTables nBuf tb) → BufTy
  | .hbm, ⟨i, _⟩ => hbmTy i
  | _, _ => ⟨S8448x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_0 : Ref sig .tc := ⟨.hbm, 88, rfl⟩
abbrev main_v55 : Ref sig .tc := ⟨.hbm, 89, rfl⟩
abbrev main_cst_1 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_v0 : Ref sig .tc := ⟨.hbm, 102, rfl⟩
abbrev main_call2_call0_cst : Ref sig .tc := ⟨.hbm, 103, rfl⟩
abbrev main_call2_call0_v0 : Ref sig .tc := ⟨.hbm, 104, rfl⟩
abbrev main_call2_call0_v1 : Ref sig .tc := ⟨.hbm, 105, rfl⟩
abbrev main_call2_call0_v2 : Ref sig .tc := ⟨.hbm, 106, rfl⟩
abbrev main_call2_call0_v3 : Ref sig .tc := ⟨.hbm, 107, rfl⟩
abbrev main_call2_call0_v4 : Ref sig .tc := ⟨.hbm, 108, rfl⟩
abbrev main_call2_call0_v5 : Ref sig .tc := ⟨.hbm, 109, rfl⟩
abbrev main_call2_call0_v6 : Ref sig .tc := ⟨.hbm, 110, rfl⟩
abbrev main_call2_call0_v7 : Ref sig .tc := ⟨.hbm, 111, rfl⟩
abbrev main_call2_call0_v8 : Ref sig .tc := ⟨.hbm, 112, rfl⟩
abbrev main_call2_call0_v9 : Ref sig .tc := ⟨.hbm, 113, rfl⟩
abbrev main_call2_call0_v10 : Ref sig .tc := ⟨.hbm, 114, rfl⟩
abbrev main_call2_call0_v11 : Ref sig .tc := ⟨.hbm, 115, rfl⟩
abbrev main_call2_v1 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_2 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩

abbrev nD : Nat := 1
abbrev τ : Topo := Topo.v7x

variable {F : FTy → Type} [FloatOps F]
-- ==== Proof.Mlstm.Spec.lean ====
/-
  The recurrence of one chunk of the matrix-memory scan, written once over the extended reals: what the chunk's rows
  read (queries, keys, values, input gates, logarithms of forget gates), the state the chunk starts from (the matrix
  memory `C`, the normalizer `n`, the stabilizer `m`), the state it leaves and the hidden rows it produces. The kernel's
  body and the reference's scan step are both shown to be this function.
-/
module

public import Idealize.ShloMosaic.Lib.Pointwise

@[expose] public section

noncomputable section

open Idealize.ShloMosaic

namespace Mlstm

/-- The maximum's starting value and the masked score: the same literal on both sides. -/
abbrev ninf : EReal := Ideal.ofBits .f32 0xFF800000#32
/-- The number of value lanes, as the literal both sides divide by. -/
abbrev lanes : EReal := Ideal.ofBits .f32 0x43800000#32
/-- The normalization's small constant, as the literal both sides add. -/
abbrev eps : EReal := Ideal.ofBits .f32 0x358637BD#32
/-- The absolute value. -/
abbrev aabs (x : EReal) : EReal := FloatOps.absf (F := Ideal) (φ := .f32) x

/-- The logarithm of the sigmoid, as minus the softplus of minus `x`. -/
def lsig (x : EReal) : EReal := -(max (-x) 0 + Ideal.log1p (Ideal.exp (-(aabs (-x)))))

/-- What one chunk reads (the keys already scaled). -/
structure Inp where
  q : Fin 128 → Fin 128 → EReal
  k : Fin 128 → Fin 128 → EReal
  v : Fin 128 → Fin 256 → EReal
  li : Fin 128 → EReal
  lf : Fin 128 → EReal

/-- The state carried from chunk to chunk. -/
structure St where
  C : Fin 128 → Fin 256 → EReal
  n : Fin 128 → EReal
  m : EReal

/-- The running sum of the forget gates' logarithms. -/
def cum (x : Inp) (t : Fin 128) : EReal := ∑ s : Fin 128, if s ≤ t then x.lf s else 0

/-- The masked score exponent of row `t` against row `s`. -/
def dm (x : Inp) (t s : Fin 128) : EReal := if s ≤ t then cum x t - cum x s + x.li s else ninf

def inter (a : St) (x : Inp) (t : Fin 128) : EReal := cum x t + a.m

/-- The row's stabilizer. -/
def mt (a : St) (x : Inp) (t : Fin 128) : EReal := max (inter a x t) (Finset.univ.fold max ninf fun s => dm x t s)

def wInter (a : St) (x : Inp) (t : Fin 128) : EReal := Ideal.exp (inter a x t - mt a x t)

/-- The weighted score of row `t` against row `s`. -/
def qkw (a : St) (x : Inp) (t s : Fin 128) : EReal := (∑ d : Fin 128, x.q t d * x.k s d) * Ideal.exp (dm x t s - mt a x t)

def num (a : St) (x : Inp) (t : Fin 128) (w : Fin 256) : EReal :=
  (∑ s : Fin 128, qkw a x t s * x.v s w) + wInter a x t * ∑ d : Fin 128, x.q t d * a.C d w

def den (a : St) (x : Inp) (t : Fin 128) : EReal :=
  (∑ s : Fin 128, qkw a x t s) + wInter a x t * ∑ d : Fin 128, x.q t d * a.n d

/-- The chunk's hidden rows. -/
def hid (a : St) (x : Inp) (t : Fin 128) (w : Fin 256) : EReal :=
  Ideal.div (num a x t w) (max (aabs (den a x t)) (Ideal.exp (-(mt a x t))))

def endInter (a : St) (x : Inp) : EReal := cum x 127 + a.m

def endIntra (x : Inp) (s : Fin 128) : EReal := cum x 127 - cum x s + x.li s

def mNew (a : St) (x : Inp) : EReal := max (endInter a x) (Finset.univ.fold max ninf fun s => endIntra x s)

def we (a : St) (x : Inp) (s : Fin 128) : EReal := Ideal.exp (endIntra x s - mNew a x)

def scale (a : St) (x : Inp) : EReal := Ideal.exp (endInter a x - mNew a x)

/-- The state the chunk leaves. -/
def step (a : St) (x : Inp) : St where
  C d w := scale a x * a.C d w + ∑ s : Fin 128, x.k s d * we a x s * x.v s w
  n d := scale a x * a.n d + ∑ s : Fin 128, we a x s * x.k s d
  m := mNew a x

/-- The state after the first `n` chunks. -/
def stAt (a : St) (x : ℕ → Inp) : ℕ → St
  | 0 => a
  | n + 1 => step (stAt a x n) (x n)

/-- The normalized, gated output row from a hidden row `h`, gain `g` and gate `o`. -/
def outp (h : Fin 256 → EReal) (g o : EReal) (w : Fin 256) : EReal :=
  h w * Ideal.rsqrt (Ideal.div (∑ u : Fin 256, h u * h u) lanes + eps) * g * Ideal.div 1 (1 + Ideal.exp (-o))

end Mlstm

end
-- ==== Proof.Mlstm.Inputs.lean ====
/-
  The eight arrays of the scan as functions of their coordinates, what each chunk of each sequence and head reads from
  them, and the four results.
-/
module

public import proofs.«01_k».proof.Proof.Mlstm.Spec

@[expose] public section

noncomputable section

namespace Mlstm

/-- The arrays. -/
structure Args where
  P : Fin 8448 → Fin 11264 → EReal
  S : Fin 8448 → Fin 128 → EReal
  ib : Fin 8 → EReal
  fb : Fin 8 → EReal
  g : Fin 2048 → EReal
  C0 : Fin 8 → Fin 128 → Fin 256 → EReal
  n0 : Fin 8 → Fin 128 → EReal
  m0 : Fin 8 → EReal
  ks : EReal

/-- Row `r` of chunk `ch` (modulo 16) of sequence `b`. -/
def rowOf (b : Fin 4) (ch : ℕ) (r : Fin 128) : Fin 8448 := ⟨(b.val * 16 + ch % 16) * 128 + r.val, by omega⟩

variable (A : Args)

/-- What a chunk reads. -/
def inp (b : Fin 4) (h : Fin 8) (ch : ℕ) : Inp where
  q r d := A.P (rowOf b ch r) ⟨5120 + h.val * 128 + d.val, by omega⟩
  k r d := A.P (rowOf b ch r) ⟨6144 + h.val * 128 + d.val, by omega⟩ * A.ks
  v r w := A.P (rowOf b ch r) ⟨7168 + h.val * 256 + w.val, by omega⟩
  li r := A.S (rowOf b ch r) ⟨32 + h.val, by omega⟩ + A.ib h
  lf r := lsig (A.S (rowOf b ch r) ⟨40 + h.val, by omega⟩ + A.fb h)

/-- The state every sequence starts from. -/
def ini (h : Fin 8) : St := ⟨A.C0 h, A.n0 h, A.m0 h⟩

/-- The state before chunk `ch`. -/
def stc (b : Fin 4) (h : Fin 8) (ch : ℕ) : St := stAt (ini A h) (inp A b h) ch

theorem stc_succ (b : Fin 4) (h : Fin 8) (ch : ℕ) : stc A b h (ch + 1) = step (stc A b h ch) (inp A b h ch) := rfl

/-- The gain's entry for a head's lane. -/
def gain (h : Fin 8) (w : Fin 256) : EReal := A.g ⟨h.val * 256 + w.val, by omega⟩

/-- The output gate's entry. -/
def gate (b : Fin 4) (h : Fin 8) (ch : ℕ) (r : Fin 128) (w : Fin 256) : EReal :=
  A.P (rowOf b ch r) ⟨9216 + h.val * 256 + w.val, by omega⟩

/-- A chunk's output rows. -/
def outRow (b : Fin 4) (h : Fin 8) (ch : ℕ) (r : Fin 128) (w : Fin 256) : EReal :=
  outp (hid (stc A b h ch) (inp A b h ch) r) (gain A h w) (gate A b h ch r w) w

/-- The hidden rows' result. -/
def resH (i : Fin 8192) (j : Fin 2048) : EReal :=
  outRow A ⟨i.val / 2048, by omega⟩ ⟨j.val / 256, by omega⟩ (i.val / 128 % 16) ⟨i.val % 128, by omega⟩ ⟨j.val % 256, by omega⟩

/-- The result at a row and a lane split into sequence, chunk, row, head, lane. -/
theorem resH_at (b : Fin 4) (h : Fin 8) (ch : ℕ) (hch : ch < 16) (r : Fin 128) (w : Fin 256) (i : Fin 8192) (j : Fin 2048)
    (hi : i.val = (b.val * 16 + ch) * 128 + r.val) (hj : j.val = h.val * 256 + w.val) : resH A i j = outRow A b h ch r w := by
  unfold resH
  have e1 : (⟨i.val / 2048, by omega⟩ : Fin 4) = b := Fin.ext (by show i.val / 2048 = b.val; omega)
  have e2 : (⟨j.val / 256, by omega⟩ : Fin 8) = h := Fin.ext (by show j.val / 256 = h.val; omega)
  have e3 : i.val / 128 % 16 = ch := by omega
  have e4 : (⟨i.val % 128, by omega⟩ : Fin 128) = r := Fin.ext (by show i.val % 128 = r.val; omega)
  have e5 : (⟨j.val % 256, by omega⟩ : Fin 256) = w := Fin.ext (by show j.val % 256 = w.val; omega)
  rw [e1, e2, e3, e4, e5]

end Mlstm

end
-- ==== Proof.Mlstm.Gates.lean ====
/-
  The kernel body's arithmetic, read element by element: the input gates, the logarithms of the forget gates, their
  running sums (a product with a 0/1 triangle), the masked exponents, the row stabilizers, the hidden rows and the new
  state are those of the chunk's recurrence.
-/
module

public import proofs.«01_k».proof.Proof.Mlstm.Spec
public import proofs.«01_k».proof.Proof.Gen.KernelIdeal.Skeleton
public import Idealize.ShloMosaic.Lib.WordCmp

@[expose] public section

noncomputable section

open Idealize.ShloMosaic

namespace Mlstm.K

open Cert.KernelIdeal Cert.KernelIdeal.Gen

/-- A decided bit, widened and converted, is one or zero. -/
theorem bit_value (p : Prop) [Decidable p] :
    FloatOps.sitofp (F := Ideal) FTy.f32 (BitVec.setWidth 32 (BitVec.ofBool (decide p))) = if p then 1 else 0 := by
  by_cases h : p
  · simp only [h, decide_true, if_true]
    show (((1 : ℤ) : ℝ) : EReal) = 1
    norm_num
  · simp only [h, decide_false, if_false]
    show (((0 : ℤ) : ℝ) : EReal) = 0
    norm_num

theorem sel_dec {α : Type} (p : Prop) [Decidable p] (a b : α) :
    Scalar.select (BitVec.ofBool (decide p)) a b = if p then a else b := by
  by_cases h : p
  · simp only [h, decide_true, if_true]; rfl
  · simp only [h, decide_false, if_false]; rfl

theorem sge (t k : Fin 128) :
    IntOp.cmpi .sge (BitVec.ofNat 32 t.val) (BitVec.ofNat 32 k.val) = BitVec.ofBool (decide (k ≤ t)) := by
  rw [WordCmp.cmpi_sge_ofNat (by omega) (by omega)]; rfl

theorem sle (k t : Fin 128) :
    IntOp.cmpi .sle (BitVec.ofNat 32 k.val) (BitVec.ofNat 32 t.val) = BitVec.ofBool (decide (k ≤ t)) := by
  rw [WordCmp.cmpi_sle_ofNat (by omega) (by omega)]; rfl

theorem zsub (x : EReal) : 0 - x = -x := by rw [sub_eq_add_neg, zero_add]

/-! ## The gates -/

theorem gcol (x4 : Vec Ideal S1x128x8 .f32) (x6 : Vec Ideal S1x1x8 .f32) (t : Fin 128) (g : Fin 8) :
    k0_pay8 x4 x6 (ix2 t g) = x4 (ix3 0 t g) + x6 (ix3 0 0 g) := by
  pointwise [k0_pay8]

theorem grow (x5 x7 : Vec Ideal S1x8x128 .f32) (g : Fin 8) (t : Fin 128) :
    k0_pay9 x5 x7 (ix2 g t) = x5 (ix3 0 g t) + x7 (ix3 0 g t) := by
  pointwise [k0_pay9]

theorem lsc (x4 : Vec Ideal S1x128x8 .f32) (x6 : Vec Ideal S1x1x8 .f32) (t : Fin 128) :
    k0_pay10 x4 x6 (ix2 t 1) = lsig (x4 (ix3 0 t 1) + x6 (ix3 0 0 1)) := by
  pointwise [k0_pay10, k0_pay8, lsig]
  simp only [zsub]

theorem lsr (x5 x7 : Vec Ideal S1x8x128 .f32) (t : Fin 128) :
    0 - (k0_pay12 x5 x7 (ix2 1 t) + k0_pay13 x5 x7 (ix2 1 t)) = lsig (x5 (ix3 0 1 t) + x7 (ix3 0 1 t)) := by
  pointwise [k0_pay12, k0_pay13, k0_pay11, k0_pay9, lsig]
  simp only [zsub]

/-! ## The running sums, the exponents, the stabilizers -/

section Chain

variable (a : St) (x : Inp)
variable (v8 : FVec Ideal S128x8 .f32) (v13 : FVec Ideal S8x128 .f32) (v25 : FVec Ideal S128x8 .f32) (v29 v34 : FVec Ideal S8x128 .f32)
variable (m : Vec Ideal S1x1 .f32)

/-- The gate vectors the later payloads read hold the chunk's gates. -/
structure Gates : Prop where
  licol : ∀ t, v8 (ix2 t 0) = x.li t
  lirow : ∀ t, v13 (ix2 0 t) = x.li t
  lfcol : ∀ t, v25 (ix2 t 1) = x.lf t
  lfrow : ∀ t, 0 - (v29 (ix2 1 t) + v34 (ix2 1 t)) = x.lf t
  mm : m (ix2 0 0) = a.m

variable {a x v8 v13 v25 v29 v34 m}
variable (G : Gates a x v8 v13 v25 v29 v34 m)
include G

theorem bc_col (t : Fin 128) : k0_pay15 v25 (ix2 t 0) = cum x t := by
  pointwise [k0_pay15, k0_pay14]
  simp only [sge, bit_value, G.lfcol, ite_mul, one_mul, zero_mul, cum]

theorem bc_row (t : Fin 128) : k0_pay16 v29 v34 (ix2 0 t) = cum x t := by
  pointwise [k0_pay16]
  simp only [sle, bit_value, G.lfrow, mul_ite, mul_one, mul_zero, cum]

theorem li_col (t : Fin 128) : k0_pay17 v8 (ix2 t 0) = x.li t := by
  pointwise [k0_pay17]
  exact G.licol t

theorem li_row (t : Fin 128) : k0_pay18 v13 (ix2 0 t) = x.li t := by
  pointwise [k0_pay18]
  exact G.lirow t

theorem dm_eq (t s : Fin 128) : k0_pay19 v13 v25 v29 v34 (ix2 t s) = dm x t s := by
  pointwise [k0_pay19, k0_pay18, k0_pay14]
  simp only [sge, sel_dec, bc_col G, bc_row G, G.lirow, dm]

theorem inter_eq (t : Fin 128) : k0_pay20 v25 m (ix2 t 0) = inter a x t := by
  pointwise [k0_pay20]
  simp only [bc_col G, G.mm, inter]

theorem mt_eq (t : Fin 128) : k0_pay21 v13 v25 v29 v34 m (ix2 t 0) = mt a x t := by
  pointwise [k0_pay21]
  simp only [inter_eq G, dm_eq G, mt]

theorem wIntra_eq (t s : Fin 128) : k0_pay22 v13 v25 v29 v34 m (ix2 t s) = Ideal.exp (dm x t s - mt a x t) := by
  pointwise [k0_pay22]
  simp only [mt_eq G, dm_eq G]

theorem wInter_eq (t : Fin 128) : k0_pay23 v13 v25 v29 v34 m (ix2 t 0) = wInter a x t := by
  pointwise [k0_pay23]
  simp only [mt_eq G, inter_eq G, wInter]

omit G
/-! ## The end of the chunk -/

/-- The vectors the state update reads: the running sums and the input gates, as a column and as a row. -/
structure Ends (v44 : FVec Ideal S128x1 .f32) (v49 : FVec Ideal S1x128 .f32) (v50 : FVec Ideal S128x1 .f32)
    (v51 : FVec Ideal S1x128 .f32) (m : Vec Ideal S1x1 .f32) : Prop where
  bcol : ∀ t, v44 (ix2 t 0) = cum x t
  brow : ∀ t, v49 (ix2 0 t) = cum x t
  lcol : ∀ t, v50 (ix2 t 0) = x.li t
  lrow : ∀ t, v51 (ix2 0 t) = x.li t
  mm : m (ix2 0 0) = a.m

variable {v44 : FVec Ideal S128x1 .f32} {v49 : FVec Ideal S1x128 .f32} {v50 : FVec Ideal S128x1 .f32} {v51 : FVec Ideal S1x128 .f32}
variable (E : Ends (a := a) (x := x) v44 v49 v50 v51 m)
include E

theorem mNew_eq : k0_pay33 v49 v51 m (ix2 0 0) = mNew a x := by
  pointwise [k0_pay33, k0_pay32, k0_pay31, k0_pay30]
  simp only [E.brow, E.lrow, E.mm, mNew, endInter, endIntra]

theorem scale_eq : k0_pay34 v49 v51 m (ix2 0 0) = scale a x := by
  pointwise [k0_pay34, k0_pay31, k0_pay30]
  simp only [E.brow, E.mm, mNew_eq E, scale, endInter]

theorem newC {v73 : FVec Ideal S128x128 .f32} {v75 : FVec Ideal S128x256 .bf16} {C : Vec Ideal S128x256 .f32}
    (hk : ∀ t d, v73 (ix2 t d) = x.k t d) (hv : ∀ t w, v75 (ix2 t w) = x.v t w) (hC : ∀ d w, C (ix2 d w) = a.C d w)
    (d : Fin 128) (w : Fin 256) : k0_pay35 v44 v49 v50 v51 m v73 v75 C (ix2 d w) = (step a x).C d w := by
  pointwise [k0_pay35, k0_pay30]
  simp only [E.brow, E.bcol, E.lcol, E.mm, mNew_eq E, scale_eq E, hk, hv, hC, step, we, endIntra]

theorem newN {v73 : FVec Ideal S128x128 .f32} {n : Vec Ideal S1x128 .f32}
    (hk : ∀ t d, v73 (ix2 t d) = x.k t d) (hn : ∀ d, n (ix2 0 d) = a.n d)
    (d : Fin 128) : k0_pay36 v49 v51 m v73 n (ix2 0 d) = (step a x).n d := by
  pointwise [k0_pay36, k0_pay32, k0_pay30]
  simp only [E.brow, E.lrow, E.mm, mNew_eq E, scale_eq E, hk, hn, step, we, endIntra]

end Chain

/-! ## The hidden rows -/

theorem hidden {a : St} {x : Inp} {v64 : FVec Ideal S128x1 .f32} {v67 : FVec Ideal S128x128 .f32} {v69 : FVec Ideal S128x1 .f32}
    {v70 : Vec Ideal S128x128 .f32} {v73 : FVec Ideal S128x128 .f32} {v75 : FVec Ideal S128x256 .bf16} {v76 : FVec Ideal S128x128 .bf16}
    {C : Vec Ideal S128x256 .f32} {n : Vec Ideal S1x128 .f32} (g : Vec Ideal S1x1x256 .f32) (o : Vec Ideal S128x256 .f32)
    (hm : ∀ t, v64 (ix2 t 0) = mt a x t) (hw : ∀ t s, v67 (ix2 t s) = Ideal.exp (dm x t s - mt a x t))
    (hi : ∀ t, v69 (ix2 t 0) = wInter a x t) (hq : ∀ t d, v70 (ix2 t d) = x.q t d) (hk : ∀ t d, v73 (ix2 t d) = x.k t d)
    (hv : ∀ t w, v75 (ix2 t w) = x.v t w) (hq' : ∀ t d, v76 (ix2 t d) = x.q t d)
    (hC : ∀ d w, C (ix2 d w) = a.C d w) (hn : ∀ d, n (ix2 0 d) = a.n d) (t : Fin 128) (w : Fin 256) :
    k0_pay29 (k0_pay27 v64 v67 v69 v70 v73 v75 v76 C n g) (k0_pay28 o) (ix2 t w)
      = outp (hid a x t) (g (ix3 0 0 w)) (o (ix2 t w)) w := by
  pointwise [k0_pay29, k0_pay27, k0_pay28]
  simp only [hm, hw, hi, hq, hk, hv, hq', hC, hn, zsub, outp, hid, num, den, qkw]

end Mlstm.K

end
-- ==== Proof.Mlstm.KernelStep.lean ====
/-
  What one run of the kernel's body leaves, read as the body's own values of the blocks it was given: the hidden rows,
  and the three parts of the state, in each of the body's three cases (the first chunk of a sequence, which starts from
  the state given; a middle chunk; the last chunk, which also writes the state out).
-/
module

public import proofs.«01_k».proof.Proof.Mlstm.Gates
public import proofs.«01_k».proof.Proof.Gen.KernelIdeal.Frame

@[expose] public section

set_option maxRecDepth 16384

noncomputable section

open Idealize.ShloMosaic Idealize.ShloMosaic.TcCoe Idealize.ShloMosaic.Tactic Cert.KernelIdeal Cert.KernelIdeal.Gen

namespace Mlstm.K

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The biases' row the body loads: the first of the eight. -/
def r6 (x6 : Vec Ideal S1x8x8 .f32) : Vec Ideal S1x1x8 .f32 := fun j => x6 (ix3 0 0 (j 2))

theorem ld6 (x6 : Vec Ideal S1x8x8 .f32) : View.ld x6 (Rect.unit ![0, 0, 0] ![1, 1, 8] inb_S1x8x8_S1x1x8_0_0_0) = r6 x6 := by
  funext j
  idx_vars j
  pointwise [r6]

/-- The body's new matrix memory. -/
abbrev bC (x1 : Vec Ideal S128x128 .f32) (x2 : Vec Ideal S128x256 .f32) (x4 : Vec Ideal S1x128x8 .f32) (x5 : Vec Ideal S1x8x128 .f32)
    (y6 : Vec Ideal S1x1x8 .f32) (x7 : Vec Ideal S1x8x128 .f32) (C : Vec Ideal S128x256 .f32) (m : Vec Ideal S1x1 .f32) : FVec Ideal S128x256 .f32 :=
  k0_pay35 (k0_pay15 (k0_pay10 x4 y6)) (k0_pay16 (k0_pay12 x5 x7) (k0_pay13 x5 x7)) (k0_pay17 (k0_pay8 x4 y6)) (k0_pay18 (k0_pay9 x5 x7)) m
    (k0_pay24 x1) (k0_pay25 x2) C

/-- The body's new normalizer. -/
abbrev bN (x1 : Vec Ideal S128x128 .f32) (x5 x7 : Vec Ideal S1x8x128 .f32) (n : Vec Ideal S1x128 .f32) (m : Vec Ideal S1x1 .f32) : FVec Ideal S1x128 .f32 :=
  k0_pay36 (k0_pay16 (k0_pay12 x5 x7) (k0_pay13 x5 x7)) (k0_pay18 (k0_pay9 x5 x7)) m (k0_pay24 x1) n

/-- The body's new stabilizer. -/
abbrev bM (x5 x7 : Vec Ideal S1x8x128 .f32) (m : Vec Ideal S1x1 .f32) : FVec Ideal S1x1 .f32 :=
  k0_pay33 (k0_pay16 (k0_pay12 x5 x7) (k0_pay13 x5 x7)) (k0_pay18 (k0_pay9 x5 x7)) m

/-- The body's hidden rows. -/
abbrev bHid (x0 x1 : Vec Ideal S128x128 .f32) (x2 x3 : Vec Ideal S128x256 .f32) (x4 : Vec Ideal S1x128x8 .f32) (x5 : Vec Ideal S1x8x128 .f32)
    (y6 : Vec Ideal S1x1x8 .f32) (x7 : Vec Ideal S1x8x128 .f32) (x8 : Vec Ideal S1x1x256 .f32)
    (C : Vec Ideal S128x256 .f32) (n : Vec Ideal S1x128 .f32) (m : Vec Ideal S1x1 .f32) : FVec Ideal S128x256 .bf16 :=
  k0_pay29 (k0_pay27 (k0_pay21 (k0_pay9 x5 x7) (k0_pay10 x4 y6) (k0_pay12 x5 x7) (k0_pay13 x5 x7) m)
    (k0_pay22 (k0_pay9 x5 x7) (k0_pay10 x4 y6) (k0_pay12 x5 x7) (k0_pay13 x5 x7) m)
    (k0_pay23 (k0_pay9 x5 x7) (k0_pay10 x4 y6) (k0_pay12 x5 x7) (k0_pay13 x5 x7) m)
    x0 (k0_pay24 x1) (k0_pay25 x2) (k0_pay26 x0) C n x8) (k0_pay28 x3)

section Runs

variable (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x128x8 .f32) (harg7 : arg7.IsWhole) (arg8 : Memref sig .tc .vmem S1x8x128 .f32) (harg8 : arg8.IsWhole) (arg9 : Memref sig .tc .vmem S1x8x8 .f32) (harg9 : arg9.IsWhole) (arg10 : Memref sig .tc .vmem S1x8x128 .f32) (harg10 : arg10.IsWhole) (arg11 : Memref sig .tc .vmem S1x1x256 .f32) (harg11 : arg11.IsWhole) (arg12 : Memref sig .tc .vmem S1x128x256 .f32) (harg12 : arg12.IsWhole) (arg13 : Memref sig .tc .vmem S1x1x128 .f32) (harg13 : arg13.IsWhole) (arg14 : Memref sig .tc .vmem S1x1x1 .f32) (harg14 : arg14.IsWhole) (arg15 : Memref sig .tc .vmem S128x256 .bf16) (harg15 : arg15.IsWhole) (arg16 : Memref sig .tc .vmem S1x1x128x256 .f32) (harg16 : arg16.IsWhole) (arg17 : Memref sig .tc .vmem S1x1x1x128 .f32) (harg17 : arg17.IsWhole) (arg18 : Memref sig .tc .vmem S1x1x1x1 .f32) (harg18 : arg18.IsWhole) (arg19 : Memref sig .tc .vmem S128x256 .f32) (harg19 : arg19.IsWhole) (arg20 : Memref sig .tc .vmem S1x128 .f32) (harg20 : arg20.IsWhole) (arg21 : Memref sig .tc .vmem S1x1 .f32) (harg21 : arg21.IsWhole)
variable (x0 : Vec Ideal S128x128 .f32) (x1 : Vec Ideal S128x128 .f32) (x2 : Vec Ideal S128x256 .f32) (x3 : Vec Ideal S128x256 .f32) (x4 : Vec Ideal S1x128x8 .f32) (x5 : Vec Ideal S1x8x128 .f32) (x6 : Vec Ideal S1x8x8 .f32) (x7 : Vec Ideal S1x8x128 .f32) (x8 : Vec Ideal S1x1x256 .f32) (x9 : Vec Ideal S1x128x256 .f32) (x10 : Vec Ideal S1x1x128 .f32) (x11 : Vec Ideal S1x1x1 .f32) (xs0 : Vec Ideal S128x256 .f32) (xs1 : Vec Ideal S1x128 .f32) (xs2 : Vec Ideal S1x1 .f32)

theorem out0_A_12_eq (hc0 : cond0_0 i) (hc1 : ¬cond0_1 i) :
    out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = (bHid x0 x1 x2 x3 x4 x5 (r6 x6) x7 x8 (k0_pay5 x9) (k0_pay6 x10) (k0_pay7 x11)) := by
  unfold out0_A_12
  rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)]
  unfold kernelRun0_A
  dsimp only
  sl_unfold_words
  first | rw [View.canon_unit_zero hz2] | rw [View.canon_cons_unit_zero (S := S128x256) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem sout0_A_0_eq (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = (bC x1 x2 x4 x5 (r6 x6) x7 (k0_pay5 x9) (k0_pay7 x11)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)]
  unfold kernelRun0_A
  dsimp only
  sl_unfold_words
  first | rw [View.canon_unit_zero hz2] | rw [View.canon_cons_unit_zero (S := S128x256) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem sout0_A_1_eq (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = (bN x1 x5 x7 (k0_pay6 x10) (k0_pay7 x11)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)]
  unfold kernelRun0_A
  dsimp only
  sl_unfold_words
  first | rw [View.canon_unit_zero hz2] | rw [View.canon_cons_unit_zero (S := S1x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem sout0_A_2_eq (hc0 : cond0_0 i) (hc1 : ¬cond0_1 i) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = (bM x5 x7 (k0_pay7 x11)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11)]
  unfold kernelRun0_A
  dsimp only
  sl_unfold_words
  first | rw [View.canon_unit_zero hz2] | rw [View.canon_cons_unit_zero (S := S1x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem out0_B_12_eq (hc0 : ¬cond0_0 i) (hc1 : ¬cond0_1 i) :
    out0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (bHid x0 x1 x2 x3 x4 x5 (r6 x6) x7 x8 xs0 xs1 xs2) := by
  unfold out0_B_12
  rw [View.read_writes_eq_canon _ _ _ (cover0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_B
  dsimp only
  sl_unfold_words
  first | rw [View.canon_unit_zero hz2] | rw [View.canon_cons_unit_zero (S := S128x256) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem sout0_B_0_eq (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (bC x1 x2 x4 x5 (r6 x6) x7 xs0 xs2) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_B
  dsimp only
  sl_unfold_words
  first | rw [View.canon_unit_zero hz2] | rw [View.canon_cons_unit_zero (S := S128x256) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem sout0_B_1_eq (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (bN x1 x5 x7 xs1 xs2) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_B
  dsimp only
  sl_unfold_words
  first | rw [View.canon_unit_zero hz2] | rw [View.canon_cons_unit_zero (S := S1x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem sout0_B_2_eq (hc0 : ¬cond0_0 i) (hc1 : ¬cond0_1 i) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (bM x5 x7 xs2) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_B
  dsimp only
  sl_unfold_words
  first | rw [View.canon_unit_zero hz2] | rw [View.canon_cons_unit_zero (S := S1x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem out0_C_12_eq (hc0 : ¬cond0_0 i) (hc1 : cond0_1 i) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (bHid x0 x1 x2 x3 x4 x5 (r6 x6) x7 x8 xs0 xs1 xs2) := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_C
  dsimp only
  sl_unfold_words
  first | rw [View.canon_unit_zero hz2] | rw [View.canon_cons_unit_zero (S := S128x256) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem out0_C_13_eq (hc0 : ¬cond0_0 i) (hc1 : cond0_1 i) :
    out0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (k0_pay2 (bC x1 x2 x4 x5 (r6 x6) x7 xs0 xs2)) := by
  unfold out0_C_13
  rw [View.read_writes_eq_canon _ _ _ (cover0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_C
  dsimp only
  sl_unfold_words
  first | rw [View.canon_unit_zero hz4] | rw [View.canon_cons_unit_zero (S := S1x1x128x256) hz4]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem out0_C_14_eq (hc0 : ¬cond0_0 i) (hc1 : cond0_1 i) :
    out0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (k0_pay3 (bN x1 x5 x7 xs1 xs2)) := by
  unfold out0_C_14
  rw [View.read_writes_eq_canon _ _ _ (cover0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_C
  dsimp only
  sl_unfold_words
  first | rw [View.canon_unit_zero hz4] | rw [View.canon_cons_unit_zero (S := S1x1x1x128) hz4]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

theorem out0_C_15_eq (hc0 : ¬cond0_0 i) (hc1 : cond0_1 i) :
    out0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2 = (k0_pay4 (bM x5 x7 xs2)) := by
  unfold out0_C_15
  rw [View.read_writes_eq_canon _ _ _ (cover0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1 xs2)]
  unfold kernelRun0_C
  dsimp only
  sl_unfold_words
  first | rw [View.canon_unit_zero hz4] | rw [View.canon_cons_unit_zero (S := S1x1x1x1) hz4]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, harg21.read_unread, View.ld_unit_zero (S := S128x128) hz2, View.ld_unit_zero (S := S128x256) hz2,
    View.ld_unit_zero (S := S1x128x8) hz3, View.ld_unit_zero (S := S1x8x128) hz3, View.ld_unit_zero (S := S1x1x256) hz3, View.ld_unit_zero (S := S1x128x256) hz3,
    View.ld_unit_zero (S := S1x1x128) hz3, View.ld_unit_zero (S := S1x1x1) hz3, View.ld_unit_zero (S := S1x128) hz2, View.ld_unit_zero (S := S1x1) hz2,
    View.readCov_unit_zero (S := S128x256) _ hz2, View.readCov_unit_zero (S := S1x128) _ hz2, View.readCov_unit_zero (S := S1x1) _ hz2, shapeCast_self]
  try simp only [ld6]
  try simp only [k0_pay37, k0_pay38, k0_pay1, shapeCast_self]

end Runs

end Mlstm.K

end
-- ==== Proof.Mlstm.Body.lean ====
/-
  One run of the body as one chunk of the recurrence: from blocks that hold a chunk's inputs and a state, the values the
  body computes hold the next state and the chunk's output rows.
-/
module

public import proofs.«01_k».proof.Proof.Mlstm.KernelStep

@[expose] public section

set_option maxRecDepth 16384

noncomputable section

open Idealize.ShloMosaic Idealize.ShloMosaic.TcCoe Cert.KernelIdeal Cert.KernelIdeal.Gen

namespace Mlstm.K

/-- The factor the body multiplies the keys by. -/
abbrev ks : EReal := Named.named (F := Ideal) Cert.KernelIdeal.κ "s" (φ := .f32) 0x3DB504F3#32

/-- Three vectors hold a state. -/
structure Holds (C : Vec Ideal S128x256 .f32) (n : Vec Ideal S1x128 .f32) (m : Vec Ideal S1x1 .f32) (a : St) : Prop where
  C : ∀ d w, C (ix2 d w) = a.C d w
  n : ∀ d, n (ix2 0 d) = a.n d
  m : m (ix2 0 0) = a.m

/-- The blocks hold a chunk's inputs. -/
structure BlkOK (x : Inp) (g : Fin 256 → EReal) (o : Fin 128 → Fin 256 → EReal)
    (x0 x1 : Vec Ideal S128x128 .f32) (x2 x3 : Vec Ideal S128x256 .f32) (x4 : Vec Ideal S1x128x8 .f32) (x5 : Vec Ideal S1x8x128 .f32)
    (x6 : Vec Ideal S1x8x8 .f32) (x7 : Vec Ideal S1x8x128 .f32) (x8 : Vec Ideal S1x1x256 .f32) : Prop where
  q : ∀ t d, x0 (ix2 t d) = x.q t d
  k : ∀ t d, x1 (ix2 t d) * ks = x.k t d
  v : ∀ t w, x2 (ix2 t w) = x.v t w
  o : ∀ t w, x3 (ix2 t w) = o t w
  lic : ∀ t, x4 (ix3 0 t 0) + x6 (ix3 0 0 0) = x.li t
  lfc : ∀ t, lsig (x4 (ix3 0 t 1) + x6 (ix3 0 0 1)) = x.lf t
  lir : ∀ t, x5 (ix3 0 0 t) + x7 (ix3 0 0 t) = x.li t
  lfr : ∀ t, lsig (x5 (ix3 0 1 t) + x7 (ix3 0 1 t)) = x.lf t
  g : ∀ w, x8 (ix3 0 0 w) = g w

variable {x : Inp} {g : Fin 256 → EReal} {o : Fin 128 → Fin 256 → EReal}
  {x0 x1 : Vec Ideal S128x128 .f32} {x2 x3 : Vec Ideal S128x256 .f32} {x4 : Vec Ideal S1x128x8 .f32} {x5 : Vec Ideal S1x8x128 .f32}
  {x6 : Vec Ideal S1x8x8 .f32} {x7 : Vec Ideal S1x8x128 .f32} {x8 : Vec Ideal S1x1x256 .f32}
  {C : Vec Ideal S128x256 .f32} {n : Vec Ideal S1x128 .f32} {m : Vec Ideal S1x1 .f32} {a : St}

theorem gates (B : BlkOK x g o x0 x1 x2 x3 x4 x5 x6 x7 x8) (hm : m (ix2 0 0) = a.m) :
    Gates a x (k0_pay8 x4 (r6 x6)) (k0_pay9 x5 x7) (k0_pay10 x4 (r6 x6)) (k0_pay12 x5 x7) (k0_pay13 x5 x7) m where
  licol t := by rw [gcol]; exact B.lic t
  lirow t := by rw [grow]; exact B.lir t
  lfcol t := by rw [lsc]; exact B.lfc t
  lfrow t := by rw [lsr]; exact B.lfr t
  mm := hm

theorem ends (B : BlkOK x g o x0 x1 x2 x3 x4 x5 x6 x7 x8) (hm : m (ix2 0 0) = a.m) :
    Ends (a := a) (x := x) (k0_pay15 (k0_pay10 x4 (r6 x6))) (k0_pay16 (k0_pay12 x5 x7) (k0_pay13 x5 x7)) (k0_pay17 (k0_pay8 x4 (r6 x6)))
      (k0_pay18 (k0_pay9 x5 x7)) m where
  bcol := bc_col (gates B hm)
  brow := bc_row (gates B hm)
  lcol := li_col (gates B hm)
  lrow := li_row (gates B hm)
  mm := hm

theorem keys (B : BlkOK x g o x0 x1 x2 x3 x4 x5 x6 x7 x8) (t d : Fin 128) : k0_pay24 x1 (ix2 t d) = x.k t d := by
  pointwise [k0_pay24]
  exact B.k t d

theorem vals (B : BlkOK x g o x0 x1 x2 x3 x4 x5 x6 x7 x8) (t : Fin 128) (w : Fin 256) : k0_pay25 x2 (ix2 t w) = x.v t w := by
  pointwise [k0_pay25]
  exact B.v t w

theorem quers (B : BlkOK x g o x0 x1 x2 x3 x4 x5 x6 x7 x8) (t d : Fin 128) : k0_pay26 x0 (ix2 t d) = x.q t d := by
  pointwise [k0_pay26]
  exact B.q t d

theorem body_state (B : BlkOK x g o x0 x1 x2 x3 x4 x5 x6 x7 x8) (H : Holds C n m a) :
    Holds (bC x1 x2 x4 x5 (r6 x6) x7 C m) (bN x1 x5 x7 n m) (bM x5 x7 m) (step a x) where
  C d w := newC (ends B H.m) (keys B) (vals B) H.C d w
  n d := newN (ends B H.m) (keys B) H.n d
  m := mNew_eq (ends B H.m)

theorem body_out (B : BlkOK x g o x0 x1 x2 x3 x4 x5 x6 x7 x8) (H : Holds C n m a) (t : Fin 128) (w : Fin 256) :
    bHid x0 x1 x2 x3 x4 x5 (r6 x6) x7 x8 C n m (ix2 t w) = outp (hid a x t) (g w) (o t w) w := by
  rw [← B.g w, ← B.o t w]
  exact hidden x8 x3 (mt_eq (gates B H.m)) (wIntra_eq (gates B H.m)) (wInter_eq (gates B H.m)) B.q (keys B) (vals B) (quers B) H.C H.n t w

/-- The state a sequence starts from, as the body's first stores write it. -/
theorem start {x9 : Vec Ideal S1x128x256 .f32} {x10 : Vec Ideal S1x1x128 .f32} {x11 : Vec Ideal S1x1x1 .f32}
    (hC : ∀ d w, x9 (ix3 0 d w) = a.C d w) (hn : ∀ d, x10 (ix3 0 0 d) = a.n d) (hm : x11 (ix3 0 0 0) = a.m) :
    Holds (k0_pay5 x9) (k0_pay6 x10) (k0_pay7 x11) a where
  C d w := by
    pointwise [k0_pay5]
    exact hC d w
  n d := by
    pointwise [k0_pay6]
    exact hn d
  m := by
    pointwise [k0_pay7]
    exact hm

theorem endC (C : FVec Ideal S128x256 .f32) (d : Fin 128) (w : Fin 256) : k0_pay2 C (ix4 0 0 d w) = C (ix2 d w) := by
  pointwise [k0_pay2]
theorem endN (n : FVec Ideal S1x128 .f32) (d : Fin 128) : k0_pay3 n (ix4 0 0 0 d) = n (ix2 0 d) := by
  pointwise [k0_pay3]
theorem endM (m : FVec Ideal S1x1 .f32) : k0_pay4 m (ix4 0 0 0 0) = m (ix2 0 0) := by
  pointwise [k0_pay4]

end Mlstm.K

end
-- ==== Proof.Mlstm.Host.lean ====
/-
  What the host operations before the kernel's region leave in the arrays its windows read: the gates' columns of the
  small projection, once with the gate on the lanes and once on the sublanes, both padded to eight; the two biases
  scattered into zeros; the gain reshaped.
-/
module

public import proofs.«01_k».proof.Proof.Mlstm.Spec
public import proofs.«01_k».proof.Proof.Gen.KernelIdeal.Frame.Runs
public import Idealize.ShloMosaic.Lib.Routing.OpsSet
public import Idealize.ShloMosaic.Lib.Routing.OpsPair
public import Idealize.ShloMosaic.Lib.Claim

@[expose] public section

set_option maxRecDepth 16384

noncomputable section

open Idealize.ShloMosaic Idealize.ShloMosaic.TcCoe Cert.KernelIdeal Cert.KernelIdeal.Gen
open Idealize.ShloMosaic.Routing

namespace Mlstm.K

variable (m : (ℓ : Loc nD τ sig) → Buf (Elt Ideal) ℓ) (c : Dev nD)

/-! ## The biases' scatters -/

section Scatter
variable {α : Type}

theorem lands8 (idx : IVec S2 32) (k : Fin 8) (h r g : Fin 8) :
    scatter_S8x8x8_S2_S8_0_12_12_0.resultIdx? (ix1 k) idx = some (ix3 h r g)
      ↔ k = h ∧ (idx (ix1 0)).toInt = r.val ∧ (idx (ix1 1)).toInt = g.val := by
  have s0 : scatter_S8x8x8_S2_S8_0_12_12_0.start (ix1 k) idx 0 = 0 := rfl
  have s1 : scatter_S8x8x8_S2_S8_0_12_12_0.start (ix1 k) idx 1 = (idx (ix1 0)).toInt :=
    congrArg (fun j => (idx j).toInt) (funext fun b => by fin_cases b; rfl)
  have s2 : scatter_S8x8x8_S2_S8_0_12_12_0.start (ix1 k) idx 2 = (idx (ix1 1)).toInt :=
    congrArg (fun j => (idx j).toInt) (funext fun b => by fin_cases b; rfl)
  have w0 : scatter_S8x8x8_S2_S8_0_12_12_0.window (ix1 k) 0 = k.val := rfl
  have w1 : scatter_S8x8x8_S2_S8_0_12_12_0.window (ix1 k) 1 = 0 := rfl
  have w2 : scatter_S8x8x8_S2_S8_0_12_12_0.window (ix1 k) 2 = 0 := rfl
  rw [resultIdx?_eq_some]
  constructor
  · intro H
    have h0 := H 0; have h1 := H 1; have h2 := H 2
    rw [s0, w0] at h0; rw [s1, w1] at h1; rw [s2, w2] at h2
    change (0 : Int) + (k.val : Int) = (h.val : Int) at h0
    change _ = (r.val : Int) at h1
    change _ = (g.val : Int) at h2
    exact ⟨Fin.ext (by omega), by omega, by omega⟩
  · rintro ⟨rfl, h1, h2⟩ a
    fin_cases a
    · show scatter_S8x8x8_S2_S8_0_12_12_0.start (ix1 k) idx 0 + (scatter_S8x8x8_S2_S8_0_12_12_0.window (ix1 k) 0 : Int) = (k.val : Int)
      rw [s0, w0]; omega
    · show scatter_S8x8x8_S2_S8_0_12_12_0.start (ix1 k) idx 1 + (scatter_S8x8x8_S2_S8_0_12_12_0.window (ix1 k) 1 : Int) = (r.val : Int)
      rw [s1, w1]; omega
    · show scatter_S8x8x8_S2_S8_0_12_12_0.start (ix1 k) idx 2 + (scatter_S8x8x8_S2_S8_0_12_12_0.window (ix1 k) 2 : Int) = (g.val : Int)
      rw [s2, w2]; omega

theorem set8 (x : S8x8x8.Idx → α) (idx : IVec S2 32) (u : S8.Idx → α) (h r g : Fin 8) :
    Host.scatter scatter_S8x8x8_S2_S8_0_12_12_0 (fun _ b => b) x idx u (ix3 h r g)
      = if (idx (ix1 0)).toInt = r.val ∧ (idx (ix1 1)).toInt = g.val then u (ix1 h) else x (ix3 h r g) := by
  by_cases e : (idx (ix1 0)).toInt = r.val ∧ (idx (ix1 1)).toInt = g.val
  · rw [if_pos e]
    refine scatter_set_hit _ x idx u _ _ (fun k hk => ?_) (ix1 h) ((lands8 idx h h r g).2 ⟨rfl, e.1, e.2⟩)
    obtain ⟨k, rfl⟩ : ∃ k' : Fin 8, k = ix1 k' := ⟨k 0, eq_ix1 k⟩
    rw [((lands8 idx k h r g).1 hk).1]
  · rw [if_neg e]
    refine scatter_set_miss _ x idx u _ (fun k hk => e ?_)
    obtain ⟨k, rfl⟩ : ∃ k' : Fin 8, k = ix1 k' := ⟨k 0, eq_ix1 k⟩
    exact ((lands8 idx k h r g).1 hk).2

theorem lands128 (idx : IVec S1 32) (k : Fin 8) (l : Fin 128) (h g : Fin 8) (t : Fin 128) :
    scatter_S8x8x128_S1_S8x128_01_1_1_0.resultIdx? (ix2 k l) idx = some (ix3 h g t)
      ↔ k = h ∧ l = t ∧ (idx (ix1 0)).toInt = g.val := by
  have s0 : scatter_S8x8x128_S1_S8x128_01_1_1_0.start (ix2 k l) idx 0 = 0 := rfl
  have s1 : scatter_S8x8x128_S1_S8x128_01_1_1_0.start (ix2 k l) idx 1 = (idx (ix1 0)).toInt :=
    congrArg (fun j => (idx j).toInt) (funext fun b => by fin_cases b; rfl)
  have s2 : scatter_S8x8x128_S1_S8x128_01_1_1_0.start (ix2 k l) idx 2 = 0 := rfl
  have w0 : scatter_S8x8x128_S1_S8x128_01_1_1_0.window (ix2 k l) 0 = k.val := rfl
  have w1 : scatter_S8x8x128_S1_S8x128_01_1_1_0.window (ix2 k l) 1 = 0 := rfl
  have w2 : scatter_S8x8x128_S1_S8x128_01_1_1_0.window (ix2 k l) 2 = l.val := rfl
  rw [resultIdx?_eq_some]
  constructor
  · intro H
    have h0 := H 0; have h1 := H 1; have h2 := H 2
    rw [s0, w0] at h0; rw [s1, w1] at h1; rw [s2, w2] at h2
    change (0 : Int) + (k.val : Int) = (h.val : Int) at h0
    change _ = (g.val : Int) at h1
    change (0 : Int) + (l.val : Int) = (t.val : Int) at h2
    exact ⟨Fin.ext (by omega), Fin.ext (by omega), by omega⟩
  · rintro ⟨rfl, rfl, h1⟩ a
    fin_cases a
    · show scatter_S8x8x128_S1_S8x128_01_1_1_0.start (ix2 k l) idx 0 + (scatter_S8x8x128_S1_S8x128_01_1_1_0.window (ix2 k l) 0 : Int) = (k.val : Int)
      rw [s0, w0]; omega
    · show scatter_S8x8x128_S1_S8x128_01_1_1_0.start (ix2 k l) idx 1 + (scatter_S8x8x128_S1_S8x128_01_1_1_0.window (ix2 k l) 1 : Int) = (g.val : Int)
      rw [s1, w1]; omega
    · show scatter_S8x8x128_S1_S8x128_01_1_1_0.start (ix2 k l) idx 2 + (scatter_S8x8x128_S1_S8x128_01_1_1_0.window (ix2 k l) 2 : Int) = (l.val : Int)
      rw [s2, w2]; omega

theorem set128 (x : S8x8x128.Idx → α) (idx : IVec S1 32) (u : S8x128.Idx → α) (h g : Fin 8) (t : Fin 128) :
    Host.scatter scatter_S8x8x128_S1_S8x128_01_1_1_0 (fun _ b => b) x idx u (ix3 h g t)
      = if (idx (ix1 0)).toInt = g.val then u (ix2 h t) else x (ix3 h g t) := by
  by_cases e : (idx (ix1 0)).toInt = g.val
  · rw [if_pos e]
    refine scatter_set_hit _ x idx u _ _ (fun k hk => ?_) (ix2 h t) ((lands128 idx h t h g t).2 ⟨rfl, rfl, e⟩)
    obtain ⟨k, l, rfl⟩ : ∃ (k' : Fin 8) (l' : Fin 128), k = ix2 k' l' := ⟨k 0, k 1, eq_ix2 k⟩
    have := (lands128 idx k l h g t).1 hk
    rw [this.1, this.2.1]
  · rw [if_neg e]
    refine scatter_set_miss _ x idx u _ (fun k hk => e ?_)
    obtain ⟨k, l, rfl⟩ : ∃ (k' : Fin 8) (l' : Fin 128), k = ix2 k' l' := ⟨k 0, k 1, eq_ix2 k⟩
    exact ((lands128 idx k l h g t).1 hk).2.2

end Scatter

/-! ## The arrays at the region's entry -/

/-- The gates' columns of the small projection, the gate on the lanes. -/
abbrev aCol : S8x8448x8.Idx → EReal := V m c main_v22
/-- The same, the gate on the sublanes. -/
abbrev aRow : S8x8x8448.Idx → EReal := V m c main_v24
/-- The biases, the gate on the lanes. -/
abbrev aBiasC : S8x8x8.Idx → EReal := V m c main_v8
/-- The biases, the gate on the sublanes. -/
abbrev aBiasR : S8x8x128.Idx → EReal := V m c main_v17
/-- The gain, one row per head. -/
abbrev aGain : S8x1x256.Idx → EReal := V m c main_v18

theorem V_arg0 :
    V m c main_arg0 = m (c, main_arg0) := by
  unfold_abbrev_sides
  simp only [hostOps0, hostOps0_1, hostOps0_2, hostOps0_3, List.flatten_cons, List.flatten_nil, List.cons_append, List.nil_append]
  after_results

theorem V_arg5 :
    V m c main_arg5 = m (c, main_arg5) := by
  unfold_abbrev_sides
  simp only [hostOps0, hostOps0_1, hostOps0_2, hostOps0_3, List.flatten_cons, List.flatten_nil, List.cons_append, List.nil_append]
  after_results

theorem V_arg6 :
    V m c main_arg6 = m (c, main_arg6) := by
  unfold_abbrev_sides
  simp only [hostOps0, hostOps0_1, hostOps0_2, hostOps0_3, List.flatten_cons, List.flatten_nil, List.cons_append, List.nil_append]
  after_results

theorem V_arg7 :
    V m c main_arg7 = m (c, main_arg7) := by
  unfold_abbrev_sides
  simp only [hostOps0, hostOps0_1, hostOps0_2, hostOps0_3, List.flatten_cons, List.flatten_nil, List.cons_append, List.nil_append]
  after_results

theorem aCol_0 (h : Fin 8) (r : Fin 8448) :
    aCol m c (ix3 h r 0) = (m (c, main_arg1) : S8448x128.Idx → EReal) (ix2 r ⟨32 + h.val, by omega⟩) := by
  unfold_abbrev_sides
  simp only [hostOps0, hostOps0_1, hostOps0_2, hostOps0_3, List.flatten_cons, List.flatten_nil, List.cons_append, List.nil_append]
  after_results
  simp only [StableHlo.TRef.toBuf, StableHlo.TRef.ofBuf, cast_eq]
  pointwise []

theorem aRow_0 (h : Fin 8) (r : Fin 8448) :
    aRow m c (ix3 h 0 r) = (m (c, main_arg1) : S8448x128.Idx → EReal) (ix2 r ⟨32 + h.val, by omega⟩) := by
  unfold_abbrev_sides
  simp only [hostOps0, hostOps0_1, hostOps0_2, hostOps0_3, List.flatten_cons, List.flatten_nil, List.cons_append, List.nil_append]
  after_results
  simp only [StableHlo.TRef.toBuf, StableHlo.TRef.ofBuf, cast_eq]
  pointwise []

theorem aBiasC_0 (h : Fin 8) :
    aBiasC m c (ix3 h 0 0) = (m (c, main_arg2) : S8.Idx → EReal) (ix1 h) := by
  unfold_abbrev_sides
  simp only [hostOps0, hostOps0_1, hostOps0_2, hostOps0_3, List.flatten_cons, List.flatten_nil, List.cons_append, List.nil_append]
  after_results
  simp only [set8]
  pointwise []
  rfl
theorem aBiasR_0 (h : Fin 8) (t : Fin 128) :
    aBiasR m c (ix3 h 0 t) = (m (c, main_arg2) : S8.Idx → EReal) (ix1 h) := by
  unfold_abbrev_sides
  simp only [hostOps0, hostOps0_1, hostOps0_2, hostOps0_3, List.flatten_cons, List.flatten_nil, List.cons_append, List.nil_append]
  after_results
  simp only [set128]
  pointwise []
  rfl
theorem aCol_1 (h : Fin 8) (r : Fin 8448) :
    aCol m c (ix3 h r 1) = (m (c, main_arg1) : S8448x128.Idx → EReal) (ix2 r ⟨40 + h.val, by omega⟩) := by
  unfold_abbrev_sides
  simp only [hostOps0, hostOps0_1, hostOps0_2, hostOps0_3, List.flatten_cons, List.flatten_nil, List.cons_append, List.nil_append]
  after_results
  simp only [StableHlo.TRef.toBuf, StableHlo.TRef.ofBuf, cast_eq]
  pointwise []
  exact congrArg (fun k => (m (c, main_arg1) : S8448x128.Idx → EReal) (ix2 r k)) (Fin.ext (by show 32 + (8 + h.val) = 40 + h.val; omega))
theorem aRow_1 (h : Fin 8) (r : Fin 8448) :
    aRow m c (ix3 h 1 r) = (m (c, main_arg1) : S8448x128.Idx → EReal) (ix2 r ⟨40 + h.val, by omega⟩) := by
  unfold_abbrev_sides
  simp only [hostOps0, hostOps0_1, hostOps0_2, hostOps0_3, List.flatten_cons, List.flatten_nil, List.cons_append, List.nil_append]
  after_results
  simp only [StableHlo.TRef.toBuf, StableHlo.TRef.ofBuf, cast_eq]
  pointwise []
  exact congrArg (fun k => (m (c, main_arg1) : S8448x128.Idx → EReal) (ix2 r k)) (Fin.ext (by show 32 + (8 + h.val) = 40 + h.val; omega))
theorem aBiasC_1 (h : Fin 8) :
    aBiasC m c (ix3 h 0 1) = (m (c, main_arg3) : S8.Idx → EReal) (ix1 h) := by
  unfold_abbrev_sides
  simp only [hostOps0, hostOps0_1, hostOps0_2, hostOps0_3, List.flatten_cons, List.flatten_nil, List.cons_append, List.nil_append]
  after_results
  simp only [set8]
  pointwise []
  rfl
theorem aBiasR_1 (h : Fin 8) (t : Fin 128) :
    aBiasR m c (ix3 h 1 t) = (m (c, main_arg3) : S8.Idx → EReal) (ix1 h) := by
  unfold_abbrev_sides
  simp only [hostOps0, hostOps0_1, hostOps0_2, hostOps0_3, List.flatten_cons, List.flatten_nil, List.cons_append, List.nil_append]
  after_results
  simp only [set128]
  pointwise []
  rfl
theorem aGain_eq (h : Fin 8) (w : Fin 256) :
    aGain m c (ix3 h 0 w) = (m (c, main_arg4) : S2048.Idx → EReal) (ix1 ⟨h.val * 256 + w.val, by omega⟩) := by
  unfold_abbrev_sides
  simp only [hostOps0, hostOps0_1, hostOps0_2, hostOps0_3, List.flatten_cons, List.flatten_nil, List.cons_append, List.nil_append]
  after_results
  pointwise []

end Mlstm.K

end
-- ==== Proof.Mlstm.Blocks.lean ====
/-
  The blocks the kernel's windows read at a grid point, element by element: point `t` works on sequence `t / 128`, head
  `t / 16 % 8` and chunk `t % 16` of the sequence.
-/
module

public import proofs.«01_k».proof.Proof.Mlstm.Host
public import Idealize.ShloMosaic.Lib.Pipeline.ValueKit.Point

@[expose] public section

set_option maxRecDepth 16384

noncomputable section

open Idealize.ShloMosaic Idealize.ShloMosaic.TcCoe Cert.KernelIdeal Cert.KernelIdeal.Gen

namespace Mlstm.K

variable (m : (ℓ : Loc nD τ sig) → Buf (Elt Ideal) ℓ) (c : Dev nD)

theorem tlt (t : Fin cfg0.N) : t.val < 512 := lt_of_lt_of_eq t.isLt N_0

/-- The point's head. -/
def hd (t : Fin cfg0.N) : Fin 8 := ⟨t.val / 16 % 8, by omega⟩
/-- Row `r` of the point's chunk, in the arrays of all rows. -/
def row (t : Fin cfg0.N) (r : Fin 128) : Fin 8448 := ⟨(t.val / 128 * 16 + t.val % 16) * 128 + r.val, by have := tlt t; omega⟩
theorem hd_val (t : Fin cfg0.N) : (hd t).val = t.val / 16 % 8 := rfl
theorem row_val (t : Fin cfg0.N) (r : Fin 128) : (row t r).val = (t.val / 128 * 16 + t.val % 16) * 128 + r.val := rfl

theorem idx0 : ∀ t : Fin cfg0.N, (cfg0.win 0).index t = ![t.val / 128 * 16 + t.val % 16, 40 + t.val / 16 % 8] := by decide +kernel
theorem idx1 : ∀ t : Fin cfg0.N, (cfg0.win 1).index t = ![t.val / 128 * 16 + t.val % 16, 48 + t.val / 16 % 8] := by decide +kernel
theorem idx2 : ∀ t : Fin cfg0.N, (cfg0.win 2).index t = ![t.val / 128 * 16 + t.val % 16, 28 + t.val / 16 % 8] := by decide +kernel
theorem idx3 : ∀ t : Fin cfg0.N, (cfg0.win 3).index t = ![t.val / 128 * 16 + t.val % 16, 36 + t.val / 16 % 8] := by decide +kernel
theorem idx4 : ∀ t : Fin cfg0.N, (cfg0.win 4).index t = ![t.val / 16 % 8, t.val / 128 * 16 + t.val % 16, 0] := by decide +kernel
theorem idx5 : ∀ t : Fin cfg0.N, (cfg0.win 5).index t = ![t.val / 16 % 8, 0, t.val / 128 * 16 + t.val % 16] := by decide +kernel
theorem idx6 : ∀ t : Fin cfg0.N, (cfg0.win 6).index t = ![t.val / 16 % 8, 0, 0] := by decide +kernel
theorem idx7 : ∀ t : Fin cfg0.N, (cfg0.win 7).index t = ![t.val / 16 % 8, 0, 0] := by decide +kernel
theorem idx8 : ∀ t : Fin cfg0.N, (cfg0.win 8).index t = ![t.val / 16 % 8, 0, 0] := by decide +kernel
theorem idx9 : ∀ t : Fin cfg0.N, (cfg0.win 9).index t = ![t.val / 16 % 8, 0, 0] := by decide +kernel
theorem idx10 : ∀ t : Fin cfg0.N, (cfg0.win 10).index t = ![t.val / 16 % 8, 0, 0] := by decide +kernel
theorem idx11 : ∀ t : Fin cfg0.N, (cfg0.win 11).index t = ![t.val / 16 % 8, 0, 0] := by decide +kernel
theorem idx12 : ∀ t : Fin cfg0.N, (cfg0.win 12).index t = ![t.val / 128 * 16 + t.val % 16, t.val / 16 % 8] := by decide +kernel
theorem idx13 : ∀ t : Fin cfg0.N, (cfg0.win 13).index t = ![t.val / 128, t.val / 16 % 8, 0, 0] := by decide +kernel
theorem idx14 : ∀ t : Fin cfg0.N, (cfg0.win 14).index t = ![t.val / 128, t.val / 16 % 8, 0, 0] := by decide +kernel
theorem idx15 : ∀ t : Fin cfg0.N, (cfg0.win 15).index t = ![t.val / 128, t.val / 16 % 8, 0, 0] := by decide +kernel

theorem blk0 (t : Fin cfg0.N) (r : Fin 128) (d : Fin 128) :
    (iblk m c 0 t : S128x128.Idx → EReal) (ix2 r d)
      = (m (c, main_arg0) : S8448x11264.Idx → EReal) (ix2 (row t r) ⟨5120 + (hd t).val * 128 + d.val, by have := (hd t).isLt; omega⟩) := by
  rw [← V_arg0 m c]
  blk_ext [iblk, idx0 t, hd_val, row_val]

theorem blk1 (t : Fin cfg0.N) (r : Fin 128) (d : Fin 128) :
    (iblk m c 1 t : S128x128.Idx → EReal) (ix2 r d)
      = (m (c, main_arg0) : S8448x11264.Idx → EReal) (ix2 (row t r) ⟨6144 + (hd t).val * 128 + d.val, by have := (hd t).isLt; omega⟩) := by
  rw [← V_arg0 m c]
  blk_ext [iblk, idx1 t, hd_val, row_val]

theorem blk2 (t : Fin cfg0.N) (r : Fin 128) (d : Fin 256) :
    (iblk m c 2 t : S128x256.Idx → EReal) (ix2 r d)
      = (m (c, main_arg0) : S8448x11264.Idx → EReal) (ix2 (row t r) ⟨7168 + (hd t).val * 256 + d.val, by have := (hd t).isLt; omega⟩) := by
  rw [← V_arg0 m c]
  blk_ext [iblk, idx2 t, hd_val, row_val]

theorem blk3 (t : Fin cfg0.N) (r : Fin 128) (d : Fin 256) :
    (iblk m c 3 t : S128x256.Idx → EReal) (ix2 r d)
      = (m (c, main_arg0) : S8448x11264.Idx → EReal) (ix2 (row t r) ⟨9216 + (hd t).val * 256 + d.val, by have := (hd t).isLt; omega⟩) := by
  rw [← V_arg0 m c]
  blk_ext [iblk, idx3 t, hd_val, row_val]

theorem blk4 (t : Fin cfg0.N) (r : Fin 128) (g : Fin 8) :
    (iblk m c 4 t : S1x128x8.Idx → EReal) (ix3 0 r g)
      = aCol m c (ix3 (hd t) (row t r) g) := by
  blk_ext [iblk, idx4 t, hd_val, row_val]

theorem blk5 (t : Fin cfg0.N) (g : Fin 8) (r : Fin 128) :
    (iblk m c 5 t : S1x8x128.Idx → EReal) (ix3 0 g r)
      = aRow m c (ix3 (hd t) g (row t r)) := by
  blk_ext [iblk, idx5 t, hd_val, row_val]

theorem blk6 (t : Fin cfg0.N) (r g : Fin 8) :
    (iblk m c 6 t : S1x8x8.Idx → EReal) (ix3 0 r g)
      = aBiasC m c (ix3 (hd t) r g) := by
  blk_ext [iblk, idx6 t, hd_val, row_val]

theorem blk7 (t : Fin cfg0.N) (g : Fin 8) (r : Fin 128) :
    (iblk m c 7 t : S1x8x128.Idx → EReal) (ix3 0 g r)
      = aBiasR m c (ix3 (hd t) g r) := by
  blk_ext [iblk, idx7 t, hd_val, row_val]

theorem blk8 (t : Fin cfg0.N) (w : Fin 256) :
    (iblk m c 8 t : S1x1x256.Idx → EReal) (ix3 0 0 w)
      = aGain m c (ix3 (hd t) 0 w) := by
  blk_ext [iblk, idx8 t, hd_val, row_val]

theorem blk9 (t : Fin cfg0.N) (d : Fin 128) (w : Fin 256) :
    (iblk m c 9 t : S1x128x256.Idx → EReal) (ix3 0 d w)
      = (m (c, main_arg5) : S8x128x256.Idx → EReal) (ix3 (hd t) d w) := by
  rw [← V_arg5 m c]
  blk_ext [iblk, idx9 t, hd_val, row_val]

theorem blk10 (t : Fin cfg0.N) (d : Fin 128) :
    (iblk m c 10 t : S1x1x128.Idx → EReal) (ix3 0 0 d)
      = (m (c, main_arg6) : S8x1x128.Idx → EReal) (ix3 (hd t) 0 d) := by
  rw [← V_arg6 m c]
  blk_ext [iblk, idx10 t, hd_val, row_val]

theorem blk11 (t : Fin cfg0.N)  :
    (iblk m c 11 t : S1x1x1.Idx → EReal) (ix3 0 0 0)
      = (m (c, main_arg7) : S8x1x1.Idx → EReal) (ix3 (hd t) 0 0) := by
  rw [← V_arg7 m c]
  blk_ext [iblk, idx11 t, hd_val, row_val]

end Mlstm.K

end
-- ==== Proof.Mlstm.KernelArray.lean ====
/-
  The kernel's results: by induction over the grid points the scratch holds the recurrence's state after each chunk; each
  point's output block is the chunk's output rows; the written blocks make up the four arrays.
-/
module

public import proofs.«01_k».proof.Proof.Mlstm.Inputs
public import proofs.«01_k».proof.Proof.Mlstm.Body
public import proofs.«01_k».proof.Proof.Mlstm.Blocks
public import proofs.«01_k».proof.Proof.Gen.KernelIdeal.Value

@[expose] public section

set_option maxRecDepth 16384

noncomputable section

open Idealize.ShloMosaic Idealize.ShloMosaic.TcCoe Cert.KernelIdeal Cert.KernelIdeal.Gen

namespace Mlstm.K

variable (m : (ℓ : Loc nD τ sig) → Buf (Elt Ideal) ℓ) (c : Dev nD)

/-- The kernel's arguments. -/
def args : Args where
  P i j := (m (c, main_arg0) : S8448x11264.Idx → EReal) (ix2 i j)
  S i j := (m (c, main_arg1) : S8448x128.Idx → EReal) (ix2 i j)
  ib h := (m (c, main_arg2) : S8.Idx → EReal) (ix1 h)
  fb h := (m (c, main_arg3) : S8.Idx → EReal) (ix1 h)
  g j := (m (c, main_arg4) : S2048.Idx → EReal) (ix1 j)
  C0 h d w := (m (c, main_arg5) : S8x128x256.Idx → EReal) (ix3 h d w)
  n0 h d := (m (c, main_arg6) : S8x1x128.Idx → EReal) (ix3 h 0 d)
  m0 h := (m (c, main_arg7) : S8x1x1.Idx → EReal) (ix3 h 0 0)
  ks := ks

/-- The point's sequence. -/
def sq (t : Fin cfg0.N) : Fin 4 := ⟨t.val / 128, by have := tlt t; omega⟩

theorem row_eq (t : Fin cfg0.N) (r : Fin 128) : row t r = rowOf (sq t) (t.val % 16) r :=
  Fin.ext (by show (t.val / 128 * 16 + t.val % 16) * 128 + r.val = (t.val / 128 * 16 + t.val % 16 % 16) * 128 + r.val; omega)

theorem blkOK (t : Fin cfg0.N) :
    BlkOK (inp (args m c) (sq t) (hd t) (t.val % 16)) (gain (args m c) (hd t)) (gate (args m c) (sq t) (hd t) (t.val % 16))
      (iblk m c 0 t) (iblk m c 1 t) (iblk m c 2 t) (iblk m c 3 t) (iblk m c 4 t) (iblk m c 5 t) (iblk m c 6 t) (iblk m c 7 t) (iblk m c 8 t) where
  q r d := by rw [blk0 m c t r d, row_eq]; rfl
  k r d := by rw [blk1 m c t r d, row_eq]; rfl
  v r w := by rw [blk2 m c t r w, row_eq]; rfl
  o r w := by rw [blk3 m c t r w, row_eq]; rfl
  lic r := by rw [blk4 m c t r 0, blk6 m c t 0 0, aCol_0, aBiasC_0, row_eq]; rfl
  lfc r := by rw [blk4 m c t r 1, blk6 m c t 0 1, aCol_1, aBiasC_1, row_eq]; rfl
  lir r := by rw [blk5 m c t 0 r, blk7 m c t 0 r, aRow_0, aBiasR_0, row_eq]; rfl
  lfr r := by rw [blk5 m c t 1 r, blk7 m c t 1 r, aRow_1, aBiasR_1, row_eq]; rfl
  g w := by rw [blk8 m c t w, aGain_eq]; rfl

theorem startOK (t : Fin cfg0.N) (h0 : t.val % 16 = 0) :
    Holds (k0_pay5 (iblk m c 9 t)) (k0_pay6 (iblk m c 10 t)) (k0_pay7 (iblk m c 11 t)) (stc (args m c) (sq t) (hd t) (t.val % 16)) := by
  rw [h0]
  exact start (blk9 m c t) (blk10 m c t) (blk11 m c t)

/-- After a point that is not a sequence's last, the scratch holds the state after the point's chunk. -/
def Inv (n : ℕ) (h : n < cfg0.N) : Prop :=
  Holds (outsAt0 m c n h).2.2.2.2.1 (outsAt0 m c n h).2.2.2.2.2.1 (outsAt0 m c n h).2.2.2.2.2.2
    (stc (args m c) (sq ⟨n, h⟩) (hd ⟨n, h⟩) (n % 16 + 1))

/-- Before a point that is not a sequence's first, the scratch holds the state before the point's chunk. -/
def Prev (t : Fin cfg0.N) : Prop :=
  Holds (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2
      (stc (args m c) (sq t) (hd t) (t.val % 16))

theorem before (t : Fin cfg0.N) (h0 : ¬ t.val % 16 = 0) (hI : ∀ hn : t.val - 1 < cfg0.N, Inv m c (t.val - 1) hn) : Prev m c t := by
  have hn : t.val - 1 < cfg0.N := Nat.lt_of_le_of_lt (Nat.sub_le _ _) t.isLt
  have e1 : sq ⟨t.val - 1, hn⟩ = sq t := Fin.ext (by show (t.val - 1) / 128 = t.val / 128; omega)
  have e2 : hd ⟨t.val - 1, hn⟩ = hd t := Fin.ext (by show (t.val - 1) / 16 % 8 = t.val / 16 % 8; omega)
  have e3 : (t.val - 1) % 16 + 1 = t.val % 16 := by omega
  have H := hI hn
  unfold Inv at H
  rw [e1, e2, e3] at H
  exact H

theorem inv : ∀ (n : ℕ) (h : n < cfg0.N), ¬ n % 16 = 15 → Inv m c n h := by
  intro n
  induction n using Nat.strong_induction_on with
  | _ n ih =>
    intro h h1
    unfold Inv
    rw [stc_succ]
    by_cases h0 : n % 16 = 0
    · rw [outsAt0_A m c ⟨n, h⟩ h0 h1]
      dsimp only
      rw [sout0_A_0_eq, sout0_A_1_eq, sout0_A_2_eq]
      exact body_state (blkOK m c ⟨n, h⟩) (startOK m c ⟨n, h⟩ h0)
    · rw [outsAt0_B m c ⟨n, h⟩ h0 h1]
      dsimp only
      rw [sout0_B_0_eq, sout0_B_1_eq, sout0_B_2_eq]
      exact body_state (blkOK m c ⟨n, h⟩) (before m c ⟨n, h⟩ h0 fun hn => ih _ (by show n - 1 < n; omega) hn (by show ¬ (n - 1) % 16 = 15; omega))

theorem invBefore (t : Fin cfg0.N) (h0 : ¬ t.val % 16 = 0) : Prev m c t := before m c t h0 fun hn => inv m c _ hn (by omega)

/-- Every point's output block is its chunk's output rows. -/
theorem out12 (t : Fin cfg0.N) (r : Fin 128) (w : Fin 256) :
    ((outsAt0 m c t.val t.isLt).1 : S128x256.Idx → EReal) (ix2 r w) = outRow (args m c) (sq t) (hd t) (t.val % 16) r w := by
  by_cases h0 : t.val % 16 = 0
  · rw [outsAt0_A m c t h0 (by omega)]
    dsimp only
    rw [out0_A_12_eq]
    exact body_out (blkOK m c t) (startOK m c t h0) r w
  · by_cases h1 : t.val % 16 = 15
    · rw [outsAt0_C m c t h0 h1]
      dsimp only
      rw [out0_C_12_eq]
      exact body_out (blkOK m c t) (invBefore m c t h0) r w
    · rw [outsAt0_B m c t h0 h1]
      dsimp only
      rw [out0_B_12_eq]
      exact body_out (blkOK m c t) (invBefore m c t h0) r w

theorem endState (t : Fin cfg0.N) (h1 : t.val % 16 = 15) :
    Holds (bC (iblk m c 1 t) (iblk m c 2 t) (iblk m c 4 t) (iblk m c 5 t) (r6 (iblk m c 6 t)) (iblk m c 7 t)
        (outsAt0 m c (t.val - 1) (Nat.lt_of_le_of_lt (Nat.sub_le _ _) t.isLt)).2.2.2.2.1
        (outsAt0 m c (t.val - 1) (Nat.lt_of_le_of_lt (Nat.sub_le _ _) t.isLt)).2.2.2.2.2.2)
      (bN (iblk m c 1 t) (iblk m c 5 t) (iblk m c 7 t)
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2)
      (bM (iblk m c 5 t) (iblk m c 7 t) (outsAt0 m c (t.val - 1) (Nat.lt_of_le_of_lt (Nat.sub_le _ _) t.isLt)).2.2.2.2.2.2)
      (stc (args m c) (sq t) (hd t) 16) := by
  have := body_state (blkOK m c t) (invBefore m c t (by omega))
  rw [← stc_succ, h1] at this
  exact this

theorem out13 (t : Fin cfg0.N) (h1 : t.val % 16 = 15) (d : Fin 128) (w : Fin 256) :
    ((outsAt0 m c t.val t.isLt).2.1 : S1x1x128x256.Idx → EReal) (ix4 0 0 d w) = (stc (args m c) (sq t) (hd t) 16).C d w := by
  rw [outsAt0_C m c t (by omega) h1]
  dsimp only
  rw [out0_C_13_eq, endC]
  exact (endState m c t h1).C d w

theorem out14 (t : Fin cfg0.N) (h1 : t.val % 16 = 15) (d : Fin 128) :
    ((outsAt0 m c t.val t.isLt).2.2.1 : S1x1x1x128.Idx → EReal) (ix4 0 0 0 d) = (stc (args m c) (sq t) (hd t) 16).n d := by
  rw [outsAt0_C m c t (by omega) h1]
  dsimp only
  rw [out0_C_14_eq, endN]
  exact (endState m c t h1).n d

theorem out15 (t : Fin cfg0.N) (h1 : t.val % 16 = 15) :
    ((outsAt0 m c t.val t.isLt).2.2.2.1 : S1x1x1x1.Idx → EReal) (ix4 0 0 0 0) = (stc (args m c) (sq t) (hd t) 16).m := by
  rw [outsAt0_C m c t (by omega) h1]
  dsimp only
  rw [out0_C_15_eq, endM]
  exact (endState m c t h1).m

/-! ## The arrays after the run -/

theorem arr12 : (dats m 0 c).arrAt 12 cfg0.N = (fun i => resH (args m c) (i 0) (i 1) : S8192x2048.Idx → EReal) := by
  refine (dats m 0 c).arrAt_eq_of_covers 12 _ (by decide +kernel) fun t hf y => ?_
  rw [after0_12]
  blk_simp [idx12 t]
  obtain ⟨r, w, rfl⟩ : ∃ (r : Fin 128) (w : Fin 256), y = ix2 r w := ⟨y 0, y 1, eq_ix2 y⟩
  refine (out12 m c t r w).trans (resH_at (args m c) (sq t) (hd t) (t.val % 16) (by omega) r w _ _ ?_ ?_).symm <;> blk_simp [idx12 t] <;> rfl

theorem arr13 : (dats m 0 c).arrAt 13 cfg0.N = (fun i => (stc (args m c) (i 0) (i 1) 16).C (i 2) (i 3) : S4x8x128x256.Idx → EReal) := by
  refine (dats m 0 c).arrAt_eq_of_covers 13 _ (by decide +kernel) fun t hf y => ?_
  rw [after0_13]
  blk_simp [idx13 t]
  obtain ⟨a, b, d, w, rfl⟩ : ∃ (a b : Fin 1) (d : Fin 128) (w : Fin 256), y = ix4 a b d w := ⟨y 0, y 1, y 2, y 3, eq_ix4 y⟩
  have e0 : ((win0_13.blk t).view.emb (ix4 a b d w) 0 : Fin 4) = sq t := Fin.ext (by blk_simp [idx13 t] <;> (show _ = t.val / 128) <;> omega)
  have e1 : ((win0_13.blk t).view.emb (ix4 a b d w) 1 : Fin 8) = hd t := Fin.ext (by blk_simp [idx13 t] <;> (show _ = t.val / 16 % 8) <;> omega)
  have e2 : ((win0_13.blk t).view.emb (ix4 a b d w) 2 : Fin 128) = d := Fin.ext (by blk_simp [idx13 t] <;> (show _ = d.val) <;> omega)
  have e3 : ((win0_13.blk t).view.emb (ix4 a b d w) 3 : Fin 256) = w := Fin.ext (by blk_simp [idx13 t] <;> (show _ = w.val) <;> omega)
  have ea : a = 0 := Subsingleton.elim _ _
  have eb : b = 0 := Subsingleton.elim _ _
  rw [e0, e1, e2, e3, ea, eb]
  exact out13 m c t ((Gen.flush0_13 t).1 hf) d w

theorem arr14 : (dats m 0 c).arrAt 14 cfg0.N = (fun i => (stc (args m c) (i 0) (i 1) 16).n (i 3) : S4x8x1x128.Idx → EReal) := by
  refine (dats m 0 c).arrAt_eq_of_covers 14 _ (by decide +kernel) fun t hf y => ?_
  rw [after0_14]
  blk_simp [idx14 t]
  obtain ⟨a, b, e, d, rfl⟩ : ∃ (a b e : Fin 1) (d : Fin 128), y = ix4 a b e d := ⟨y 0, y 1, y 2, y 3, eq_ix4 y⟩
  have e0 : ((win0_14.blk t).view.emb (ix4 a b e d) 0 : Fin 4) = sq t := Fin.ext (by blk_simp [idx14 t] <;> (show _ = t.val / 128) <;> omega)
  have e1 : ((win0_14.blk t).view.emb (ix4 a b e d) 1 : Fin 8) = hd t := Fin.ext (by blk_simp [idx14 t] <;> (show _ = t.val / 16 % 8) <;> omega)
  have e3 : ((win0_14.blk t).view.emb (ix4 a b e d) 3 : Fin 128) = d := Fin.ext (by blk_simp [idx14 t] <;> (show _ = d.val) <;> omega)
  have ea : a = 0 := Subsingleton.elim _ _
  have eb : b = 0 := Subsingleton.elim _ _
  have ee : e = 0 := Subsingleton.elim _ _
  rw [e0, e1, e3, ea, eb, ee]
  exact out14 m c t ((Gen.flush0_14 t).1 hf) d

theorem arr15 : (dats m 0 c).arrAt 15 cfg0.N = (fun i => (stc (args m c) (i 0) (i 1) 16).m : S4x8x1x1.Idx → EReal) := by
  refine (dats m 0 c).arrAt_eq_of_covers 15 _ (by decide +kernel) fun t hf y => ?_
  rw [after0_15]
  blk_simp [idx15 t]
  obtain ⟨a, b, e, d, rfl⟩ : ∃ (a b e d : Fin 1), y = ix4 a b e d := ⟨y 0, y 1, y 2, y 3, eq_ix4 y⟩
  have e0 : ((win0_15.blk t).view.emb (ix4 a b e d) 0 : Fin 4) = sq t := Fin.ext (by blk_simp [idx15 t] <;> (show _ = t.val / 128) <;> omega)
  have e1 : ((win0_15.blk t).view.emb (ix4 a b e d) 1 : Fin 8) = hd t := Fin.ext (by blk_simp [idx15 t] <;> (show _ = t.val / 16 % 8) <;> omega)
  have ea : a = 0 := Subsingleton.elim _ _
  have eb : b = 0 := Subsingleton.elim _ _
  have ee : e = 0 := Subsingleton.elim _ _
  have ed : d = 0 := Subsingleton.elim _ _
  rw [e0, e1, ea, eb, ee, ed]
  exact out15 m c t ((Gen.flush0_15 t).1 hf)

end Mlstm.K

end
-- ==== Proof.Mlstm.RefStep.lean ====
/-
  One trip of the reference's scan as one chunk of the recurrence, for every sequence and head at once.
-/
module

public import proofs.«01_k».proof.Proof.Mlstm.Inputs
public import proofs.«01_k».proof.Proof.Gen.ReferenceIdeal.Run
public import Idealize.ShloMosaic.Lib.WordCmp

@[expose] public section

set_option maxRecDepth 16384

noncomputable section

open Idealize.ShloMosaic Idealize.ShloMosaic.TcCoe Idealize.ShloMosaic.WordCmp Cert.ReferenceIdeal Cert.ReferenceIdeal.Value

namespace Mlstm.R

/-! ## A running sum -/

theorem foldl_add_eq {M ι : Type} [AddCommMonoid M] (l : List ι) (g : ι → M) (v : M) :
    l.foldl (fun r n => r + g n) v = v + (l.map g).sum := by
  induction l generalizing v with
  | nil => simp
  | cons a l ih => rw [List.foldl_cons, ih, List.map_cons, List.sum_cons, add_assoc]

/-- The window's positions are its middle coordinate. -/
def winEquiv : (⟨3, ![1, 128, 1]⟩ : Shape).Idx ≃ Fin 128 where
  toFun j := j 1
  invFun w := ix3 0 w 0
  left_inv j := by
    funext a
    match a with
    | ⟨0, _⟩ => exact Subsingleton.elim (α := Fin 1) _ _
    | ⟨1, _⟩ => rfl
    | ⟨2, _⟩ => exact Subsingleton.elim (α := Fin 1) _ _
  right_inv w := rfl

/-- A prefix sum along the middle axis, as it is written with a window padded low by 127. -/
theorem window_cum (x : S4x128x8.Idx → EReal) (init : S_.Idx → EReal) (hinit : ∀ i, init i = 0)
    (h : S4x128x8.ReduceWindows ![1, 128, 1] ![1, 1, 1] ![0, 127, 0] ![0, 0, 0] S4x128x8) (hu : 0 < S_.numel)
    (b : Fin 4) (t : Fin 128) (e : Fin 8) :
    Host.reduceWindowAdd (F := Ideal) (φ := .f32) ![1, 128, 1] ![1, 1, 1] ![0, 127, 0] ![0, 0, 0] x init h hu (ix3 b t e)
      = ∑ s : Fin 128, if s ≤ t then x (ix3 b s e) else 0 := by
  show Host.reduceWindow (· + ·) ![1, 128, 1] ![1, 1, 1] ![0, 127, 0] ![0, 0, 0] x (fun _ : (⟨0, ![]⟩ : Shape).Idx => init (Shape.Idx.first hu)) h (by decide) (ix3 b t e) = _
  unfold Host.reduceWindow
  simp only [hinit]
  rw [foldl_add_eq, zero_add, ← List.ofFn_eq_map, List.sum_ofFn]
  rw [Fintype.sum_equiv ((⟨3, ![1, 128, 1]⟩ : Shape).rowMajor.symm.trans (winEquiv.trans (Equiv.addRight (t + 1))))]
  intro n
  obtain ⟨w, hw⟩ : ∃ w, (⟨3, ![1, 128, 1]⟩ : Shape).rowMajor.symm n = ix3 0 w 0 :=
    ⟨winEquiv ((⟨3, ![1, 128, 1]⟩ : Shape).rowMajor.symm n), (winEquiv.symm_apply_apply _).symm⟩
  have hs : ((⟨3, ![1, 128, 1]⟩ : Shape).rowMajor.symm.trans (winEquiv.trans (Equiv.addRight (t + 1)))) n = w + (t + 1) := by
    show winEquiv ((⟨3, ![1, 128, 1]⟩ : Shape).rowMajor.symm n) + (t + 1) = _
    rw [hw]; rfl
  rw [hs]
  have hv : (w + (t + 1)).val = (w.val + t.val + 1) % 128 := by
    rw [Fin.val_add, Fin.val_add]; show (w.val + (t.val + 1) % 128) % 128 = _; omega
  by_cases hc : 127 ≤ t.val + w.val
  · have hv' : (w + (t + 1)).val = t.val + w.val - 127 := by omega
    rw [if_pos (show w + (t + 1) ≤ t from Fin.le_def.2 (by omega)), dif_pos]
    · congr 1
      funext a
      match a with
      | ⟨0, _⟩ => refine Fin.ext ?_; simp only [hw]; show b.val * 1 + 0 - 0 = b.val; omega
      | ⟨1, _⟩ => refine Fin.ext ?_; simp only [hw]; show t.val * 1 + w.val - 127 = (w + (t + 1)).val; omega
      | ⟨2, _⟩ => refine Fin.ext ?_; simp only [hw]; show e.val * 1 + 0 - 0 = e.val; omega
    · intro a
      simp only [hw]
      match a with
      | ⟨0, _⟩ => exact ⟨Nat.zero_le _, by show b.val * 1 + 0 - 0 < 4; omega⟩
      | ⟨1, _⟩ => exact ⟨by show 127 ≤ t.val * 1 + w.val; omega, by show t.val * 1 + w.val - 127 < 128; omega⟩
      | ⟨2, _⟩ => exact ⟨Nat.zero_le _, by show e.val * 1 + 0 - 0 < 8; omega⟩
  · rw [if_neg (fun hle => by have := Fin.le_def.1 hle; omega), dif_neg]
    intro hin
    have := (hin 1).1
    simp only [hw] at this
    have h1 : 127 ≤ t.val * 1 + w.val := this
    omega

variable (V0 : Valuation τ sig (Elt Ideal)) (A : Args) (k : ℕ)

abbrev cQ : S16x4x128x8x128.Idx → EReal := V0 (Proc.devRef .tc main_v38_0)
abbrev cK : S16x4x128x8x128.Idx → EReal := V0 (Proc.devRef .tc main_v38_1)
abbrev cV : S16x4x128x8x256.Idx → EReal := V0 (Proc.devRef .tc main_v38_2)
abbrev cLi : S16x4x128x8.Idx → EReal := V0 (Proc.devRef .tc main_v38_3)
abbrev cLf : S16x4x128x8.Idx → EReal := V0 (Proc.devRef .tc main_v38_4)
abbrev cCtr : S_.Idx → BitVec 32 := V0 (Proc.devRef .tc main_v38_5)
abbrev cC : S4x8x128x256.Idx → EReal := V0 (Proc.devRef .tc main_v38_6)
abbrev cN : S4x8x128.Idx → EReal := V0 (Proc.devRef .tc main_v38_7)
abbrev cM : S4x8.Idx → EReal := V0 (Proc.devRef .tc main_v38_8)
abbrev cH : S16x4x128x8x256.Idx → EReal := V0 (Proc.devRef .tc main_v38_9)

/-- What the loop carries before trip `k`. -/
structure Carried : Prop where
  qs : ∀ (ch : Fin 16) b r h d, cQ V0 (ix5 ch b r h d) = (inp A b h ch.val).q r d
  ks : ∀ (ch : Fin 16) b r h d, cK V0 (ix5 ch b r h d) = (inp A b h ch.val).k r d
  vs : ∀ (ch : Fin 16) b r h w, cV V0 (ix5 ch b r h w) = (inp A b h ch.val).v r w
  li : ∀ (ch : Fin 16) b r h, cLi V0 (ix4 ch b r h) = (inp A b h ch.val).li r
  lf : ∀ (ch : Fin 16) b r h, cLf V0 (ix4 ch b r h) = (inp A b h ch.val).lf r
  ctr : ∀ i, cCtr V0 i = BitVec.ofNat 32 k
  C : ∀ b h d w, cC V0 (ix4 b h d w) = (stc A b h k).C d w
  n : ∀ b h d, cN V0 (ix3 b h d) = (stc A b h k).n d
  m : ∀ b h, cM V0 (ix2 b h) = (stc A b h k).m
  H : ∀ (ch : Fin 16) b r h w, ch.val < k → cH V0 (ix5 ch b r h w) = hid (stc A b h ch.val) (inp A b h ch.val) r w

omit V0 A k in
/-- A slice of one chunk. -/
theorem slice5 {D k : ℕ} (x : (⟨5, ![16, 4, 128, 8, D]⟩ : Shape).Idx → EReal) (st : Fin 5 → Int)
    (h : (⟨5, ![16, 4, 128, 8, D]⟩ : Shape).Slices (fun _ => 0) (⟨5, ![1, 4, 128, 8, D]⟩ : Shape)) (hk : k < 16) (h0 : st 0 = k)
    (h1 : st 1 = 0) (h2 : st 2 = 0) (h3 : st 3 = 0) (h4 : st 4 = 0) (z : Fin 1) (b : Fin 4) (r : Fin 128) (e : Fin 8) (d : Fin D) :
    Host.dynamicSlice (⟨5, ![1, 4, 128, 8, D]⟩ : Shape) x st h (ix5 z b r e d) = x (ix5 ⟨k, hk⟩ b r e d) := by
  rw [Host.dynamicSlice_apply]
  congr 1
  refine (eq_ix5 _).trans ?_
  have hz : z.val = 0 := by omega
  congr 1 <;> refine Fin.ext ?_
  · show Host.clampedStart (⟨5, ![16, 4, 128, 8, D]⟩ : Shape) (⟨5, ![1, 4, 128, 8, D]⟩ : Shape) h.1 st 0 + z.val = k
    rw [Host.clampedStart_of_le (k := k) (hk := h0) (hle := by show k + 1 ≤ 16; omega), hz, Nat.add_zero]
  · show Host.clampedStart (⟨5, ![16, 4, 128, 8, D]⟩ : Shape) (⟨5, ![1, 4, 128, 8, D]⟩ : Shape) h.1 st 1 + b.val = b.val
    rw [Host.clampedStart_of_le (k := 0) (hk := h1) (hle := by show 0 + 4 ≤ 4; omega), Nat.zero_add]
  · show Host.clampedStart (⟨5, ![16, 4, 128, 8, D]⟩ : Shape) (⟨5, ![1, 4, 128, 8, D]⟩ : Shape) h.1 st 2 + r.val = r.val
    rw [Host.clampedStart_of_le (k := 0) (hk := h2) (hle := by show 0 + 128 ≤ 128; omega), Nat.zero_add]
  · show Host.clampedStart (⟨5, ![16, 4, 128, 8, D]⟩ : Shape) (⟨5, ![1, 4, 128, 8, D]⟩ : Shape) h.1 st 3 + e.val = e.val
    rw [Host.clampedStart_of_le (k := 0) (hk := h3) (hle := by show 0 + 8 ≤ 8; omega), Nat.zero_add]
  · show Host.clampedStart (⟨5, ![16, 4, 128, 8, D]⟩ : Shape) (⟨5, ![1, 4, 128, 8, D]⟩ : Shape) h.1 st 4 + d.val = d.val
    rw [Host.clampedStart_of_le (k := 0) (hk := h4) (hle := by show 0 + D ≤ D; omega), Nat.zero_add]

omit V0 A k in
/-- A slice of one chunk of the gates. -/
theorem slice4 {k : ℕ} (x : S16x4x128x8.Idx → EReal) (st : Fin 4 → Int)
    (h : S16x4x128x8.Slices (fun _ => 0) S1x4x128x8) (hk : k < 16) (h0 : st 0 = k)
    (h1 : st 1 = 0) (h2 : st 2 = 0) (h3 : st 3 = 0) (z : Fin 1) (b : Fin 4) (r : Fin 128) (e : Fin 8) :
    Host.dynamicSlice S1x4x128x8 x st h (ix4 z b r e) = x (ix4 ⟨k, hk⟩ b r e) := by
  rw [Host.dynamicSlice_apply]
  congr 1
  refine (eq_ix4 _).trans ?_
  have hz : z.val = 0 := by omega
  congr 1 <;> refine Fin.ext ?_
  · show Host.clampedStart S16x4x128x8 S1x4x128x8 h.1 st 0 + z.val = k
    rw [Host.clampedStart_of_le (k := k) (hk := h0) (hle := by show k + 1 ≤ 16; omega), hz, Nat.add_zero]
  · show Host.clampedStart S16x4x128x8 S1x4x128x8 h.1 st 1 + b.val = b.val
    rw [Host.clampedStart_of_le (k := 0) (hk := h1) (hle := by show 0 + 4 ≤ 4; omega), Nat.zero_add]
  · show Host.clampedStart S16x4x128x8 S1x4x128x8 h.1 st 2 + r.val = r.val
    rw [Host.clampedStart_of_le (k := 0) (hk := h2) (hle := by show 0 + 128 ≤ 128; omega), Nat.zero_add]
  · show Host.clampedStart S16x4x128x8 S1x4x128x8 h.1 st 3 + e.val = e.val
    rw [Host.clampedStart_of_le (k := 0) (hk := h3) (hle := by show 0 + 8 ≤ 8; omega), Nat.zero_add]

/-- The write of one chunk back. -/
theorem update5 {k : ℕ} (x : S16x4x128x8x256.Idx → EReal) (u : S1x4x128x8x256.Idx → EReal) (st : Fin 5 → Int)
    (h : S16x4x128x8x256.Slices (fun _ => 0) S1x4x128x8x256) (hk : k < 16) (h0 : st 0 = k)
    (h1 : st 1 = 0) (h2 : st 2 = 0) (h3 : st 3 = 0) (h4 : st 4 = 0) (ch : Fin 16) (b : Fin 4) (r : Fin 128) (e : Fin 8) (d : Fin 256) :
    Host.dynamicUpdateSlice x u st h (ix5 ch b r e d) = if ch.val = k then u (ix5 0 b r e d) else x (ix5 ch b r e d) := by
  have c0 : Host.clampedStart S16x4x128x8x256 S1x4x128x8x256 h.1 st 0 = k :=
    Host.clampedStart_of_le (k := k) (hk := h0) (hle := by show k + 1 ≤ 16; omega) ..
  have c1 : Host.clampedStart S16x4x128x8x256 S1x4x128x8x256 h.1 st 1 = 0 :=
    Host.clampedStart_of_le (k := 0) (hk := h1) (hle := by show 0 + 4 ≤ 4; omega) ..
  have c2 : Host.clampedStart S16x4x128x8x256 S1x4x128x8x256 h.1 st 2 = 0 :=
    Host.clampedStart_of_le (k := 0) (hk := h2) (hle := by show 0 + 128 ≤ 128; omega) ..
  have c3 : Host.clampedStart S16x4x128x8x256 S1x4x128x8x256 h.1 st 3 = 0 :=
    Host.clampedStart_of_le (k := 0) (hk := h3) (hle := by show 0 + 8 ≤ 8; omega) ..
  have c4 : Host.clampedStart S16x4x128x8x256 S1x4x128x8x256 h.1 st 4 = 0 :=
    Host.clampedStart_of_le (k := 0) (hk := h4) (hle := by show 0 + 256 ≤ 256; omega) ..
  rw [Host.dynamicUpdateSlice_apply]
  by_cases hc : ch.val = k
  · rw [if_pos hc, dif_pos]
    · congr 1
      refine (eq_ix5 _).trans ?_
      congr 1 <;> refine Fin.ext ?_
      · show ch.val - Host.clampedStart S16x4x128x8x256 S1x4x128x8x256 h.1 st 0 = 0
        rw [c0]; omega
      · show b.val - Host.clampedStart S16x4x128x8x256 S1x4x128x8x256 h.1 st 1 = b.val
        rw [c1]; omega
      · show r.val - Host.clampedStart S16x4x128x8x256 S1x4x128x8x256 h.1 st 2 = r.val
        rw [c2]; omega
      · show e.val - Host.clampedStart S16x4x128x8x256 S1x4x128x8x256 h.1 st 3 = e.val
        rw [c3]; omega
      · show d.val - Host.clampedStart S16x4x128x8x256 S1x4x128x8x256 h.1 st 4 = d.val
        rw [c4]; omega
    · intro a
      match a with
      | ⟨0, _⟩ => exact ⟨le_of_eq_of_le c0 hc.ge, lt_of_lt_of_eq (show ch.val < k + 1 by omega) (congrArg (· + 1) c0.symm)⟩
      | ⟨1, _⟩ => exact ⟨le_of_eq_of_le c1 (Nat.zero_le _), lt_of_lt_of_eq b.isLt ((Nat.zero_add 4).symm.trans (congrArg (· + 4) c1.symm))⟩
      | ⟨2, _⟩ => exact ⟨le_of_eq_of_le c2 (Nat.zero_le _), lt_of_lt_of_eq r.isLt ((Nat.zero_add 128).symm.trans (congrArg (· + 128) c2.symm))⟩
      | ⟨3, _⟩ => exact ⟨le_of_eq_of_le c3 (Nat.zero_le _), lt_of_lt_of_eq e.isLt ((Nat.zero_add 8).symm.trans (congrArg (· + 8) c3.symm))⟩
      | ⟨4, _⟩ => exact ⟨le_of_eq_of_le c4 (Nat.zero_le _), lt_of_lt_of_eq d.isLt ((Nat.zero_add 256).symm.trans (congrArg (· + 256) c4.symm))⟩
  · rw [if_neg hc, dif_neg]
    intro hin
    obtain ⟨p1, p2⟩ := hin 0
    have q1 : k ≤ ch.val := le_of_eq_of_le c0.symm p1
    have q2 : ch.val < k + 1 := lt_of_lt_of_eq p2 (congrArg (· + 1) c0)
    omega

variable {V0 A k}
variable (X : Carried V0 A k) (hk : k < 16)
include X

theorem word (i : S_.Idx) (hk : k < 16) : (cCtr V0 i).toInt = k := by
  rw [X.ctr]; exact toInt_ofNat_of_lt (by show k < 2147483648; omega)

include hk

theorem q_eq (b : Fin 4) (r : Fin 128) (h : Fin 8) (d : Fin 128) : res_main_while0b_v68 V0 (ix4 b r h d) = (inp A b h k).q r d := by
  unfold res_main_while0b_v68
  generalize hy : Host.dynamicSlice S1x4x128x8x128 _ _ _ = y
  pointwise []
  rw [← hy]
  exact (slice5 (cQ V0) _ _ hk (word X _ hk) rfl rfl rfl rfl _ b r h d).trans (X.qs ⟨k, hk⟩ b r h d)

theorem k_eq (b : Fin 4) (r : Fin 128) (h : Fin 8) (d : Fin 128) : res_main_while0b_v69 V0 (ix4 b r h d) = (inp A b h k).k r d := by
  unfold res_main_while0b_v69
  generalize hy : Host.dynamicSlice S1x4x128x8x128 _ _ _ = y
  pointwise []
  rw [← hy]
  exact (slice5 (cK V0) _ _ hk (word X _ hk) rfl rfl rfl rfl _ b r h d).trans (X.ks ⟨k, hk⟩ b r h d)

theorem v_eq (b : Fin 4) (r : Fin 128) (h : Fin 8) (d : Fin 256) : res_main_while0b_v70 V0 (ix4 b r h d) = (inp A b h k).v r d := by
  unfold res_main_while0b_v70
  generalize hy : Host.dynamicSlice S1x4x128x8x256 _ _ _ = y
  pointwise []
  rw [← hy]
  exact (slice5 (cV V0) _ _ hk (word X _ hk) rfl rfl rfl rfl _ b r h d).trans (X.vs ⟨k, hk⟩ b r h d)

theorem li_eq (b : Fin 4) (r : Fin 128) (h : Fin 8) : res_main_while0b_v71 V0 (ix3 b r h) = (inp A b h k).li r := by
  unfold res_main_while0b_v71
  generalize hy : Host.dynamicSlice S1x4x128x8 _ _ _ = y
  pointwise []
  rw [← hy]
  exact (slice4 (cLi V0) _ _ hk (word X _ hk) rfl rfl rfl _ b r h).trans (X.li ⟨k, hk⟩ b r h)

theorem cum_eq (b : Fin 4) (t : Fin 128) (h : Fin 8) : res_main_while0b_v73 V0 (ix3 b t h) = cum (inp A b h k) t := by
  unfold res_main_while0b_v73
  generalize hy : Host.dynamicSlice S1x4x128x8 _ _ _ = y
  refine (window_cum _ _ (fun i => ?_) _ _ b t h).trans ?_
  · pointwise []
  · unfold cum
    refine Finset.sum_congr rfl fun s _ => ?_
    congr 1
    pointwise []
    rw [← hy]
    exact (slice4 (cLf V0) _ _ hk (word X _ hk) rfl rfl rfl _ b s h).trans (X.lf ⟨k, hk⟩ b s h)

theorem dm_eq (b : Fin 4) (t s : Fin 128) (h : Fin 8) : res_main_while0b_v85 V0 (ix4 b t s h) = dm (inp A b h k) t s := by
  pointwise [res_main_while0b_v85]
  simp only [cum_eq X hk, li_eq X hk]
  have h2 : IntOp.cmpi CmpIPredicate.sge (IntOp.addi (BitVec.ofNat 32 t.val) 0#32) (BitVec.ofNat 32 s.val)
      = BitVec.ofBool (decide (s.val ≤ t.val)) := by
    rw [show IntOp.addi (BitVec.ofNat 32 t.val) 0#32 = BitVec.ofNat 32 t.val from BitVec.add_zero _]
    exact cmpi_sge_ofNat (by show t.val < 2147483648; omega) (by show s.val < 2147483648; omega)
  rw [h2, select_decide]
  unfold dm
  by_cases hst : s ≤ t
  · rw [if_pos hst, if_pos (Fin.le_def.1 hst)]; rfl
  · rw [if_neg hst, if_neg (fun h => hst (Fin.le_def.2 h))]; rfl

theorem inter_eq (b : Fin 4) (t : Fin 128) (h : Fin 8) : res_main_while0b_v88 V0 (ix3 b t h) = inter (stc A b h k) (inp A b h k) t := by
  pointwise [res_main_while0b_v88]
  rw [cum_eq X hk]
  exact congrArg (_ + ·) (X.m b h)

theorem mt_eq (b : Fin 4) (t : Fin 128) (h : Fin 8) : res_main_while0b_v90 V0 (ix3 b t h) = mt (stc A b h k) (inp A b h k) t := by
  pointwise [res_main_while0b_v90]
  rw [inter_eq X hk]
  refine congrArg (max (α := EReal) _) ?_
  refine (Shape.ReducesTo.fold_fiber_r4_a2 _ _ _ _ _).trans ?_
  refine Finset.fold_congr fun s _ => ?_
  exact dm_eq X hk b t s h

theorem wInter_eq (b : Fin 4) (t : Fin 128) (h : Fin 8) : res_main_while0b_v96 V0 (ix3 b t h) = wInter (stc A b h k) (inp A b h k) t := by
  pointwise [res_main_while0b_v96]
  simp only [inter_eq X hk, mt_eq X hk]
  rfl

theorem qkw_eq (b : Fin 4) (t s : Fin 128) (h : Fin 8) : res_main_while0b_v99 V0 (ix4 b t s h) = qkw (stc A b h k) (inp A b h k) t s := by
  pointwise [res_main_while0b_v99]
  simp only [q_eq X hk, k_eq X hk, dm_eq X hk, mt_eq X hk, mul_comm ((inp A b h k).k _ _)]
  rfl

theorem endInter_eq (b : Fin 4) (h : Fin 8) : res_main_while0b_v122 V0 (ix2 b h) = endInter (stc A b h k) (inp A b h k) := by
  pointwise [res_main_while0b_v122]
  simp only [cum_eq X hk]
  exact congrArg (_ + ·) (X.m b h)

theorem endIntra_eq (b : Fin 4) (s : Fin 128) (h : Fin 8) : res_main_while0b_v126 V0 (ix3 b s h) = endIntra (inp A b h k) s := by
  pointwise [res_main_while0b_v126]
  simp only [cum_eq X hk, li_eq X hk]
  rfl

theorem mNew_eq (b : Fin 4) (h : Fin 8) : res_main_while0b_v128 V0 (ix2 b h) = mNew (stc A b h k) (inp A b h k) := by
  pointwise [res_main_while0b_v128]
  rw [endInter_eq X hk]
  refine congrArg (max (α := EReal) _) ?_
  refine (Shape.ReducesTo.fold_fiber_r3_a1 _ _ _ _ _).trans ?_
  refine Finset.fold_congr fun s _ => ?_
  exact endIntra_eq X hk b s h

theorem we_eq (b : Fin 4) (s : Fin 128) (h : Fin 8) : res_main_while0b_v132 V0 (ix3 b s h) = we (stc A b h k) (inp A b h k) s := by
  pointwise [res_main_while0b_v132]
  simp only [mNew_eq X hk, endIntra_eq X hk]
  rfl

theorem scale_eq (b : Fin 4) (h : Fin 8) : res_main_while0b_v134 V0 (ix2 b h) = scale (stc A b h k) (inp A b h k) := by
  pointwise [res_main_while0b_v134]
  simp only [mNew_eq X hk, endInter_eq X hk]
  rfl

/-- The trip's hidden rows, as the scan's body computes them. -/
theorem hid_eq (b : Fin 4) (t : Fin 128) (h : Fin 8) (w : Fin 256) (ch : Fin 16) :
    cH (STEP V0) (ix5 ch b t h w) = if ch.val = k then hid (stc A b h k) (inp A b h k) t w else cH V0 (ix5 ch b t h w) := by
  show STEP V0 (Proc.devRef .tc main_v38_9) _ = _
  rw [STEP_main_v38_9]
  unfold step_main_v38_9
  refine (update5 (cH V0) _ _ _ hk (word X _ hk) rfl rfl rfl rfl ch b t h w).trans ?_
  refine if_congr Iff.rfl ?_ rfl
  pointwise []
  simp only [q_eq X hk, v_eq X hk, mt_eq X hk, wInter_eq X hk, qkw_eq X hk]
  have e1 : ∀ x, (V0 (Proc.devRef .tc main_v38_6) : S4x8x128x256.Idx → EReal) (ix4 b h x w) = (stc A b h k).C x w := fun x => X.C b h x w
  have e2 : ∀ x, (V0 (Proc.devRef .tc main_v38_7) : S4x8x128.Idx → EReal) (ix3 b h x) = (stc A b h k).n x := fun x => X.n b h x
  unfold hid num den
  simp only [mul_comm ((inp A b h k).q _ _), mul_comm (qkw _ _ _ _)]
  exact congrArg₂ Ideal.div (congrArg₂ (· + ·) rfl (congrArg (fun z : EReal => _ * z) (Finset.sum_congr rfl fun x _ => congrArg (fun z : EReal => z * _) (e1 x))))
    (congrArg (fun z : EReal => max z _) (congrArg aabs (congrArg₂ (· + ·) rfl (congrArg (fun z : EReal => _ * z) (Finset.sum_congr rfl fun x _ => congrArg (fun z : EReal => z * _) (e2 x))))))

theorem C_eq (b : Fin 4) (h : Fin 8) (d : Fin 128) (w : Fin 256) :
    cC (STEP V0) (ix4 b h d w) = (stc A b h (k + 1)).C d w := by
  show STEP V0 (Proc.devRef .tc main_v38_6) _ = _
  rw [STEP_main_v38_6]
  unfold step_main_v38_6
  show addf (F := Ideal) (φ := .f32) _ _ (ix4 b h d w) = _
  pointwise []
  simp only [scale_eq X hk, v_eq X hk, k_eq X hk, we_eq X hk, mul_comm (we _ _ _)]
  exact congrArg₂ (fun x y : EReal => x + y) (congrArg (fun z : EReal => _ * z) (X.C b h d w)) rfl

theorem n_eq (b : Fin 4) (h : Fin 8) (d : Fin 128) :
    cN (STEP V0) (ix3 b h d) = (stc A b h (k + 1)).n d := by
  show STEP V0 (Proc.devRef .tc main_v38_7) _ = _
  rw [STEP_main_v38_7]
  unfold step_main_v38_7
  show addf (F := Ideal) (φ := .f32) _ _ (ix3 b h d) = _
  pointwise []
  simp only [scale_eq X hk, k_eq X hk, we_eq X hk]
  exact congrArg₂ (fun x y : EReal => x + y) (congrArg (fun z : EReal => _ * z) (X.n b h d)) rfl

theorem m_eq (b : Fin 4) (h : Fin 8) : cM (STEP V0) (ix2 b h) = (stc A b h (k + 1)).m := by
  show STEP V0 (Proc.devRef .tc main_v38_8) _ = _
  rw [STEP_main_v38_8]
  exact mNew_eq X hk b h

/-- One trip carries the loop from chunk `k` to chunk `k + 1`. -/
theorem carried_step : Carried (STEP V0) A (k + 1) where
  qs ch b r h d := (congrFun (STEP_main_v38_0 V0) _).trans (X.qs ch b r h d)
  ks ch b r h d := (congrFun (STEP_main_v38_1 V0) _).trans (X.ks ch b r h d)
  vs ch b r h d := (congrFun (STEP_main_v38_2 V0) _).trans (X.vs ch b r h d)
  li ch b r h := (congrFun (STEP_main_v38_3 V0) _).trans (X.li ch b r h)
  lf ch b r h := (congrFun (STEP_main_v38_4 V0) _).trans (X.lf ch b r h)
  ctr i := by
    show STEP V0 (Proc.devRef .tc main_v38_5) _ = _
    rw [STEP_main_v38_5]
    show IntOp.addi (cCtr V0 i) 1#32 = _
    rw [X.ctr]
    exact (BitVec.ofNat_add k 1).symm
  C := C_eq X hk
  n := n_eq X hk
  m := m_eq X hk
  H ch b r h w hc := by
    rw [hid_eq X hk]
    by_cases e : ch.val = k
    · rw [if_pos e, ← e]
    · rw [if_neg e]; exact X.H ch b r h w (by omega)

end Mlstm.R

end
-- ==== Proof.Mlstm.RefArray.lean ====
/-
  The reference's results: what its host operations give the loop, sixteen trips of it, and what its last operations make
  of the loop's end.
-/
module

public import proofs.«01_k».proof.Proof.Mlstm.RefStep
public import Idealize.ShloMosaic.Lib.Claim

@[expose] public section

set_option maxRecDepth 16384

noncomputable section

open Idealize.ShloMosaic Idealize.ShloMosaic.StableHlo Idealize.ShloMosaic.TcCoe Idealize.ShloMosaic.WordCmp Cert.ReferenceIdeal Cert.ReferenceIdeal.Gen Cert.ReferenceIdeal.Value

namespace Mlstm.R

variable (m : (ℓ : Loc nD τ sig) → Buf (Elt Ideal) ℓ) (c : Dev nD)

/-- The factor the keys are multiplied by. -/
abbrev ks : EReal := Ideal.div 1 (Ideal.sqrt (Ideal.ofBits .f32 0x43000000#32))

/-- The reference's arguments. -/
def args : Args where
  P i j := (m ((c.tc : Thread nD τ).loc main_arg0) : S8448x11264.Idx → EReal) (ix2 i j)
  S i j := (m ((c.tc : Thread nD τ).loc main_arg1) : S8448x128.Idx → EReal) (ix2 i j)
  ib h := (m ((c.tc : Thread nD τ).loc main_arg2) : S8.Idx → EReal) (ix1 h)
  fb h := (m ((c.tc : Thread nD τ).loc main_arg3) : S8.Idx → EReal) (ix1 h)
  g j := (m ((c.tc : Thread nD τ).loc main_arg4) : S2048.Idx → EReal) (ix1 j)
  C0 h d w := (m ((c.tc : Thread nD τ).loc main_arg5) : S8x128x256.Idx → EReal) (ix3 h d w)
  n0 h d := (m ((c.tc : Thread nD τ).loc main_arg6) : S8x1x128.Idx → EReal) (ix3 h 0 d)
  m0 h := (m ((c.tc : Thread nD τ).loc main_arg7) : S8x1x1.Idx → EReal) (ix3 h 0 0)
  ks := ks

abbrev E : Valuation τ sig (Elt Ideal) := entryContents preI m c

theorem entry_q (ch : Fin 16) (b : Fin 4) (r : Fin 128) (h : Fin 8) (d : Fin 128) :
    cQ (E m c) (ix5 ch b r h d) = (inp (args m c) b h ch.val).q r d := by
  show (entryContents preI m c (Proc.devRef .tc main_v38_0) : S16x4x128x8x128.Idx → EReal) _ = _
  simp only [entryContents, afterL_cons, afterL_nil]
  after_reads_simp
  simp only [id_eq]
  pointwise []
  change (args m c).P _ _ = (args m c).P _ _
  refine congrArg₂ (args m c).P (Fin.ext ?_) (Fin.ext ?_)
  · show b.val * 2048 + ch.val * 128 + r.val = (b.val * 16 + ch.val % 16) * 128 + r.val; omega
  · show 5120 + (h.val * 128 + d.val) = 5120 + h.val * 128 + d.val; omega

theorem entry_k (ch : Fin 16) (b : Fin 4) (r : Fin 128) (h : Fin 8) (d : Fin 128) :
    cK (E m c) (ix5 ch b r h d) = (inp (args m c) b h ch.val).k r d := by
  show (entryContents preI m c (Proc.devRef .tc main_v38_1) : S16x4x128x8x128.Idx → EReal) _ = _
  simp only [entryContents, afterL_cons, afterL_nil]
  after_reads_simp
  simp only [id_eq]
  pointwise []
  change (args m c).P _ _ * ks = (args m c).P _ _ * ks
  refine congrArg (fun z : EReal => z * ks) (congrArg₂ (args m c).P (Fin.ext ?_) (Fin.ext ?_))
  · show b.val * 2048 + (ch.val * 128 + r.val) = (b.val * 16 + ch.val % 16) * 128 + r.val; omega
  · show 6144 + (h.val * 128 + d.val) = 6144 + h.val * 128 + d.val; omega

theorem entry_v (ch : Fin 16) (b : Fin 4) (r : Fin 128) (h : Fin 8) (w : Fin 256) :
    cV (E m c) (ix5 ch b r h w) = (inp (args m c) b h ch.val).v r w := by
  show (entryContents preI m c (Proc.devRef .tc main_v38_2) : S16x4x128x8x256.Idx → EReal) _ = _
  simp only [entryContents, afterL_cons, afterL_nil]
  after_reads_simp
  simp only [id_eq]
  pointwise []
  change (args m c).P _ _ = (args m c).P _ _
  refine congrArg₂ (args m c).P (Fin.ext ?_) (Fin.ext ?_)
  · show b.val * 2048 + ch.val * 128 + r.val = (b.val * 16 + ch.val % 16) * 128 + r.val; omega
  · show 7168 + (h.val * 256 + w.val) = 7168 + h.val * 256 + w.val; omega

theorem entry_li (ch : Fin 16) (b : Fin 4) (r : Fin 128) (h : Fin 8) :
    cLi (E m c) (ix4 ch b r h) = (inp (args m c) b h ch.val).li r := by
  show (entryContents preI m c (Proc.devRef .tc main_v38_3) : S16x4x128x8.Idx → EReal) _ = _
  simp only [entryContents, afterL_cons, afterL_nil]
  after_reads_simp
  simp only [id_eq]
  pointwise []
  change (args m c).S _ _ + (args m c).ib h = (args m c).S _ _ + (args m c).ib h
  refine congrArg (fun z : EReal => z + (args m c).ib h) (congrArg₂ (args m c).S (Fin.ext ?_) rfl)
  show b.val * 2048 + (ch.val * 128 + r.val) = (b.val * 16 + ch.val % 16) * 128 + r.val; omega

/-- The logarithm of the sigmoid with the test of its argument against itself. -/
theorem lsig_of_test (x y : EReal) : (-if x ≠ x then y else max x 0 + Ideal.log1p (Ideal.exp (-(aabs x)))) =
    -(max x 0 + Ideal.log1p (Ideal.exp (-(aabs x)))) := by
  rw [if_neg (fun hx => hx rfl)]

theorem entry_lf (ch : Fin 16) (b : Fin 4) (r : Fin 128) (h : Fin 8) :
    cLf (E m c) (ix4 ch b r h) = (inp (args m c) b h ch.val).lf r := by
  show (entryContents preI m c (Proc.devRef .tc main_v38_4) : S16x4x128x8.Idx → EReal) _ = _
  simp only [entryContents, afterL_cons, afterL_nil]
  after_reads_simp
  simp only [id_eq, StableHlo.TRef.toBuf, StableHlo.TRef.ofBuf, cast_eq]
  pointwise []
  refine (lsig_of_test _ _).trans ?_
  change lsig ((args m c).S _ _ + (args m c).fb h) = lsig ((args m c).S _ _ + (args m c).fb h)
  refine congrArg (fun z : EReal => lsig (z + (args m c).fb h)) (congrArg₂ (args m c).S (Fin.ext ?_) rfl)
  show b.val * 2048 + (ch.val * 128 + r.val) = (b.val * 16 + ch.val % 16) * 128 + r.val; omega

theorem entry_C (b : Fin 4) (h : Fin 8) (d : Fin 128) (w : Fin 256) : cC (E m c) (ix4 b h d w) = (args m c).C0 h d w := by
  show (entryContents preI m c (Proc.devRef .tc main_v38_6) : S4x8x128x256.Idx → EReal) _ = _
  simp only [entryContents, afterL_cons, afterL_nil]
  after_reads_simp
  simp only [id_eq]
  pointwise []
  rfl

theorem entry_n (b : Fin 4) (h : Fin 8) (d : Fin 128) : cN (E m c) (ix3 b h d) = (args m c).n0 h d := by
  show (entryContents preI m c (Proc.devRef .tc main_v38_7) : S4x8x128.Idx → EReal) _ = _
  simp only [entryContents, afterL_cons, afterL_nil]
  after_reads_simp
  simp only [id_eq]
  pointwise []
  rfl

theorem entry_m (b : Fin 4) (h : Fin 8) : cM (E m c) (ix2 b h) = (args m c).m0 h := by
  show (entryContents preI m c (Proc.devRef .tc main_v38_8) : S4x8.Idx → EReal) _ = _
  simp only [entryContents, afterL_cons, afterL_nil]
  after_reads_simp
  simp only [id_eq]
  pointwise []
  rfl

theorem carried0 : Carried (E m c) (args m c) 0 where
  qs := entry_q m c
  ks := entry_k m c
  vs := entry_v m c
  li := entry_li m c
  lf := entry_lf m c
  ctr i := congrFun (ctr_entry m c) i
  C b h d w := entry_C m c b h d w
  n b h d := entry_n m c b h d
  m b h := entry_m m c b h
  H ch b r h w hlt := absurd hlt (Nat.not_lt_zero _)

theorem carried : ∀ k, k ≤ 16 → Carried (STEP^[k] (E m c)) (args m c) k
  | 0, _ => carried0 m c
  | k + 1, hk => by
    rw [Function.iterate_succ_apply']
    exact carried_step (carried k (by omega)) (by omega)

end Mlstm.R

end
-- ==== Proof.Mlstm.RefOut.lean ====
/-
  What the reference's last operations make of the loop's end.
-/
module

public import proofs.«01_k».proof.Proof.Mlstm.RefArray
public import Idealize.ShloMosaic.Lib.Claim

@[expose] public section

set_option maxRecDepth 16384

noncomputable section

open Idealize.ShloMosaic Idealize.ShloMosaic.StableHlo Idealize.ShloMosaic.TcCoe Idealize.ShloMosaic.WordCmp Cert.ReferenceIdeal Cert.ReferenceIdeal.Gen Cert.ReferenceIdeal.Value

namespace Mlstm.R

variable (V : Valuation τ sig (Elt Ideal)) (A : Args)

theorem out65_at (X : Carried V A 16) (hP : ∀ i j, (V (Proc.devRef .tc main_arg0) : S8448x11264.Idx → EReal) (ix2 i j) = A.P i j)
    (hg : ∀ j, (V (Proc.devRef .tc main_arg4) : S2048.Idx → EReal) (ix1 j) = A.g j)
    (b : Fin 4) (ch : Fin 16) (r : Fin 128) (h : Fin 8) (w : Fin 256) (i : Fin 8192) (j : Fin 2048)
    (hi : i.val = (b.val * 16 + ch.val) * 128 + r.val) (hj : j.val = h.val * 256 + w.val) :
    (out_main_v65 V : S8192x2048.Idx → EReal) (ix2 i j) = outRow A b h ch.val r w := by
  unfold out_main_v65
  generalize (V (Proc.devRef .tc main_arg0) : S8448x11264.Idx → EReal) = P at hP ⊢
  generalize (V (Proc.devRef .tc main_arg4) : S2048.Idx → EReal) = g at hg ⊢
  have H : ∀ u, (V (Proc.devRef .tc main_v38_9) : S16x4x128x8x256.Idx → EReal) (ix5 ch b r h u) = _ := fun u => X.H ch b r h u ch.isLt
  generalize (V (Proc.devRef .tc main_v38_9) : S16x4x128x8x256.Idx → EReal) = x at H ⊢
  pointwise []
  have e1 : ∀ p, (⟨i.val % 2048 / 128, p⟩ : Fin 16) = ch := fun _ => Fin.ext (by show i.val % 2048 / 128 = ch.val; omega)
  have e2 : ∀ p, (⟨i.val / 2048, p⟩ : Fin 4) = b := fun _ => Fin.ext (by show i.val / 2048 = b.val; omega)
  have e3 : ∀ p, (⟨i.val % 2048 % 128, p⟩ : Fin 128) = r := fun _ => Fin.ext (by show i.val % 2048 % 128 = r.val; omega)
  have e4 : ∀ p, (⟨j.val / 256, p⟩ : Fin 8) = h := fun _ => Fin.ext (by show j.val / 256 = h.val; omega)
  have e5 : ∀ p, (⟨j.val % 256, p⟩ : Fin 256) = w := fun _ => Fin.ext (by show j.val % 256 = w.val; omega)
  simp only [e1, e2, e3, e4, e5, H, hP, hg]
  have e6 : ∀ p, (⟨i.val, p⟩ : Fin 8448) = rowOf b ch.val r := fun _ => Fin.ext (by show i.val = (b.val * 16 + ch.val % 16) * 128 + r.val; omega)
  have e7 : ∀ p, (⟨9216 + j.val, p⟩ : Fin 11264) = ⟨9216 + h.val * 256 + w.val, by omega⟩ := fun _ => Fin.ext (by show 9216 + j.val = 9216 + h.val * 256 + w.val; omega)
  have e8 : j = ⟨h.val * 256 + w.val, by omega⟩ := Fin.ext hj
  simp only [e6, e7]
  rw [show A.g j = gain A h w from congrArg A.g e8]
  rfl

theorem out66_at (X : Carried V A 16) (b : Fin 4) (h : Fin 8) (d : Fin 128) :
    (out_main_v66 V : S4x8x1x128.Idx → EReal) (ix4 b h 0 d) = (stc A b h 16).n d := by
  have N := X.n b h d
  unfold out_main_v66
  pointwise []
  exact N

theorem out67_at (X : Carried V A 16) (b : Fin 4) (h : Fin 8) :
    (out_main_v67 V : S4x8x1x1.Idx → EReal) (ix4 b h 0 0) = (stc A b h 16).m := by
  have N := X.m b h
  unfold out_main_v67
  pointwise []
  exact N

end Mlstm.R

end
-- ==== Proof.Mlstm.Claims.lean ====
/-
  The claims about the matrix-memory scan.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Mlstm.KernelArray
public import proofs.«01_k».proof.Proof.Mlstm.RefOut
public import Idealize.ShloMosaic.Lib.Claim

@[expose] public section

set_option maxRecDepth 16384

noncomputable section

open Idealize.ShloMosaic Idealize.ShloMosaic.TcCoe Idealize.SL.Sem

namespace Mlstm

/-- The printed `128`. -/
theorem word128 : Ideal.ofBits .f32 0x43000000#32 = ((128 : ℝ) : EReal) := by
  simp [Ideal.ofBits, Ideal.ieee, -EReal.coe_mul]; norm_num

/-- The kernel's named factor is the reference's quotient. -/
theorem ks_eq : K.ks = R.ks := by
  have hk : K.ks = (((Real.sqrt 128)⁻¹ : ℝ) : EReal) := IdealRules.named_const.ideal_named_scalar _ _ _ _ rfl
  rw [hk]
  unfold R.ks
  rw [word128, Ideal.sqrt_coe, if_neg (show ¬(128 : ℝ) < 0 by norm_num),
    Ideal.div_coe (show Real.sqrt 128 ≠ 0 from (Real.sqrt_pos.mpr (by norm_num)).ne'), one_mul, one_div]

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs read the same arrays. -/
theorem args_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    R.args m' c = K.args m c := by
  obtain ⟨h0, h1, h2, h3, h4, h5, h6, h7⟩ := h
  simp only [R.args, K.args, Args.mk.injEq]
  exact ⟨funext fun i => funext fun j => congrFun h0 (ix2 i j), funext fun i => funext fun j => congrFun h1 (ix2 i j),
    funext fun i => congrFun h2 (ix1 i), funext fun i => congrFun h3 (ix1 i), funext fun i => congrFun h4 (ix1 i),
    funext fun i => funext fun j => funext fun k => congrFun h5 (ix3 i j k), funext fun i => funext fun j => congrFun h6 (ix3 i 0 j),
    funext fun i => congrFun h7 (ix3 i 0 0), ks_eq.symm⟩

end

section
open Cert.ReferenceIdeal Cert.ReferenceIdeal.Value Idealize.ShloMosaic.StableHlo
variable (m : (ℓ : Loc nD τ sig) → Buf (Elt Ideal) ℓ) (c : Dev nD)

theorem R.res0 : out_main_v65 (STEP^[16] (entryContents preI m c)) = (fun i => resH (R.args m c) (i 0) (i 1) : S8192x2048.Idx → EReal) := by
  have X := R.carried m c 16 le_rfl
  have hP := iter_main_arg0 m c 16
  have hg := iter_main_arg4 m c 16
  funext i
  obtain ⟨a, d, rfl⟩ : ∃ (a : Fin 8192) (d : Fin 2048), i = ix2 a d := ⟨i 0, i 1, eq_ix2 i⟩
  have ha : a.val = ((a.val / 2048) * 16 + a.val / 128 % 16) * 128 + a.val % 128 := by omega
  have hd : d.val = d.val / 256 * 256 + d.val % 256 := by omega
  refine (R.out65_at _ _ X (fun i j => congrFun hP (ix2 i j)) (fun j => congrFun hg (ix1 j)) ⟨a.val / 2048, by omega⟩
    ⟨a.val / 128 % 16, by omega⟩ ⟨a.val % 128, by omega⟩ ⟨d.val / 256, by omega⟩ ⟨d.val % 256, by omega⟩ a d ha hd).trans ?_
  rfl

theorem R.res1 : (STEP^[16] (entryContents preI m c)) (Proc.devRef .tc main_v38_6) =
    (fun i => (stc (R.args m c) (i 0) (i 1) 16).C (i 2) (i 3) : S4x8x128x256.Idx → EReal) := by
  have X := R.carried m c 16 le_rfl
  funext i
  obtain ⟨b, h, d, w, rfl⟩ : ∃ (b : Fin 4) (h : Fin 8) (d : Fin 128) (w : Fin 256), i = ix4 b h d w := ⟨i 0, i 1, i 2, i 3, eq_ix4 i⟩
  exact X.C b h d w

theorem R.res2 : out_main_v66 (STEP^[16] (entryContents preI m c)) =
    (fun i => (stc (R.args m c) (i 0) (i 1) 16).n (i 3) : S4x8x1x128.Idx → EReal) := by
  have X := R.carried m c 16 le_rfl
  funext i
  obtain ⟨b, h, z, d, rfl⟩ : ∃ (b : Fin 4) (h : Fin 8) (z : Fin 1) (d : Fin 128), i = ix4 b h z d := ⟨i 0, i 1, i 2, i 3, eq_ix4 i⟩
  obtain rfl : z = 0 := Subsingleton.elim _ _
  exact R.out66_at _ _ X b h d

theorem R.res3 : out_main_v67 (STEP^[16] (entryContents preI m c)) =
    (fun i => (stc (R.args m c) (i 0) (i 1) 16).m : S4x8x1x1.Idx → EReal) := by
  have X := R.carried m c 16 le_rfl
  funext i
  obtain ⟨b, h, z, d, rfl⟩ : ∃ (b : Fin 4) (h : Fin 8) (z : Fin 1) (d : Fin 1), i = ix4 b h z d := ⟨i 0, i 1, i 2, i 3, eq_ix4 i⟩
  obtain rfl : z = 0 := Subsingleton.elim _ _
  obtain rfl : d = 0 := Subsingleton.elim _ _
  exact R.out67_at _ _ X b h

end

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "s" .f32 0x3DB504F3#32 (((Real.sqrt 128)⁻¹ : ℝ) : EReal) rfl

theorem algebraic : Cert.algebraic_KernelIdeal_ReferenceIdeal := by
  intro m ρ m' ρ' _ hagree
  refine ⟨_, _, _, _, Cert.KernelIdeal.Value.run_blocks (F := Ideal) m ρ, ?_⟩
  refine (θ_run Cert.ReferenceIdeal.defs _ _).mono (fun _ h c => ?_) (Cert.ReferenceIdeal.Value.run (F := Ideal) m' ρ')
  have e := args_eq m m' c (hagree c)
  obtain ⟨h0, h1, h2, h3, hk⟩ := h c
  exact ⟨h0.trans ((R.res0 m' c).trans (by rw [e]; exact (K.arr12 m c).symm)), h1.trans ((R.res1 m' c).trans (by rw [e]; exact (K.arr13 m c).symm)),
    h2.trans ((R.res2 m' c).trans (by rw [e]; exact (K.arr14 m c).symm)), h3.trans ((R.res3 m' c).trans (by rw [e]; exact (K.arr15 m c).symm)), hk⟩

end Mlstm

end
-- ==== Proof.Outproj.Spec.lean ====
/-
  The output projection as mathematics: a row of the first mixer's outputs is gated by its row of the projection,
  normalized and scaled; the second mixer's row stands beside it; their product with the weights is added to the input.
-/
module

public import Idealize.ShloMosaic.Lib.Pointwise
public import Idealize.ShloMosaic.Lib.Claim

@[expose] public section

noncomputable section

open Idealize.ShloMosaic

namespace Outproj

/-- The gated element: `y` times `z` times the logistic function of `z`. -/
def gated (y z : EReal) : EReal := y * (z * Ideal.div 1 (1 + Ideal.exp (-z)))

/-- Element `k` of a row divided by its root mean square (the printed `ε` added under the root) and scaled by the gain. -/
def rms (x g : Fin 2048 → EReal) (k : Fin 2048) : EReal :=
  x k * Ideal.rsqrt (Ideal.div (∑ u, x u * x u) (Ideal.ofBits .f32 0x45000000#32) + Ideal.ofBits .f32 0x358637BD#32) * g k

/-- The joined row. -/
def act (y z hm g : Fin 2048 → EReal) (k : Fin 4096) : EReal :=
  if h : k.val < 2048 then rms (fun u => gated (y u) (z u)) g ⟨k.val, h⟩ else hm ⟨k.val - 2048, by omega⟩

theorem act_lo (y z hm g : Fin 2048 → EReal) (k : Fin 2048) (h : k.val < 4096) :
    act y z hm g ⟨k.val, h⟩ = rms (fun u => gated (y u) (z u)) g k := dif_pos k.isLt

theorem act_hi (y z hm g : Fin 2048 → EReal) (k : Fin 2048) (h : 2048 + k.val < 4096) :
    act y z hm g ⟨2048 + k.val, h⟩ = hm k :=
  (dif_neg (show ¬ 2048 + k.val < 2048 by omega)).trans (congrArg hm (Fin.ext (show 2048 + k.val - 2048 = k.val by omega)))

/-- What the two programs read. -/
structure Args where
  y : Fin 8448 → Fin 2048 → EReal
  z : Fin 8448 → Fin 2048 → EReal
  hm : Fin 8448 → Fin 2048 → EReal
  g : Fin 2048 → EReal
  w : Fin 4096 → Fin 2048 → EReal
  h : Fin 8448 → Fin 2048 → EReal

/-- The result's element. -/
def res (A : Args) (i : Fin 8448) (j : Fin 2048) : EReal :=
  A.h i j + ∑ k, act (A.y i) (A.z i) (A.hm i) A.g k * A.w k j

end Outproj

end
-- ==== Proof.InProj.Spec.lean ====
/-
  The input projection as mathematics: each row normalized and scaled, then its product with the weights. The columns are
  handed out in two arrays: a wide one, and a narrow one whose last 80 columns are zero.
-/
module

public import proofs.«01_k».proof.Proof.Outproj.Spec

@[expose] public section

noncomputable section

open Idealize.ShloMosaic
open Outproj (rms)

namespace InProj

/-- What the two programs read. -/
structure Args where
  h : Fin 8448 → Fin 2048 → EReal
  g : Fin 2048 → EReal
  w : Fin 2048 → Fin 11312 → EReal

/-- The normalized row's element. -/
def x (A : Args) (i : Fin 8448) (k : Fin 2048) : EReal := rms (A.h i) A.g k

/-- The weights' column standing at column `n` of the wide array. -/
def wideCol (n : Fin 11264) : Fin 11312 :=
  if h : n.val < 5120 then ⟨n.val, by omega⟩ else if h' : n.val < 9216 then ⟨n.val + 32, by omega⟩ else ⟨n.val + 48, by omega⟩

/-- The weights' column standing at column `n` of the narrow array, for the columns that have one. -/
def narrowCol (n : Fin 48) : Fin 11312 := if n.val < 32 then ⟨n.val + 5120, by omega⟩ else ⟨n.val + 9216, by omega⟩

theorem wideCol_val (n : Fin 11264) :
    (wideCol n).val = if n.val < 5120 then n.val else if n.val < 9216 then n.val + 32 else n.val + 48 := by
  unfold wideCol; split_ifs <;> rfl

theorem narrowCol_val (n : Fin 48) : (narrowCol n).val = if n.val < 32 then n.val + 5120 else n.val + 9216 := by
  unfold narrowCol; split_ifs <;> rfl

/-- The product of a normalized row with one column of the weights. -/
def dotCol (A : Args) (i : Fin 8448) (k : Fin 11312) : EReal := ∑ u, x A i u * A.w u k

/-- The wide array's element. -/
def wide (A : Args) (i : Fin 8448) (n : Fin 11264) : EReal := dotCol A i (wideCol n)

/-- The narrow array's element. -/
def narrow (A : Args) (i : Fin 8448) (n : Fin 128) : EReal := if h : n.val < 48 then dotCol A i (narrowCol ⟨n.val, h⟩) else 0

/-- The weights standing at column `n` of the narrow array. -/
def narrowW (A : Args) (u : Fin 2048) (n : Fin 128) : EReal := if h : n.val < 48 then A.w u (narrowCol ⟨n.val, h⟩) else 0

theorem narrowW_pos (A : Args) (u : Fin 2048) (n : Fin 128) (h : n.val < 48) : narrowW A u n = A.w u (narrowCol ⟨n.val, h⟩) := dif_pos h
theorem narrowW_neg (A : Args) (u : Fin 2048) (n : Fin 128) (h : ¬ n.val < 48) : narrowW A u n = 0 := dif_neg h
theorem narrow_pos (A : Args) (i : Fin 8448) (n : Fin 128) (h : n.val < 48) : narrow A i n = dotCol A i (narrowCol ⟨n.val, h⟩) := dif_pos h
theorem narrow_neg (A : Args) (i : Fin 8448) (n : Fin 128) (h : ¬ n.val < 48) : narrow A i n = 0 := dif_neg h

/-- The product with a column of zeros is zero. -/
theorem narrow_eq (A : Args) (i : Fin 8448) (n : Fin 128) : ∑ u, x A i u * narrowW A u n = narrow A i n := by
  unfold narrow narrowW
  split_ifs with h
  · rfl
  · exact Finset.sum_eq_zero fun u _ => mul_zero _

end InProj

end
-- ==== Proof.InProj.RunK.lean ====
/- The idealized program, the input projection: its body run at each of its two kinds of point, and the proof that it leaves its
   arguments as they were and names what it stores.

   The body runs on a grid of 11 row blocks by 22 column blocks. At a row block's first column block it normalises
   the rows into a buffer of its own and stores the narrow product; at every point it stores the wide product of that
   buffer. The row block, the gain and the narrow weights do not change along a row block, so what that buffer and the
   narrow output hold at a point is a function of the blocks found at that very point. -/
module

public import proofs.«01_k».proof.Proof.Gen.Kernel2Ideal.Frame
public import proofs.«01_k».proof.Proof.Gen.Kernel2Ideal.Skeleton
public import Idealize.ShloMosaic.Lib.VecWindow
public import Idealize.ShloMosaic.Lib.Claim
public import Idealize.ShloMosaic.Lib.Pipeline.Value

@[expose] public section

set_option maxRecDepth 16384

noncomputable section

namespace InProj.K

open Cert Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by decide

/-- One memref the body is handed whole, at the contents `x`. -/
abbrev at_ {s : Shape} {e : EltTy} (c : Dev nD) (a : Memref sig .tc .vmem s e) (x : Vec F s e) : sProp 𝕄 :=
  owns (c : Thread nD τ) a fullShare x

/-- One memref the body is handed whole, at any contents. -/
abbrev any_ {s : Shape} {e : EltTy} (c : Dev nD) (a : Memref sig .tc .vmem s e) : sProp 𝕄 :=
  iprop(∃ d : Vec F s e, owns (c : Thread nD τ) a fullShare d)

section Runs

variable (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x128 .bf16) (harg5 : arg5.IsWhole)
  (arg6 : Memref sig .tc .vmem S768x512 .f32) (harg6 : arg6.IsWhole) (arg7 : Memref sig .tc .vmem S768x128 .f32) (harg7 : arg7.IsWhole)
  (arg8 : Memref sig .tc .vmem S768x2048 .bf16) (harg8 : arg8.IsWhole)
  (x0 : Vec F S768x2048 .f32) (x1 : Vec F S1x2048 .f32) (x2 : Vec F S2048x512 .bf16) (x3 : Vec F S2048x128 .bf16)

set_option maxHeartbeats 1000000 in
/-- At the first column block: the normalised rows go into the body's own buffer, and both products are stored. -/
theorem run_first (hc : k0_cond1 i = 1#1) (E : Set ℕ) (K : PUnit → sProp 𝕄) :
    iprop(at_ c arg2 x0 ∗ at_ c arg3 x1 ∗ at_ c arg4 x2 ∗ at_ c arg5 x3 ∗ any_ (F := F) c arg6 ∗ any_ (F := F) c arg7 ∗ any_ (F := F) c arg8
        ∗ (iprop(at_ c arg2 x0 ∗ at_ c arg3 x1 ∗ at_ c arg4 x2 ∗ at_ c arg5 x3 ∗ at_ c arg6 (k0_pay4 (k0_pay2 x0 x1) x2)
            ∗ at_ c arg7 (k0_pay3 x0 x1 x3) ∗ at_ c arg8 (k0_pay2 x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold at_ any_ owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    simp only [View.readAt_eq_ld, harg2.read_unread, harg3.read_unread, harg4.read_unread, harg5.read_unread, harg8.read_unread, View.ld_unit_zero (S := S768x2048) hz2, View.ld_unit_zero (S := S1x2048) hz2, View.ld_unit_zero (S := S2048x512) hz2, View.ld_unit_zero (S := S2048x128) hz2]
    rw [View.read_writes_full, View.readCov_eq_canon']
    refine congrArg (fun z => k0_pay4 z x2) (funext fun j => ?_)
    rw [View.canon_unit_zero hz2]
    exact congrArg (k0_pay2 x0 x1) (funext fun a => by fin_cases a <;> (apply Fin.ext; show 0 + 1 * _ = _; simp))
  isplitl [H5]
  · iexists _; isplitr
    swap; · iexact H5
    ipureintro
    sl_unfold_words
    simp only [View.readAt_eq_ld, harg2.read_unread, harg3.read_unread, harg4.read_unread, harg5.read_unread, harg8.read_unread, View.ld_unit_zero (S := S768x2048) hz2, View.ld_unit_zero (S := S1x2048) hz2, View.ld_unit_zero (S := S2048x512) hz2, View.ld_unit_zero (S := S2048x128) hz2]
    rw [View.read_writes_full]
  iexists _; isplitr
  swap; · iexact HS
  ipureintro
  sl_unfold_words
  simp only [View.readAt_eq_ld, harg2.read_unread, harg3.read_unread, harg4.read_unread, harg5.read_unread, harg8.read_unread, View.ld_unit_zero (S := S768x2048) hz2, View.ld_unit_zero (S := S1x2048) hz2, View.ld_unit_zero (S := S2048x512) hz2, View.ld_unit_zero (S := S2048x128) hz2]
  rw [View.read_writes_full]

set_option maxHeartbeats 1000000 in
/-- At the other column blocks: the wide product of what the body's own buffer holds; the narrow output is left alone. -/
theorem run_next (hc : ¬k0_cond1 i = 1#1) (x5 : Vec F S768x128 .f32) (xs : Vec F S768x2048 .bf16) (E : Set ℕ) (K : PUnit → sProp 𝕄) :
    iprop(at_ c arg2 x0 ∗ at_ c arg3 x1 ∗ at_ c arg4 x2 ∗ at_ c arg5 x3 ∗ any_ (F := F) c arg6 ∗ at_ c arg7 x5 ∗ at_ c arg8 xs
        ∗ (iprop(at_ c arg2 x0 ∗ at_ c arg3 x1 ∗ at_ c arg4 x2 ∗ at_ c arg5 x3 ∗ at_ c arg6 (k0_pay4 xs x2)
            ∗ at_ c arg7 x5 ∗ at_ c arg8 xs) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold at_ any_ owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    simp only [View.readAt_eq_ld, harg2.read_unread, harg3.read_unread, harg4.read_unread, harg5.read_unread, harg8.read_unread, View.ld_unit_zero (S := S768x2048) hz2, View.ld_unit_zero (S := S1x2048) hz2, View.ld_unit_zero (S := S2048x512) hz2, View.ld_unit_zero (S := S2048x128) hz2]
    rw [View.read_writes_full]
  isplitl [H5]
  · iexists _; isplitr; · ipureintro; exact harg7.read_unread _
    iexact H5
  iexists _; isplitr; · ipureintro; exact harg8.read_unread _
  iexact HS

end Runs

end InProj.K

end
-- ==== Proof.InProj.FrameK.lean ====
/- The idealized program, the input projection: what each buffer holds point by point, the run of the whole grid, and that the
   arguments end as they were. -/
module

public import proofs.«01_k».proof.Proof.InProj.RunK

@[expose] public section

set_option maxRecDepth 16384

noncomputable section

namespace InProj.K

open Cert Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test holds at the first column block of each row block. -/
theorem first_iff : ∀ t : Fin cfg0.N, k0_cond1 (grid0.coords t) = 1#1 ↔ t.val % 22 = 0 :=
  (fun t => by
    have ht : t.val < 242 := Nat.lt_of_lt_of_eq t.isLt N_0
    have e1 : (grid0.coords t 1).val = t.val / 1 % 22 := Pipeline.Grid.coords_val t 1 (by decide) rfl
    simp only [k0_cond1, e1]
    word_cmp
   : ∀ t : Fin grid0.N, k0_cond1 (grid0.coords t) = 1#1 ↔ t.val % 22 = 0)

/-- The narrow output is stored into at the first column block only. -/
theorem live5 (t : Fin cfg0.N) (h : t.val % 22 = 0) : cfg0.idle 5 (grid0.coords t) = false := by
  show (!(k0_cond1 (grid0.coords t) == 1#1)) = false
  rw [(first_iff t).mpr h]; rfl
theorem idle5 (t : Fin cfg0.N) (h : ¬t.val % 22 = 0) : cfg0.idle 5 (grid0.coords t) = true := by
  show (!(k0_cond1 (grid0.coords t) == 1#1)) = true
  rw [Bool.not_eq_true', beq_eq_false_iff_ne]
  exact fun e => h ((first_iff t).mp e)

/-- The buffer of the body's own. -/
abbrev own : Memref sig .tc .vmem S768x2048 .bf16 := Memref.whole cc0_scratch0

/-- The buffers at a point, as the body is called on them. -/
abbrev b0 (t : Fin cfg0.N) : Memref sig .tc .vmem S768x2048 .f32 := win0_0.stage (cfg0.slots t 0)
abbrev b1 (t : Fin cfg0.N) : Memref sig .tc .vmem S1x2048 .f32 := win0_1.stage (cfg0.slots t 1)
abbrev b2 (t : Fin cfg0.N) : Memref sig .tc .vmem S2048x512 .bf16 := win0_2.stage (cfg0.slots t 2)
abbrev b3 (t : Fin cfg0.N) : Memref sig .tc .vmem S2048x128 .bf16 := win0_3.stage (cfg0.slots t 3)
abbrev b4 (t : Fin cfg0.N) : Memref sig .tc .vmem S768x512 .f32 := win0_4.stage (cfg0.slots t 4)
abbrev b5 (t : Fin cfg0.N) : Memref sig .tc .vmem S768x128 .f32 := win0_5.stage (cfg0.slots t 5)

theorem entry_eq (c : Dev nD) :
    (Pipeline.ΦA spec0 c : sProp 𝕄) = iprop(any_ (F := F) c own ∗ (∃ r, prngReg c r)) := by
  unfold Pipeline.ΦA; rw [scopedRest0_eq]; simp only [any_, own, owns_whole]; try rfl

/-- The blocks found at a point. -/
abbrev rows (c : Dev nD) (t : Fin cfg0.N) : Vec F S768x2048 .f32 := iblk m c 0 t
abbrev gain (c : Dev nD) (t : Fin cfg0.N) : Vec F S1x2048 .f32 := iblk m c 1 t
abbrev wide (c : Dev nD) (t : Fin cfg0.N) : Vec F S2048x512 .bf16 := iblk m c 2 t
abbrev narrow (c : Dev nD) (t : Fin cfg0.N) : Vec F S2048x128 .bf16 := iblk m c 3 t

/-- After a point: the normalised rows in the body's own buffer, and the two products. -/
def normed (c : Dev nD) (t : Fin cfg0.N) : Vec F S768x2048 .bf16 := k0_pay2 (rows m c t) (gain m c t)
def wideOut (c : Dev nD) (t : Fin cfg0.N) : Vec F S768x512 .f32 := k0_pay4 (normed m c t) (wide m c t)
def narrowOut (c : Dev nD) (t : Fin cfg0.N) : Vec F S768x128 .f32 := k0_pay3 (rows m c t) (gain m c t) (narrow m c t)

/-- What is held between points: before the first, the own buffer at anything; after point `n`, at that point's
    normalised rows. -/
def between (c : Dev nD) : (n : ℕ) → n ≤ cfg0.N → sProp 𝕄
  | 0, _ => Pipeline.ΦA spec0 c
  | n + 1, hn => iprop(at_ c own (normed m c ⟨n, hn⟩) ∗ (∃ r, prngReg c r))

theorem between_zero (c : Dev nD) (n : ℕ) (h : n ≤ cfg0.N) (hz : n = 0) : between m c n h = Pipeline.ΦA spec0 c := by
  subst hz; rfl
theorem between_succ (c : Dev nD) (t : Fin cfg0.N) :
    between m c (t.val + 1) t.isLt = iprop(at_ c own (normed m c t) ∗ (∃ r, prngReg c r)) := rfl

/-- The point before. -/
abbrev pred (t : Fin cfg0.N) : Fin cfg0.N := ⟨t.val - 1, Nat.lt_of_le_of_lt (Nat.sub_le _ _) t.isLt⟩

theorem between_pos (c : Dev nD) (t : Fin cfg0.N) (hz : t.val ≠ 0) :
    between m c t.val (Nat.le_of_lt t.isLt) = iprop(at_ c own (normed m c (pred t)) ∗ (∃ r, prngReg c r)) := by
  obtain ⟨n, hn⟩ := t
  cases n with
  | zero => exact absurd rfl hz
  | succ n => rfl

/-- The proof data of the grid: every input left in place, the outputs at the two products of the blocks found at
    the point, and `between` held from one point to the next. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideOut m c t
    | ⟨5, _⟩ => narrowOut m c t
  Φ t := between m c t.val (Nat.le_of_lt_succ t.isLt)
  q _ := fullShare
  owed _ := 0

theorem entry_arrays (c : Dev nD) (w : Fin cfg0.W) : (dats m 0 c).A w = V m c (Pipeline.arrRef spec0 w) := by dsimp only [dats]

theorem start_eq (c : Dev nD) (t : Fin cfg0.N) :
    (dats m 0 c).Φ t.castSucc = between m c t.val (Nat.le_of_lt t.isLt) := by
  dsimp only [dats]; exact Pipeline.Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = wideOut m c t := by dsimp only [dats]
theorem after5 (c : Dev nD) (t : Fin cfg0.N) : (dats m 0 c).after 5 t = narrowOut m c t := by dsimp only [dats]

theorem before0 (c : Dev nD) (t : Fin cfg0.N) (d) : (dats m 0 c).before 0 t d = rows m c t :=
  before0_0_of m (dats m 0 c) (entry_arrays m c 0) (after0 m c) t d
theorem before1 (c : Dev nD) (t : Fin cfg0.N) (d) : (dats m 0 c).before 1 t d = gain m c t :=
  before0_1_of m (dats m 0 c) (entry_arrays m c 1) (after1 m c) t d
theorem before2 (c : Dev nD) (t : Fin cfg0.N) (d) : (dats m 0 c).before 2 t d = wide m c t :=
  before0_2_of m (dats m 0 c) (entry_arrays m c 2) (after2 m c) t d
theorem before3 (c : Dev nD) (t : Fin cfg0.N) (d) : (dats m 0 c).before 3 t d = narrow m c t :=
  before0_3_of m (dats m 0 c) (entry_arrays m c 3) (after3 m c) t d

/-- Inside a row block the rows, the gain and the narrow weights found are those of the point before. -/
theorem rows_pred (c : Dev nD) (t : Fin cfg0.N) (h : ¬t.val % 22 = 0) : rows m c (pred t) = rows m c t := by
  have hf : (cfg0.win 0).fetch t = false := by
    rw [← Bool.not_eq_true, fetch0_0]; exact h
  obtain ⟨-, hix⟩ := (cfg0.win 0).index_eq_of_fetch rfl t hf
  have e := (dats m 0 c).fetched_congr 0 hix.symm rfl (rows m c t)
  unfold Dat.fetched Dat.blockOf at e
  rw [entry_arrays] at e
  exact e
theorem gain_pred (c : Dev nD) (t : Fin cfg0.N) (h : ¬t.val % 22 = 0) : gain m c (pred t) = gain m c t := by
  have hf : (cfg0.win 1).fetch t = false := by
    rw [← Bool.not_eq_true, fetch0_1]; omega
  obtain ⟨-, hix⟩ := (cfg0.win 1).index_eq_of_fetch rfl t hf
  have e := (dats m 0 c).fetched_congr 1 hix.symm rfl (gain m c t)
  unfold Dat.fetched Dat.blockOf at e
  rw [entry_arrays] at e
  exact e
theorem narrow_pred (c : Dev nD) (t : Fin cfg0.N) (h : ¬t.val % 22 = 0) : narrow m c (pred t) = narrow m c t := by
  have hf : (cfg0.win 3).fetch t = false := by
    rw [← Bool.not_eq_true, fetch0_3]; omega
  obtain ⟨-, hix⟩ := (cfg0.win 3).index_eq_of_fetch rfl t hf
  have e := (dats m 0 c).fetched_congr 3 hix.symm rfl (narrow m c t)
  unfold Dat.fetched Dat.blockOf at e
  rw [entry_arrays] at e
  exact e

theorem normed_pred (c : Dev nD) (t : Fin cfg0.N) (h : ¬t.val % 22 = 0) : normed m c (pred t) = normed m c t := by
  unfold normed; rw [rows_pred m c t h, gain_pred m c t h]
theorem narrowOut_pred (c : Dev nD) (t : Fin cfg0.N) (h : ¬t.val % 22 = 0) : narrowOut m c (pred t) = narrowOut m c t := by
  unfold narrowOut; rw [rows_pred m c t h, gain_pred m c t h, narrow_pred m c t h]

/-- So past a row block's first point the narrow output's buffer is found at what this point would have stored. -/
theorem before5 (c : Dev nD) : ∀ (n : ℕ) (hn : n < cfg0.N), ¬n % 22 = 0 → ∀ d, (dats m 0 c).before 5 ⟨n, hn⟩ d = narrowOut m c ⟨n, hn⟩
  | 0, _, h, _ => absurd (Nat.zero_mod _) h
  | n + 1, hn, h, d => by
    have hfl : (cfg0.win 5).flush (pred ⟨n + 1, hn⟩) = false := by
      rw [← Bool.not_eq_true, flush0_5]; show ¬(n + 1 - 1) % 22 = 21; omega
    rw [(dats m 0 c).before_of_pos 5 ⟨n + 1, hn⟩ (Nat.succ_ne_zero n) rfl d, hfl, if_neg Bool.false_ne_true, ← narrowOut_pred m c ⟨n + 1, hn⟩ h]
    unfold Dat.left
    by_cases h0 : n % 22 = 0
    · rw [live5 (pred ⟨n + 1, hn⟩) h0]
      show (dats m 0 c).kept 5 _ d = _
      unfold Dat.kept
      rw [after5]
      rfl
    · rw [idle5 (pred ⟨n + 1, hn⟩) h0]
      exact before5 c n (Nat.lt_of_succ_lt hn) h0 d

/-- The narrow output's buffer, left at this point's product, is what the grid asks of it. -/
theorem leaves5 (c : Dev nD) (t : Fin cfg0.N) : (at_ c (b5 t) (narrowOut m c t) : sProp 𝕄) ⊢ (dats m 0 c).leavesExact 5 t := by
  by_cases h : t.val % 22 = 0
  · unfold Dat.leavesExact; rw [live5 t h, after5]
  · cases hf : (cfg0.win 5).flush t with
    | true => unfold Dat.leavesExact; rw [idle5 t h, hf, after5]
    | false =>
      rw [(dats m 0 c).leavesExact_idle 5 t (idle5 t h) hf]
      iintro H
      iexists (narrowOut m c t)
      rw [before5 m c t.val t.isLt h]
      iexact H

/-- What the body is called with at a point, and what it hands back. -/
def bodyPre (c : Dev nD) (t : Fin cfg0.N) : sProp 𝕄 :=
  iprop((dats m 0 c).Φ t.castSucc ∗ (dats m 0 c).owesAt () t.castSucc
    ∗ (∃ d, at_ c (b0 t) ((dats m 0 c).before 0 t d))
    ∗ (∃ d, at_ c (b1 t) ((dats m 0 c).before 1 t d))
    ∗ (∃ d, at_ c (b2 t) ((dats m 0 c).before 2 t d))
    ∗ (∃ d, at_ c (b3 t) ((dats m 0 c).before 3 t d))
    ∗ (∃ d, at_ c (b4 t) ((dats m 0 c).before 4 t d))
    ∗ (∃ d, at_ c (b5 t) ((dats m 0 c).before 5 t d)))
def bodyPost (c : Dev nD) (t : Fin cfg0.N) : sProp 𝕄 :=
  iprop((dats m 0 c).Φ t.succ ∗ (dats m 0 c).owesAt () t.succ
    ∗ at_ c (b0 t) ((dats m 0 c).after 0 t)
    ∗ at_ c (b1 t) ((dats m 0 c).after 1 t)
    ∗ at_ c (b2 t) ((dats m 0 c).after 2 t)
    ∗ at_ c (b3 t) ((dats m 0 c).after 3 t)
    ∗ at_ c (b4 t) ((dats m 0 c).after 4 t)
    ∗ (dats m 0 c).leavesExact 5 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4]
  rw [show (dats m 0 c).Φ t.succ = between m c (t.val + 1) t.isLt from rfl, between_succ, start_eq m c t]
  by_cases h0 : t.val % 22 = 0
  · have hpre : (between m c t.val (Nat.le_of_lt t.isLt) : sProp 𝕄) ⊢ iprop(any_ (F := F) c own ∗ (∃ r, prngReg c r)) := by
      by_cases hz : t.val = 0
      · rw [between_zero m c _ _ hz, entry_eq]
      · rw [between_pos m c t hz]
        iintro ⟨HS, Hg⟩
        isplitl [HS]; · iexists _; iexact HS
        iexact Hg
    iintro ⟨HP, Ho, ⟨%d0, H0⟩, ⟨%d1, H1⟩, ⟨%d2, H2⟩, ⟨%d3, H3⟩, ⟨%d4, H4⟩, ⟨%d5, H5⟩⟩
    ihave HP' := hpre $$ HP
    icases HP' with ⟨HS, Hg⟩
    iapply (run_first c (grid0.coords t) _ _ _ _ _ _ _ _ _ _ _ _ _ _ (rows m c t) (gain m c t) (wide m c t) (narrow m c t) ((first_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5
  · have hz : t.val ≠ 0 := fun e => h0 (by rw [e])
    rw [between_pos m c t hz, normed_pred m c t h0]
    simp only [before5 m c t.val t.isLt h0]
    iintro ⟨⟨HS, Hg⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ _ _ (rows m c t) (gain m c t) (wide m c t) (narrow m c t) (fun h => h0 ((first_iff t).mp h)) (narrowOut m c t) (normed m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

theorem body_at (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_at]
  exact triple_restated (sound_body m c t) rfl .rfl fun _ => .rfl

theorem enters (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem exits (c : Dev nD) : (dats m 0 c).Φ (Fin.last cfg0.N) ⊢ Pipeline.ΦA spec0 c := by
  rw [show (dats m 0 c).Φ (Fin.last cfg0.N) = iprop(at_ c own (normed m c ⟨241, by rw [show cfg0.N = 242 from N_0]; omega⟩) ∗ (∃ r, prngReg c r)) from rfl, entry_eq]
  iintro ⟨HS, Hg⟩
  isplitl [HS]
  · iexists _; iexact HS
  iexact Hg

set_option backward.isDefEq.respectTransparency.types false in
/-- The launch: it terminates with the arrays at what the grid computes and every counter at zero. -/
theorem ends : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := entry_arrays m) (hin := enters m) (hout := exits m)

theorem ends_arrays : θ_run defs (onTc (τ := τ) (main (F := F))) (s₀ m ρ) (Pipeline.FramePost cfgs (dats m) 0 (V m)) :=
  (θ_run defs _ _).mono (fun _ h => h.1) (ends m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (entry_arrays m) (ends_arrays m ρ)

/-- The arguments end unchanged and every counter at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (ends m ρ))

end InProj.K

end
-- ==== Proof.InProj.KernelArray.lean ====
/-
  The input projection's arrays: point `t` works on row block `t / 22` and column block `t % 22`.
-/
module

public import proofs.«01_k».proof.Proof.InProj.Spec
public import proofs.«01_k».proof.Proof.InProj.FrameK
public import Idealize.ShloMosaic.Lib.Pipeline.ValueKit.Point

@[expose] public section

set_option maxRecDepth 16384

noncomputable section

open Idealize.ShloMosaic Idealize.ShloMosaic.TcCoe Idealize.SL.Sem Cert.Kernel2Ideal Cert.Kernel2Ideal.Gen
open Outproj (rms)

namespace InProj.K

theorem pay1_at (v8 : Vec Ideal S768x2048 .f32) (v19 : Vec Ideal S1x2048 .f32) (r : Fin 768) (k : Fin 2048) :
    (k0_pay1 v8 v19 : S768x2048.Idx → EReal) (ix2 r k)
      = rms (fun u => (v8 : S768x2048.Idx → EReal) (ix2 r u)) (fun u => (v19 : S1x2048.Idx → EReal) (ix2 0 u)) k := by
  unfold k0_pay1
  pointwise []
  rfl

theorem pay2_at (v8 : Vec Ideal S768x2048 .f32) (v19 : Vec Ideal S1x2048 .f32) (r : Fin 768) (k : Fin 2048) :
    (k0_pay2 v8 v19 : S768x2048.Idx → EReal) (ix2 r k) = (k0_pay1 v8 v19 : S768x2048.Idx → EReal) (ix2 r k) := by
  unfold k0_pay2
  generalize k0_pay1 v8 v19 = x
  pointwise []

theorem pay3_at (v8 : Vec Ideal S768x2048 .f32) (v19 : Vec Ideal S1x2048 .f32) (v27 : Vec Ideal S2048x128 .bf16) (r : Fin 768) (n : Fin 128) :
    (k0_pay3 v8 v19 v27 : S768x128.Idx → EReal) (ix2 r n)
      = ∑ u, (k0_pay1 v8 v19 : S768x2048.Idx → EReal) (ix2 r u) * (v27 : S2048x128.Idx → EReal) (ix2 u n) := by
  unfold k0_pay3
  generalize k0_pay1 v8 v19 = x
  pointwise []

theorem pay4_at (v3 : Vec Ideal S768x2048 .bf16) (v4 : Vec Ideal S2048x512 .bf16) (r : Fin 768) (n : Fin 512) :
    (k0_pay4 v3 v4 : S768x512.Idx → EReal) (ix2 r n)
      = ∑ u, (v3 : S768x2048.Idx → EReal) (ix2 r u) * (v4 : S2048x512.Idx → EReal) (ix2 u n) := by
  unfold k0_pay4
  pointwise []

variable (m : (ℓ : Loc nD τ sig) → Buf (Elt Ideal) ℓ) (c : Dev nD)

/-- The kernel's arguments. -/
def args : Args where
  h i j := (m (c, main_arg0) : S8448x2048.Idx → EReal) (ix2 i j)
  g j := (m (c, main_arg1) : S2048.Idx → EReal) (ix1 j)
  w u n := (m (c, main_arg2) : S2048x11312.Idx → EReal) (ix2 u n)

theorem tlt (t : Fin cfg0.N) : t.val < 242 := lt_of_lt_of_eq t.isLt N_0

/-- Row `r` of the point's row block, and column `n` of its column block. -/
def row (t : Fin cfg0.N) (r : Fin 768) : Fin 8448 := ⟨t.val / 22 * 768 + r.val, by have := tlt t; omega⟩
def col (t : Fin cfg0.N) (n : Fin 512) : Fin 11264 := ⟨t.val % 22 * 512 + n.val, by omega⟩
theorem row_val (t : Fin cfg0.N) (r : Fin 768) : (row t r).val = t.val / 22 * 768 + r.val := rfl
theorem col_val (t : Fin cfg0.N) (n : Fin 512) : (col t n).val = t.val % 22 * 512 + n.val := rfl

theorem idx0 : ∀ t : Fin cfg0.N, (cfg0.win 0).index t = ![t.val / 22, 0] := by decide +kernel
theorem idx1 : ∀ t : Fin cfg0.N, (cfg0.win 1).index t = ![0, 0] := by decide +kernel
theorem idx2 : ∀ t : Fin cfg0.N, (cfg0.win 2).index t = ![0, t.val % 22] := by decide +kernel
theorem idx3 : ∀ t : Fin cfg0.N, (cfg0.win 3).index t = ![0, 0] := by decide +kernel
theorem idx4 : ∀ t : Fin cfg0.N, (cfg0.win 4).index t = ![t.val / 22, t.val % 22] := by decide +kernel
theorem idx5 : ∀ t : Fin cfg0.N, (cfg0.win 5).index t = ![t.val / 22, 0] := by decide +kernel

theorem V_g (k : Fin 2048) : (V m c main_v14 : S1x2048.Idx → EReal) (ix2 0 k) = (args m c).g k := by
  unfold_abbrev_sides
  after_results
  pointwise []

theorem V_wide (u : Fin 2048) (n : Fin 11264) : (V m c main_v10 : S2048x11264.Idx → EReal) (ix2 u n) = (args m c).w u (wideCol n) := by
  unfold_abbrev_sides
  after_results
  pointwise []
  split_ifs <;> after_results_simp <;> pointwise []
  all_goals
    refine congrArg (m (c, Proc.tc.devRef main_arg2)) (congrArg (ix2 u) (Fin.ext ?_))
    rw [wideCol_val]
    dsimp only
    split_ifs <;> omega

theorem V_narrow (u : Fin 2048) (n : Fin 128) : (V m c main_v13 : S2048x128.Idx → EReal) (ix2 u n) = narrowW (args m c) u n := by
  unfold_abbrev_sides
  after_results
  pointwise []
  split_ifs <;> after_results_simp <;> pointwise []
  all_goals by_cases h : n.val < 48
  all_goals first
    | exact (narrowW_neg _ u n h).symm
    | (exfalso; omega)
    | (rw [narrowW_pos _ u n h]
       refine congrArg (m (c, Proc.tc.devRef main_arg2)) (congrArg (ix2 u) (Fin.ext ?_))
       rw [narrowCol_val]
       dsimp only
       split_ifs <;> omega)

theorem blk0 (t : Fin cfg0.N) (r : Fin 768) (k : Fin 2048) :
    (rows m c t : S768x2048.Idx → EReal) (ix2 r k) = (args m c).h (row t r) k := by
  unfold args
  rw [← V_main_arg0 m c]
  blk_ext [iblk, idx0 t, row_val]

theorem blk1 (t : Fin cfg0.N) (k : Fin 2048) :
    (gain m c t : S1x2048.Idx → EReal) (ix2 0 k) = (args m c).g k := by
  rw [← V_g m c]
  blk_ext [iblk, idx1 t]

theorem blk2 (t : Fin cfg0.N) (u : Fin 2048) (n : Fin 512) :
    (wide m c t : S2048x512.Idx → EReal) (ix2 u n) = (args m c).w u (wideCol (col t n)) := by
  rw [← V_wide m c]
  blk_ext [iblk, idx2 t, col_val]

theorem blk3 (t : Fin cfg0.N) (u : Fin 2048) (n : Fin 128) :
    (narrow m c t : S2048x128.Idx → EReal) (ix2 u n) = narrowW (args m c) u n := by
  rw [← V_narrow m c]
  blk_ext [iblk, idx3 t]

theorem pay1_blk (t : Fin cfg0.N) (r : Fin 768) (k : Fin 2048) :
    (k0_pay1 (rows m c t) (gain m c t) : S768x2048.Idx → EReal) (ix2 r k) = x (args m c) (row t r) k :=
  (pay1_at (rows m c t) (gain m c t) r k).trans
    (congrFun (congr (congrArg rms (funext fun u => blk0 m c t r u)) (funext fun u => blk1 m c t u)) k)

/-- A product of blocks, from its terms. -/
theorem sums (a a' b b' : Fin 2048 → EReal) (ha : ∀ u, a u = a' u) (hb : ∀ u, b u = b' u) : ∑ u, a u * b u = ∑ u, a' u * b' u :=
  Finset.sum_congr rfl fun u _ => by rw [ha u, hb u]

theorem wideOut_at (t : Fin cfg0.N) (r : Fin 768) (n : Fin 512) :
    (wideOut m c t : S768x512.Idx → EReal) (ix2 r n) = InProj.wide (args m c) (row t r) (col t n) :=
  (pay4_at (normed m c t) (wide m c t) r n).trans (sums _ _ _ _
    (fun u => (pay2_at (rows m c t) (gain m c t) r u).trans (pay1_blk m c t r u)) (fun u => blk2 m c t u n))

theorem narrowOut_at (t : Fin cfg0.N) (r : Fin 768) (n : Fin 128) :
    (narrowOut m c t : S768x128.Idx → EReal) (ix2 r n) = InProj.narrow (args m c) (row t r) n :=
  ((pay3_at (rows m c t) (gain m c t) (narrow m c t) r n).trans (sums _ _ _ _
    (fun u => pay1_blk m c t r u) (fun u => blk3 m c t u n))).trans (narrow_eq (args m c) (row t r) n)

theorem arr4 : (dats m 0 c).arrAt 4 cfg0.N = (fun i => InProj.wide (args m c) (i 0) (i 1) : S8448x11264.Idx → EReal) := by
  refine (dats m 0 c).arrAt_eq_of_covers 4 _ (by decide +kernel) fun t hf y => ?_
  rw [after4]
  blk_simp [idx4 t]
  obtain ⟨r, n, rfl⟩ : ∃ (r : Fin 768) (n : Fin 512), y = ix2 r n := ⟨y 0, y 1, eq_ix2 y⟩
  refine (wideOut_at m c t r n).trans ?_
  have e0 : ((win0_4.blk t).view.emb (ix2 r n) 0 : Fin 8448) = row t r := Fin.ext (by blk_simp [idx4 t] <;> (show _ = t.val / 22 * 768 + r.val) <;> omega)
  have e1 : ((win0_4.blk t).view.emb (ix2 r n) 1 : Fin 11264) = col t n := Fin.ext (by blk_simp [idx4 t] <;> (show _ = t.val % 22 * 512 + n.val) <;> omega)
  rw [e0, e1]

theorem arr5 : (dats m 0 c).arrAt 5 cfg0.N = (fun i => InProj.narrow (args m c) (i 0) (i 1) : S8448x128.Idx → EReal) := by
  refine (dats m 0 c).arrAt_eq_of_covers 5 _ (by decide +kernel) fun t hf y => ?_
  rw [after5]
  blk_simp [idx5 t]
  obtain ⟨r, n, rfl⟩ : ∃ (r : Fin 768) (n : Fin 128), y = ix2 r n := ⟨y 0, y 1, eq_ix2 y⟩
  refine (narrowOut_at m c t r n).trans ?_
  have e0 : ((win0_5.blk t).view.emb (ix2 r n) 0 : Fin 8448) = row t r := Fin.ext (by blk_simp [idx5 t] <;> (show _ = t.val / 22 * 768 + r.val) <;> omega)
  have e1 : ((win0_5.blk t).view.emb (ix2 r n) 1 : Fin 128) = n := Fin.ext (by blk_simp [idx5 t] <;> (show _ = n.val) <;> omega)
  rw [e0, e1]

/-- The run of the whole program: both results as arrays, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v15_0) = (dats m 0 c).arrAt 4 cfg0.N
      ∧ r.2.mem ((c.tc : Thread nD τ).loc main_v15_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, (h.1 c).1 5, h.2 c⟩) (θ_run_and (ends_arrays m ρ) (unchanged m ρ))

end InProj.K

end
-- ==== Proof.InProj.Claims.lean ====
/-
  The claims about the input projection.
-/
module

public import proofs.«01_k».proof.Defs
public import proofs.«01_k».proof.Proof.Gen.Reference2Ideal.Run
public import proofs.«01_k».proof.Proof.InProj.KernelArray
public import proofs.«01_k».proof.Proof.InProj.FrameP
public import Idealize.ShloMosaic.Lib.Claim

@[expose] public section

set_option maxRecDepth 16384

noncomputable section

open Idealize.ShloMosaic Idealize.ShloMosaic.TcCoe Idealize.SL.Sem
open Outproj (rms)

namespace InProj

namespace R
open Cert.Reference2Ideal Cert.Reference2Ideal.Gen

variable (h : FVec Ideal S8448x2048 .f32) (g : FVec Ideal S2048 .f32) (w : FVec Ideal S2048x11312 .f32)

/-- The reference's normalized rows. -/
abbrev normRows : FVec Ideal S8448x2048 .f32 :=
  mulf (mulf h (broadcastInDim S8448x2048 ![0, 1] bcast_S8448x1_S8448x2048_0_1 (Host.rsqrt (addf (Host.divf
    (broadcastInDim S8448x1 ![0] bcast_S8448_S8448x1_0 (Host.reduceAdd (mulf h h) (constant S_ .f32 0x00000000#32) reducesTo_S8448x2048_S8448_d1 h_S_))
    (broadcastInDim S8448x1 ![] bcast_S_S8448x1 (constant S_ .f32 0x45000000#32)))
    (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The reference's product. -/
abbrev product (x : FVec Ideal S8448x2048 .f32) : FVec Ideal S8448x11312 .f32 :=
  Host.dotGeneral dot_S8448x2048_S2048x11312_S8448x11312_1_0_0_1_n_n none x w

/-- The columns of a product that make the wide array. -/
abbrev wideOf (p : FVec Ideal S8448x11312 .f32) : FVec Ideal S8448x11264 .f32 :=
  concatenate S8448x11264 1 [
    ⟨S8448x2048, (extractStridedSlice S8448x2048 ![0, 0] p slices_S8448x11312_S8448x2048_0_0 : (⟨S8448x2048, .f32⟩ : BufTy).Contents (Elt Ideal))⟩,
    ⟨S8448x3072, (extractStridedSlice S8448x3072 ![0, 2048] p slices_S8448x11312_S8448x3072_0_2048 : (⟨S8448x3072, .f32⟩ : BufTy).Contents (Elt Ideal))⟩,
    ⟨S8448x1024, (extractStridedSlice S8448x1024 ![0, 5152] p slices_S8448x11312_S8448x1024_0_5152 : (⟨S8448x1024, .f32⟩ : BufTy).Contents (Elt Ideal))⟩,
    ⟨S8448x1024, (extractStridedSlice S8448x1024 ![0, 6176] p slices_S8448x11312_S8448x1024_0_6176 : (⟨S8448x1024, .f32⟩ : BufTy).Contents (Elt Ideal))⟩,
    ⟨S8448x2048, (extractStridedSlice S8448x2048 ![0, 7200] p slices_S8448x11312_S8448x2048_0_7200 : (⟨S8448x2048, .f32⟩ : BufTy).Contents (Elt Ideal))⟩,
    ⟨S8448x2048, (extractStridedSlice S8448x2048 ![0, 9264] p slices_S8448x11312_S8448x2048_0_9264 : (⟨S8448x2048, .f32⟩ : BufTy).Contents (Elt Ideal))⟩]
    concatenates_S8448x2048_S8448x3072_S8448x1024_S8448x1024_S8448x2048_S8448x2048_S8448x11264_d1

/-- The narrow array's columns of zeros. -/
abbrev zeroCols : FVec Ideal S8448x80 .f32 := broadcastInDim S8448x80 ![] bcast_S_S8448x80 (constant S_ .f32 0x00000000#32)

/-- The columns of a product that make the narrow array. -/
abbrev narrowOf (p : FVec Ideal S8448x11312 .f32) : FVec Ideal S8448x128 .f32 :=
  concatenate S8448x128 1 [
    ⟨S8448x32, (extractStridedSlice S8448x32 ![0, 5120] p slices_S8448x11312_S8448x32_0_5120 : (⟨S8448x32, .f32⟩ : BufTy).Contents (Elt Ideal))⟩,
    ⟨S8448x8, (extractStridedSlice S8448x8 ![0, 9248] p slices_S8448x11312_S8448x8_0_9248 : (⟨S8448x8, .f32⟩ : BufTy).Contents (Elt Ideal))⟩,
    ⟨S8448x8, (extractStridedSlice S8448x8 ![0, 9256] p slices_S8448x11312_S8448x8_0_9256 : (⟨S8448x8, .f32⟩ : BufTy).Contents (Elt Ideal))⟩,
    ⟨S8448x80, (zeroCols : (⟨S8448x80, .f32⟩ : BufTy).Contents (Elt Ideal))⟩]
    concatenates_S8448x32_S8448x8_S8448x8_S8448x80_S8448x128_d1

theorem norm_at (i : Fin 8448) (k : Fin 2048) :
    (normRows h g : S8448x2048.Idx → EReal) (ix2 i k)
      = rms (fun u => (h : S8448x2048.Idx → EReal) (ix2 i u)) (fun u => (g : S2048.Idx → EReal) (ix1 u)) k := by
  pointwise []
  rfl

theorem product_at (x : FVec Ideal S8448x2048 .f32) (i : Fin 8448) (n : Fin 11312) :
    (product w x : S8448x11312.Idx → EReal) (ix2 i n)
      = ∑ u, (x : S8448x2048.Idx → EReal) (ix2 i u) * (w : S2048x11312.Idx → EReal) (ix2 u n) := by
  pointwise []

theorem wideOf_at (p : FVec Ideal S8448x11312 .f32) (i : Fin 8448) (n : Fin 11264) :
    (wideOf p : S8448x11264.Idx → EReal) (ix2 i n) = (p : S8448x11312.Idx → EReal) (ix2 i (wideCol n)) := by
  pointwise []
  split_ifs <;> pointwise []
  all_goals
    refine congrArg p (congrArg (ix2 i) (Fin.ext ?_))
    rw [wideCol_val]
    dsimp only
    split_ifs <;> omega

theorem narrowOf_at (p : FVec Ideal S8448x11312 .f32) (i : Fin 8448) (n : Fin 128) :
    (narrowOf p : S8448x128.Idx → EReal) (ix2 i n)
      = if h : n.val < 48 then (p : S8448x11312.Idx → EReal) (ix2 i (narrowCol ⟨n.val, h⟩)) else 0 := by
  pointwise []
  split_ifs <;> pointwise []
  all_goals by_cases h : n.val < 48
  all_goals first
    | exact (dif_neg h).symm
    | (exfalso; omega)
    | (rw [dif_pos h]
       refine congrArg p (congrArg (ix2 i) (Fin.ext ?_))
       rw [narrowCol_val]
       dsimp only
       split_ifs <;> omega)

/-- The reference's arguments. -/
def args (m : (ℓ : Loc nD τ sig) → Buf (Elt Ideal) ℓ) (c : Dev nD) : Args where
  h i j := (m (c, main_arg0) : S8448x2048.Idx → EReal) (ix2 i j)
  g j := (m (c, main_arg1) : S2048.Idx → EReal) (ix1 j)
  w u n := (m (c, main_arg2) : S2048x11312.Idx → EReal) (ix2 u n)

theorem product_eq (m : (ℓ : Loc nD τ sig) → Buf (Elt Ideal) ℓ) (c : Dev nD) (i : Fin 8448) (n : Fin 11312) :
    (product (m (c, main_arg2)) (normRows (m (c, main_arg0)) (m (c, main_arg1))) : S8448x11312.Idx → EReal) (ix2 i n) = dotCol (args m c) i n :=
  (product_at (m (c, main_arg2)) (normRows (m (c, main_arg0)) (m (c, main_arg1))) i n).trans
    (Finset.sum_congr rfl fun u _ => congrArg (fun z : EReal => z * (args m c).w u n) (norm_at (m (c, main_arg0)) (m (c, main_arg1)) i u))

theorem result0 (m : (ℓ : Loc nD τ sig) → Buf (Elt Ideal) ℓ) (c : Dev nD) :
    (wideOf (product (m (c, main_arg2)) (normRows (m (c, main_arg0)) (m (c, main_arg1)))) : S8448x11264.Idx → EReal)
      = fun i => wide (args m c) (i 0) (i 1) := by
  funext i
  obtain ⟨a, n, rfl⟩ : ∃ (a : Fin 8448) (n : Fin 11264), i = ix2 a n := ⟨i 0, i 1, eq_ix2 i⟩
  exact (wideOf_at _ a n).trans (product_eq m c a (wideCol n))

theorem result1 (m : (ℓ : Loc nD τ sig) → Buf (Elt Ideal) ℓ) (c : Dev nD) :
    (narrowOf (product (m (c, main_arg2)) (normRows (m (c, main_arg0)) (m (c, main_arg1)))) : S8448x128.Idx → EReal)
      = fun i => narrow (args m c) (i 0) (i 1) := by
  funext i
  obtain ⟨a, n, rfl⟩ : ∃ (a : Fin 8448) (n : Fin 128), i = ix2 a n := ⟨i 0, i 1, eq_ix2 i⟩
  refine (narrowOf_at _ a n).trans ?_
  by_cases h : n.val < 48
  · rw [dif_pos h]
    exact (product_eq m c a (narrowCol ⟨n.val, h⟩)).trans (narrow_pos _ a n h).symm
  · rw [dif_neg h]
    exact (narrow_neg _ a n h).symm

end R

section
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The two programs read the same arrays. -/
theorem args_eq (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) :
    R.args m' c = K.args m c := by
  obtain ⟨h0, h1, h2⟩ := h
  simp only [R.args, K.args, Args.mk.injEq]
  exact ⟨funext fun i => funext fun j => congrFun h0 (ix2 i j), funext fun i => congrFun h1 (ix1 i),
    funext fun i => funext fun j => congrFun h2 (ix2 i j)⟩

end

theorem frame_p : Cert.quiescent_Kernel2 := fun m ρ _ => InProj.P.frames m ρ
theorem frame_pi : Cert.quiescent_Kernel2Ideal := fun m ρ _ => InProj.K.frames m ρ
theorem frame_ri : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨_, _, InProj.K.run m ρ, ?_⟩
  refine (θ_run Cert.Reference2Ideal.defs _ _).mono (fun _ h c => ?_) (Cert.Reference2Ideal.Value.run (F := Ideal) m' ρ')
  have e := args_eq m m' c (hagree c)
  obtain ⟨h0, h1, hk⟩ := h c
  refine ⟨h0.trans (Eq.trans (R.result0 m' c) (Eq.trans ?_ (K.arr4 m c).symm)), Eq.trans h1 ?_, hk⟩
  · rw [e]
  · have r := R.result1 m' c
    rw [e] at r
    exact Eq.trans r (K.arr5 m c).symm

end InProj

end
-- ==== Proof.Outproj.KernelStep.lean ====
/-
  What one run of the output projection's body leaves, element by element: the scratch's rows, filled at a row block's
  first column block, and the block of the result.
-/
module

public import proofs.«01_k».proof.Proof.Outproj.Spec
public import proofs.«01_k».proof.Proof.Gen.Kernel3Ideal.Frame
public import Idealize.ShloMosaic.Lib.Pipeline.Value

@[expose] public section

set_option maxRecDepth 16384

noncomputable section

open Idealize.ShloMosaic Idealize.ShloMosaic.TcCoe Idealize.ShloMosaic.Tactic Cert.Kernel3Ideal Cert.Kernel3Ideal.Gen

namespace Outproj.K

theorem hz2 : (![0, 0] : Fin 2 → Nat) = fun _ => 0 := funext fun a => by fin_cases a <;> rfl

theorem pay1_at (v10 v11 : Vec Ideal S384x2048 .f32) (v31 : Vec Ideal S1x2048 .f32) (r : Fin 384) (k : Fin 2048) :
    (k0_pay1 v10 v11 v31 : S384x2048.Idx → EReal) (ix2 r k)
      = rms (fun u => gated (v10 (ix2 r u)) (v11 (ix2 r u))) (fun u => v31 (ix2 0 u)) k := by
  unfold k0_pay1
  pointwise []
  simp only [rms, gated, zero_sub]

theorem pay3_at (v3 : Vec Ideal S384x512 .f32) (v4 : Vec Ideal S384x4096 .bf16) (v5 : Vec Ideal S4096x512 .bf16) (r : Fin 384) (j : Fin 512) :
    (k0_pay3 v3 v4 v5 : S384x512.Idx → EReal) (ix2 r j)
      = (v3 : S384x512.Idx → EReal) (ix2 r j) + ∑ k, (v4 : S384x4096.Idx → EReal) (ix2 r k) * (v5 : S4096x512.Idx → EReal) (ix2 k j) := by
  unfold k0_pay3
  pointwise []

/-- The scratch's contents once filled. -/
def scr (x0 x1 : Vec Ideal S384x2048 .f32) (x2 : Vec Ideal S384x2048 .bf16) (x3 : Vec Ideal S1x2048 .f32) : Vec Ideal S384x4096 .bf16 :=
  fun j => act (fun u => (x0 : S384x2048.Idx → EReal) (ix2 (j 0) u)) (fun u => (x1 : S384x2048.Idx → EReal) (ix2 (j 0) u))
    (fun u => (x2 : S384x2048.Idx → EReal) (ix2 (j 0) u)) (fun u => (x3 : S1x2048.Idx → EReal) (ix2 0 u)) (j 1)

/-- The two stores that fill the scratch. -/
abbrev fillL (x0 x1 : Vec Ideal S384x2048 .f32) (x2 : Vec Ideal S384x2048 .bf16) (x3 : Vec Ideal S1x2048 .f32) : List (View.Piece (Elt Ideal) S384x4096 .bf16) :=
  [⟨Rect.unit ![0, 2048] S384x2048.size inb_S384x4096_S384x2048_0_2048, k0_pay2 x2⟩,
   ⟨Rect.unit ![0, 0] S384x2048.size inb_S384x4096_S384x2048_0_0, k0_pay1 x0 x1 x3⟩]

theorem canon_fill (x0 x1 : Vec Ideal S384x2048 .f32) (x2 : Vec Ideal S384x2048 .bf16) (x3 : Vec Ideal S1x2048 .f32)
    (y : S384x4096.Idx) (hy : ∃ p ∈ fillL x0 x1 x2 x3, y ∈ p.1.set) :
    View.canon (fillL x0 x1 x2 x3) y = scr x0 x1 x2 x3 y := by
  refine View.canon_apply_of_pieces (scr x0 x1 x2 x3) (fillL x0 x1 x2 x3) (fun p hp x => ?_) y hy
  simp only [fillL, List.mem_cons, List.not_mem_nil, or_false] at hp
  rcases hp with rfl | rfl
  · obtain ⟨r, k, rfl⟩ : ∃ (r : Fin 384) (k : Fin 2048), x = ix2 r k := ⟨x 0, x 1, eq_ix2 x⟩
    have e : (Rect.unit (s := S384x4096) ![0, 2048] S384x2048.size inb_S384x4096_S384x2048_0_2048).emb (ix2 r k) = (ix2 r (⟨2048 + k.val, by omega⟩ : Fin 4096) : S384x4096.Idx) := by
      funext a; fin_cases a <;> (apply Fin.ext; show _ + 1 * _ = _; simp)
    dsimp only
    rw [e]
    unfold k0_pay2
    rw [shapeCast_self]
    exact (act_hi _ _ (fun u => (x2 : S384x2048.Idx → EReal) (ix2 r u)) _ k _).symm
  · obtain ⟨r, k, rfl⟩ : ∃ (r : Fin 384) (k : Fin 2048), x = ix2 r k := ⟨x 0, x 1, eq_ix2 x⟩
    have e : (Rect.unit (s := S384x4096) ![0, 0] S384x2048.size inb_S384x4096_S384x2048_0_0).emb (ix2 r k) = (ix2 r (⟨k.val, by omega⟩ : Fin 4096) : S384x4096.Idx) := by
      funext a; fin_cases a <;> (apply Fin.ext; show _ + 1 * _ = _; simp)
    dsimp only
    rw [e]
    refine (pay1_at x0 x1 x3 r k).trans ?_
    exact (act_lo _ _ (fun u => (x2 : S384x2048.Idx → EReal) (ix2 r u)) _ k _).symm

section Runs

variable (c : Dev nD) (i : grid0.Coords) (arg2 : Memref sig .tc .vmem S384x2048 .f32) (harg2 : arg2.IsWhole) (arg3 : Memref sig .tc .vmem S384x2048 .f32) (harg3 : arg3.IsWhole) (arg4 : Memref sig .tc .vmem S384x2048 .bf16) (harg4 : arg4.IsWhole) (arg5 : Memref sig .tc .vmem S1x2048 .f32) (harg5 : arg5.IsWhole) (arg6 : Memref sig .tc .vmem S4096x512 .bf16) (harg6 : arg6.IsWhole) (arg7 : Memref sig .tc .vmem S384x512 .f32) (harg7 : arg7.IsWhole) (arg8 : Memref sig .tc .vmem S384x512 .f32) (harg8 : arg8.IsWhole) (arg9 : Memref sig .tc .vmem S384x4096 .bf16) (harg9 : arg9.IsWhole)
variable (x0 : Vec Ideal S384x2048 .f32) (x1 : Vec Ideal S384x2048 .f32) (x2 : Vec Ideal S384x2048 .bf16) (x3 : Vec Ideal S1x2048 .f32) (x4 : Vec Ideal S4096x512 .bf16) (x5 : Vec Ideal S384x512 .f32) (xs0 : Vec Ideal S384x4096 .bf16)

theorem sout0_A_0_eq (hc0 : cond0_0 i) : sout0_A_0 c i arg2 harg2 arg3 harg3 arg4 harg4 arg5 harg5 arg6 harg6 arg7 harg7 arg8 harg8 arg9 harg9 hc0 x0 x1 x2 x3 x4 x5 = scr x0 x1 x2 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  funext y
  have hy := scover0_A_0 c i arg2 harg2 arg3 harg3 arg4 harg4 arg5 harg5 arg6 harg6 arg7 harg7 arg8 harg8 arg9 harg9 hc0 x0 x1 x2 x3 x4 x5 y
  revert hy
  unfold kernelRun0_A
  dsimp only
  sl_unfold_words
  simp only [View.readAt_eq_ld, harg2.read_unread, harg3.read_unread, harg4.read_unread, harg5.read_unread, harg6.read_unread, harg7.read_unread, harg9.read_unread, View.ld_unit_zero (S := S384x2048) hz2, View.ld_unit_zero (S := S1x2048) hz2, View.ld_unit_zero (S := S4096x512) hz2, View.ld_unit_zero (S := S384x512) hz2, View.ld_unit_zero (S := S384x4096) hz2]
  exact canon_fill x0 x1 x2 x3 y

theorem out0_A_6_eq (hc0 : cond0_0 i) : out0_A_6 c i arg2 harg2 arg3 harg3 arg4 harg4 arg5 harg5 arg6 harg6 arg7 harg7 arg8 harg8 arg9 harg9 hc0 x0 x1 x2 x3 x4 x5 = k0_pay3 x5 (scr x0 x1 x2 x3) x4 := by
  have hs := scover0_A_0 c i arg2 harg2 arg3 harg3 arg4 harg4 arg5 harg5 arg6 harg6 arg7 harg7 arg8 harg8 arg9 harg9 hc0 x0 x1 x2 x3 x4 x5
  revert hs
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg2.read_unread, harg3.read_unread, harg4.read_unread, harg5.read_unread, harg6.read_unread, harg7.read_unread, harg9.read_unread, View.ld_unit_zero (S := S384x2048) hz2, View.ld_unit_zero (S := S1x2048) hz2, View.ld_unit_zero (S := S4096x512) hz2, View.ld_unit_zero (S := S384x512) hz2, View.ld_unit_zero (S := S384x4096) hz2]
  intro hs
  rw [View.canon_unit_zero hz2, View.readCov_eq_canon']
  refine congrArg (fun z => k0_pay3 x5 z x4) (funext fun j => ?_)
  refine (canon_fill x0 x1 x2 x3 _ (hs _)).trans ?_
  exact congrArg (scr x0 x1 x2 x3) (funext fun a => by fin_cases a <;> (apply Fin.ext; show 0 + 1 * _ = _; simp))

theorem out0_B_6_eq (hc0 : ¬cond0_0 i) : out0_B_6 c i arg2 harg2 arg3 harg3 arg4 harg4 arg5 harg5 arg6 harg6 arg7 harg7 arg8 harg8 arg9 harg9 hc0 x0 x1 x2 x3 x4 x5 xs0 = k0_pay3 x5 xs0 x4 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S384x2048) hz2, View.ld_unit_zero (S := S1x2048) hz2, View.ld_unit_zero (S := S4096x512) hz2, View.ld_unit_zero (S := S384x512) hz2, View.ld_unit_zero (S := S384x4096) hz2]

end Runs

end Outproj.K

end
-- ==== Proof.Outproj.KernelArray.lean ====
/-
  The output projection's array: point `t` works on row block `t / 4` and column block `t % 4`; the scratch holds the
  row block's joined rows after each of its points; the written blocks make up the result.
-/
module

public import proofs.«01_k».proof.Proof.Outproj.KernelStep
public import proofs.«01_k».proof.Proof.Gen.Kernel3Ideal.Value
public import Idealize.ShloMosaic.Lib.Pipeline.ValueKit.Point

@[expose] public section

set_option maxRecDepth 16384

noncomputable section

open Idealize.ShloMosaic Idealize.ShloMosaic.TcCoe Cert.Kernel3Ideal Cert.Kernel3Ideal.Gen

namespace Outproj.K

variable (m : (ℓ : Loc nD τ sig) → Buf (Elt Ideal) ℓ) (c : Dev nD)

/-- The kernel's arguments. -/
def args : Args where
  y i j := (m (c, main_arg0) : S8448x2048.Idx → EReal) (ix2 i j)
  z i j := (m (c, main_arg1) : S8448x11264.Idx → EReal) (ix2 i ⟨j.val, by omega⟩)
  hm i j := (m (c, main_arg2) : S8448x2048.Idx → EReal) (ix2 i j)
  g j := (m (c, main_arg3) : S2048.Idx → EReal) (ix1 j)
  w k j := (m (c, main_arg4) : S4096x2048.Idx → EReal) (ix2 k j)
  h i j := (m (c, main_arg5) : S8448x2048.Idx → EReal) (ix2 i j)

theorem tlt (t : Fin cfg0.N) : t.val < 88 := lt_of_lt_of_eq t.isLt N_0

/-- Row `r` of the row block numbered `q`. -/
def rowAt (q : Fin 22) (r : Fin 384) : Fin 8448 := ⟨q.val * 384 + r.val, by omega⟩
/-- The point's row block. -/
def rb (t : Fin cfg0.N) : Fin 22 := ⟨t.val / 4, by have := tlt t; omega⟩
/-- Column `j` of the point's column block. -/
def col (t : Fin cfg0.N) (j : Fin 512) : Fin 2048 := ⟨t.val % 4 * 512 + j.val, by omega⟩

theorem rowAt_val (q : Fin 22) (r : Fin 384) : (rowAt q r).val = q.val * 384 + r.val := rfl
theorem rb_val (t : Fin cfg0.N) : (rb t).val = t.val / 4 := rfl
theorem col_val (t : Fin cfg0.N) (j : Fin 512) : (col t j).val = t.val % 4 * 512 + j.val := rfl

theorem idx0 : ∀ t : Fin cfg0.N, (cfg0.win 0).index t = ![t.val / 4, 0] := by decide +kernel
theorem idx1 : ∀ t : Fin cfg0.N, (cfg0.win 1).index t = ![t.val / 4, 0] := by decide +kernel
theorem idx2 : ∀ t : Fin cfg0.N, (cfg0.win 2).index t = ![t.val / 4, 0] := by decide +kernel
theorem idx3 : ∀ t : Fin cfg0.N, (cfg0.win 3).index t = ![0, 0] := by decide +kernel
theorem idx4 : ∀ t : Fin cfg0.N, (cfg0.win 4).index t = ![0, t.val % 4] := by decide +kernel
theorem idx5 : ∀ t : Fin cfg0.N, (cfg0.win 5).index t = ![t.val / 4, t.val % 4] := by decide +kernel
theorem idx6 : ∀ t : Fin cfg0.N, (cfg0.win 6).index t = ![t.val / 4, t.val % 4] := by decide +kernel

theorem V_g (k : Fin 2048) : (V m c main_v0 : S1x2048.Idx → EReal) (ix2 0 k) = (args m c).g k := by
  unfold_abbrev_sides
  after_results
  pointwise []

theorem V_w (k : Fin 4096) (j : Fin 2048) : (V m c main_v1 : S4096x2048.Idx → EReal) (ix2 k j) = (args m c).w k j := by
  unfold_abbrev_sides
  after_results
  pointwise []

theorem blk0 (t : Fin cfg0.N) (r : Fin 384) (k : Fin 2048) :
    (iblk m c 0 t : S384x2048.Idx → EReal) (ix2 r k) = (args m c).y (rowAt (rb t) r) k := by
  unfold args
  rw [← V_main_arg0 m c]
  blk_ext [iblk, idx0 t, rowAt_val, rb_val]

theorem blk1 (t : Fin cfg0.N) (r : Fin 384) (k : Fin 2048) :
    (X0_1 m c t : S384x2048.Idx → EReal) (ix2 r k) = (args m c).z (rowAt (rb t) r) k := by
  unfold args X0_1 Pipeline.Window.fill
  rw [dif_pos (moved0_1 t _), ← V_main_arg1 m c]
  blk_ext [iblk, idx1 t, rowAt_val, rb_val]

theorem blk2 (t : Fin cfg0.N) (r : Fin 384) (k : Fin 2048) :
    (iblk m c 2 t : S384x2048.Idx → EReal) (ix2 r k) = (args m c).hm (rowAt (rb t) r) k := by
  unfold args
  rw [← V_main_arg2 m c]
  blk_ext [iblk, idx2 t, rowAt_val, rb_val]

theorem blk3 (t : Fin cfg0.N) (k : Fin 2048) :
    (iblk m c 3 t : S1x2048.Idx → EReal) (ix2 0 k) = (args m c).g k := by
  rw [← V_g m c]
  blk_ext [iblk, idx3 t]

theorem blk4 (t : Fin cfg0.N) (k : Fin 4096) (j : Fin 512) :
    (iblk m c 4 t : S4096x512.Idx → EReal) (ix2 k j) = (args m c).w k (col t j) := by
  rw [← V_w m c]
  blk_ext [iblk, idx4 t, col_val]

theorem blk5 (t : Fin cfg0.N) (r : Fin 384) (j : Fin 512) :
    (iblk m c 5 t : S384x512.Idx → EReal) (ix2 r j) = (args m c).h (rowAt (rb t) r) (col t j) := by
  unfold args
  rw [← V_main_arg5 m c]
  blk_ext [iblk, idx5 t, rowAt_val, rb_val, col_val]

/-- The joined rows of a row block. -/
def rows (A : Args) (q : Fin 22) : Vec Ideal S384x4096 .bf16 :=
  fun j => act (A.y (rowAt q (j 0))) (A.z (rowAt q (j 0))) (A.hm (rowAt q (j 0))) A.g (j 1)

theorem scr_eq (t : Fin cfg0.N) :
    scr (iblk m c 0 t) (X0_1 m c t) (iblk m c 2 t) (iblk m c 3 t) = rows (args m c) (rb t) := by
  funext j
  exact congrFun (congr (congr (congr (congrArg act (funext fun u => blk0 m c t (j 0) u)) (funext fun u => blk1 m c t (j 0) u))
    (funext fun u => blk2 m c t (j 0) u)) (funext fun u => blk3 m c t u)) (j 1)

/-- After every point the scratch holds its row block's joined rows. -/
theorem inv : ∀ (n : ℕ) (h : n < cfg0.N), (outsAt0 m c n h).2 = rows (args m c) (rb ⟨n, h⟩) := by
  intro n
  induction n with
  | zero =>
    intro h
    rw [outsAt0_A m c ⟨0, h⟩ rfl]
    dsimp only
    rw [sout0_A_0_eq]
    exact scr_eq m c ⟨0, h⟩
  | succ n ih =>
    intro h
    by_cases h0 : (n + 1) % 4 = 0
    · rw [outsAt0_A m c ⟨n + 1, h⟩ h0]
      dsimp only
      rw [sout0_A_0_eq]
      exact scr_eq m c ⟨n + 1, h⟩
    · rw [outsAt0_B m c ⟨n + 1, h⟩ h0]
      dsimp only
      unfold sout0_B_0
      refine (ih (Nat.lt_of_succ_lt h)).trans (congrArg (rows (args m c)) (Fin.ext ?_))
      show n / 4 = (n + 1) / 4
      omega

/-- Every point's block of the result. -/
theorem out6 (t : Fin cfg0.N) (r : Fin 384) (j : Fin 512) :
    ((outsAt0 m c t.val t.isLt).1 : S384x512.Idx → EReal) (ix2 r j) = res (args m c) (rowAt (rb t) r) (col t j) := by
  have key : ((outsAt0 m c t.val t.isLt).1 : S384x512.Idx → EReal) = k0_pay3 (iblk m c 5 t) (rows (args m c) (rb t)) (iblk m c 4 t) := by
    by_cases h0 : t.val % 4 = 0
    · rw [outsAt0_A m c t h0]
      dsimp only
      rw [out0_A_6_eq, scr_eq]
    · rw [outsAt0_B m c t h0]
      dsimp only
      rw [out0_B_6_eq, inv]
      exact congrArg (fun q => k0_pay3 (F := Ideal) (iblk m c 5 t) (rows (args m c) q) (iblk m c 4 t)) (Fin.ext (by show (t.val - 1) / 4 = t.val / 4; omega))
  rw [key]
  refine (pay3_at _ _ _ r j).trans ?_
  rw [blk5 m c t r j]
  refine congrArg (fun s => (args m c).h (rowAt (rb t) r) (col t j) + s) (Finset.sum_congr rfl fun k _ => ?_)
  rw [blk4 m c t k j]
  rfl

theorem arr6 : (dats m 0 c).arrAt 6 cfg0.N = (fun i => res (args m c) (i 0) (i 1) : S8448x2048.Idx → EReal) := by
  refine (dats m 0 c).arrAt_eq_of_covers 6 _ (by decide +kernel) fun t hf y => ?_
  rw [after0_6]
  blk_simp [idx6 t]
  obtain ⟨r, w, rfl⟩ : ∃ (r : Fin 384) (w : Fin 512), y = ix2 r w := ⟨y 0, y 1, eq_ix2 y⟩
  refine (out6 m c t r w).trans ?_
  have e0 : ((win0_6.blk t).view.emb (ix2 r w) 0 : Fin 8448) = rowAt (rb t) r := Fin.ext (by blk_simp [idx6 t] <;> (show _ = t.val / 4 * 384 + r.val) <;> omega)
  have e1 : ((win0_6.blk t).view.emb (ix2 r w) 1 : Fin 2048) = col t w := Fin.ext (by blk_simp [idx6 t] <;> (show _ = t.val % 4 * 512 + w.val) <;> omega)
  rw [e0, e1]

end Outproj.K

end
-- ==== Proof.Outproj.Claims.lean ====
/-
  The claims about the output projection.
-/
module

public import proofs.«01_k».proof.Defs
public import proofs.«01_k».proof.Proof.Gen.Kernel3.Frame
public import proofs.«01_k».proof.Proof.Gen.Reference3Ideal.Run
public import proofs.«01_k».proof.Proof.Outproj.KernelArray
public import Idealize.ShloMosaic.Lib.Claim

@[expose] public section

set_option maxRecDepth 16384

noncomputable section

open Idealize.ShloMosaic Idealize.ShloMosaic.TcCoe Idealize.SL.Sem

namespace Outproj

namespace R
open Cert.Reference3Ideal Cert.Reference3Ideal.Gen

variable (y : FVec Ideal S8448x2048 .f32) (P : FVec Ideal S8448x11264 .f32) (hm : FVec Ideal S8448x2048 .bf16) (g : FVec Ideal S2048 .f32)
  (w : FVec Ideal S4096x2048 .f32) (h : FVec Ideal S8448x2048 .f32)

/-- The reference's gated rows. -/
abbrev gatedRows : FVec Ideal S8448x2048 .f32 :=
  mulf y (mulf (extractStridedSlice S8448x2048 ![0, 0] P slices_S8448x11264_S8448x2048_0_0)
    (Host.divf (broadcastInDim S8448x2048 ![] bcast_S_S8448x2048 (constant S_ .f32 0x3F800000#32))
      (addf (broadcastInDim S8448x2048 ![] bcast_S_S8448x2048 (constant S_ .f32 0x3F800000#32))
        (Host.exp (Host.negf (extractStridedSlice S8448x2048 ![0, 0] P slices_S8448x11264_S8448x2048_0_0))))))

/-- The reference's normalized rows. -/
abbrev normRows (x : FVec Ideal S8448x2048 .f32) : FVec Ideal S8448x2048 .f32 :=
  mulf (mulf x (broadcastInDim S8448x2048 ![0, 1] bcast_S8448x1_S8448x2048_0_1 (Host.rsqrt (addf (Host.divf
    (broadcastInDim S8448x1 ![0] bcast_S8448_S8448x1_0 (Host.reduceAdd (mulf x x) (constant S_ .f32 0x00000000#32) reducesTo_S8448x2048_S8448_d1 h_S_))
    (broadcastInDim S8448x1 ![] bcast_S_S8448x1 (constant S_ .f32 0x45000000#32)))
    (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The reference's joined rows. -/
abbrev joined : FVec Ideal S8448x4096 .f32 :=
  concatenate S8448x4096 1 [⟨S8448x2048, normRows g (gatedRows y P)⟩, ⟨S8448x2048, (extf .f32 hm bitsLt_bf16_f32 : FVec Ideal S8448x2048 .f32)⟩]
    concatenates_S8448x2048_S8448x2048_S8448x4096_d1

theorem joined_at (i : Fin 8448) (k : Fin 4096) :
    (joined y P hm g : S8448x4096.Idx → EReal) (ix2 i k)
      = act (fun u => (y : S8448x2048.Idx → EReal) (ix2 i u)) (fun u => (P : S8448x11264.Idx → EReal) (ix2 i ⟨u.val, by omega⟩))
          (fun u => (hm : S8448x2048.Idx → EReal) (ix2 i u)) (fun u => (g : S2048.Idx → EReal) (ix1 u)) k := by
  pointwise []
  rfl

/-- The reference's result. -/
abbrev outp : FVec Ideal S8448x2048 .f32 :=
  addf h (Host.dotGeneral dot_S8448x4096_S4096x2048_S8448x2048_1_0_0_1_n_n none (joined y P hm g) w)

theorem dot_at (x : FVec Ideal S8448x4096 .f32) (i : Fin 8448) (j : Fin 2048) :
    (addf h (Host.dotGeneral dot_S8448x4096_S4096x2048_S8448x2048_1_0_0_1_n_n none x w) : S8448x2048.Idx → EReal) (ix2 i j)
      = (h : S8448x2048.Idx → EReal) (ix2 i j) + ∑ k, (x : S8448x4096.Idx → EReal) (ix2 i k) * (w : S4096x2048.Idx → EReal) (ix2 k j) := by
  pointwise []

theorem out_at (i : Fin 8448) (j : Fin 2048) :
    (outp y P hm g w h : S8448x2048.Idx → EReal) (ix2 i j)
      = (h : S8448x2048.Idx → EReal) (ix2 i j) + ∑ k, (joined y P hm g : S8448x4096.Idx → EReal) (ix2 i k) * (w : S4096x2048.Idx → EReal) (ix2 k j) :=
  dot_at w h (joined y P hm g) i j

/-- The reference's arguments. -/
def args (m : (ℓ : Loc nD τ sig) → Buf (Elt Ideal) ℓ) (c : Dev nD) : Args where
  y i j := (m (c, main_arg0) : S8448x2048.Idx → EReal) (ix2 i j)
  z i j := (m (c, main_arg1) : S8448x11264.Idx → EReal) (ix2 i ⟨j.val, by omega⟩)
  hm i j := (m (c, main_arg2) : S8448x2048.Idx → EReal) (ix2 i j)
  g j := (m (c, main_arg3) : S2048.Idx → EReal) (ix1 j)
  w k j := (m (c, main_arg4) : S4096x2048.Idx → EReal) (ix2 k j)
  h i j := (m (c, main_arg5) : S8448x2048.Idx → EReal) (ix2 i j)

theorem result (m : (ℓ : Loc nD τ sig) → Buf (Elt Ideal) ℓ) (c : Dev nD) :
    (outp (m (c, main_arg0)) (m (c, main_arg1)) (m (c, main_arg2)) (m (c, main_arg3)) (m (c, main_arg4)) (m (c, main_arg5)) : S8448x2048.Idx → EReal)
      = fun i => res (args m c) (i 0) (i 1) := by
  funext i
  obtain ⟨a, j, rfl⟩ : ∃ (a : Fin 8448) (j : Fin 2048), i = ix2 a j := ⟨i 0, i 1, eq_ix2 i⟩
  refine (out_at (m (c, main_arg0)) (m (c, main_arg1)) (m (c, main_arg2)) (m (c, main_arg3)) (m (c, main_arg4)) (m (c, main_arg5)) a j).trans ?_
  refine congrArg (fun s => (args m c).h a j + s) (Finset.sum_congr rfl fun k _ => ?_)
  rw [joined_at]
  rfl

end R

section
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- The two programs read the same arrays. -/
theorem args_eq (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    R.args m' c = K.args m c := by
  obtain ⟨h0, h1, h2, h3, h4, h5⟩ := h
  simp only [R.args, K.args, Args.mk.injEq]
  exact ⟨funext fun i => funext fun j => congrFun h0 (ix2 i j), funext fun i => funext fun j => congrFun h1 (ix2 i ⟨j.val, by omega⟩),
    funext fun i => funext fun j => congrFun h2 (ix2 i j), funext fun i => congrFun h3 (ix1 i),
    funext fun i => funext fun j => congrFun h4 (ix2 i j), funext fun i => funext fun j => congrFun h5 (ix2 i j)⟩

end

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  have e := args_eq m m' c (hagree c)
  obtain ⟨h0, hk⟩ := h c
  exact ⟨h0.trans ((R.result m' c).trans (by rw [e]; exact (K.arr6 m c).symm)), hk⟩

end Outproj

end
-- ==== Proof.PeerQ.Spec.lean ====
/-
  The query projection as mathematics: each row normalized and scaled, the queries its product with the weights, and the
  scores of the queries' halves against the sub-keys.
-/
module

public import proofs.«01_k».proof.Proof.Outproj.Spec

@[expose] public section

noncomputable section

open Idealize.ShloMosaic
open Outproj (rms)

namespace PeerQ

/-- What the two programs read. -/
structure Args where
  h : Fin 8448 → Fin 2048 → EReal
  g : Fin 2048 → EReal
  wq : Fin 2048 → Fin 2048 → EReal
  sk : Fin 2 → Fin 8 → Fin 128 → Fin 128 → EReal

/-- The normalized row's element. -/
def x (A : Args) (i : Fin 8448) (k : Fin 2048) : EReal := rms (A.h i) A.g k

/-- The query's element. -/
def q (A : Args) (i : Fin 8448) (n : Fin 2048) : EReal := ∑ u, x A i u * A.wq u n

/-- The score of row `i`'s slab `s` (head `s / 2`, half `s % 2`) against sub-key `a`. -/
def score (A : Args) (s : Fin 16) (a : Fin 128) (i : Fin 8448) : EReal :=
  ∑ d : Fin 128, A.sk ⟨s.val % 2, by omega⟩ ⟨s.val / 2, by omega⟩ a d * q A i ⟨s.val * 128 + d.val, by omega⟩

end PeerQ

end
-- ==== Proof.PeerQ.KernelStep.lean ====
/-
  What one run of the query projection's body leaves, element by element: the normalized rows, and the sixteen slabs of
  scores.
-/
module

public import proofs.«01_k».proof.Proof.Outproj.Spec
public import proofs.«01_k».proof.Proof.Gen.Kernel4Ideal.Frame
public import Idealize.ShloMosaic.Lib.Pipeline.Value

@[expose] public section

set_option maxRecDepth 16384

noncomputable section

open Idealize.ShloMosaic Idealize.ShloMosaic.TcCoe Idealize.ShloMosaic.Tactic Cert.Kernel4Ideal Cert.Kernel4Ideal.Gen
open Outproj (rms)

namespace PeerQ.K

theorem hz2 : (![0, 0] : Fin 2 → Nat) = fun _ => 0 := funext fun a => by fin_cases a <;> rfl

theorem pay4_at (v0 : Vec Ideal S384x2048 .f32) (v11 : Vec Ideal S1x2048 .f32) (r : Fin 384) (k : Fin 2048) :
    (k0_pay4 v0 v11 : S384x2048.Idx → EReal) (ix2 r k)
      = rms (fun u => (v0 : S384x2048.Idx → EReal) (ix2 r u)) (fun u => (v11 : S1x2048.Idx → EReal) (ix2 0 u)) k := by
  unfold k0_pay4
  pointwise []
  rfl

theorem pay5_at (v0 : Vec Ideal S384x2048 .f32) (v11 : Vec Ideal S1x2048 .f32) (v17 : Vec Ideal S2048x2048 .bf16) (n : Fin 2048) (r : Fin 384) :
    (k0_pay5 v0 v11 v17 : S2048x384.Idx → EReal) (ix2 n r)
      = ∑ u, (v17 : S2048x2048.Idx → EReal) (ix2 n u) * (k0_pay4 v0 v11 : S384x2048.Idx → EReal) (ix2 r u) := by
  unfold k0_pay5
  generalize k0_pay4 v0 v11 = x
  pointwise []

theorem slab0 (v0 : Vec Ideal S384x2048 .f32) (v11 : Vec Ideal S1x2048 .f32) (v17 : Vec Ideal S2048x2048 .bf16) (v : Vec Ideal S1x128x128 .bf16) (a : Fin 128) (b : Fin 384) :
    (k0_pay6 v0 v11 v17 v : S1x128x384.Idx → EReal) (ix3 0 a b)
      = ∑ d : Fin 128, (v : S1x128x128.Idx → EReal) (ix3 0 a d) * ((k0_pay5 v0 v11 v17) : S2048x384.Idx → EReal) (ix2 ⟨0 + d.val, by omega⟩ b) := by
  unfold k0_pay6
  generalize k0_pay5 v0 v11 v17 = x
  pointwise []

theorem slab1 (v0 : Vec Ideal S384x2048 .f32) (v11 : Vec Ideal S1x2048 .f32) (v17 : Vec Ideal S2048x2048 .bf16) (v : Vec Ideal S1x128x128 .bf16) (a : Fin 128) (b : Fin 384) :
    (k0_pay8 (k0_pay7 v0 v11 v17 v) : S1x128x384.Idx → EReal) (ix3 0 a b)
      = ∑ d : Fin 128, (v : S1x128x128.Idx → EReal) (ix3 0 a d) * ((k0_pay5 v0 v11 v17) : S2048x384.Idx → EReal) (ix2 ⟨128 + d.val, by omega⟩ b) := by
  unfold k0_pay8 k0_pay7
  generalize k0_pay5 v0 v11 v17 = x
  pointwise []

theorem slab2 (v20 : FVec Ideal S2048x384 .bf16) (v : Vec Ideal S1x128x128 .bf16) (a : Fin 128) (b : Fin 384) :
    (k0_pay9 v20 v : S1x128x384.Idx → EReal) (ix3 0 a b)
      = ∑ d : Fin 128, (v : S1x128x128.Idx → EReal) (ix3 0 a d) * (v20 : S2048x384.Idx → EReal) (ix2 ⟨256 + d.val, by omega⟩ b) := by
  unfold k0_pay9
  pointwise []

theorem slab3 (v20 : FVec Ideal S2048x384 .bf16) (v : Vec Ideal S1x128x128 .bf16) (a : Fin 128) (b : Fin 384) :
    (k0_pay10 v20 v : S1x128x384.Idx → EReal) (ix3 0 a b)
      = ∑ d : Fin 128, (v : S1x128x128.Idx → EReal) (ix3 0 a d) * (v20 : S2048x384.Idx → EReal) (ix2 ⟨384 + d.val, by omega⟩ b) := by
  unfold k0_pay10
  pointwise []

theorem slab4 (v20 : FVec Ideal S2048x384 .bf16) (v : Vec Ideal S1x128x128 .bf16) (a : Fin 128) (b : Fin 384) :
    (k0_pay11 v20 v : S1x128x384.Idx → EReal) (ix3 0 a b)
      = ∑ d : Fin 128, (v : S1x128x128.Idx → EReal) (ix3 0 a d) * (v20 : S2048x384.Idx → EReal) (ix2 ⟨512 + d.val, by omega⟩ b) := by
  unfold k0_pay11
  pointwise []

theorem slab5 (v20 : FVec Ideal S2048x384 .bf16) (v : Vec Ideal S1x128x128 .bf16) (a : Fin 128) (b : Fin 384) :
    (k0_pay13 (k0_pay12 v20 v) : S1x128x384.Idx → EReal) (ix3 0 a b)
      = ∑ d : Fin 128, (v : S1x128x128.Idx → EReal) (ix3 0 a d) * (v20 : S2048x384.Idx → EReal) (ix2 ⟨640 + d.val, by omega⟩ b) := by
  unfold k0_pay13 k0_pay12
  pointwise []

theorem slab6 (v20 : FVec Ideal S2048x384 .bf16) (v : Vec Ideal S1x128x128 .bf16) (a : Fin 128) (b : Fin 384) :
    (k0_pay14 v20 v : S1x128x384.Idx → EReal) (ix3 0 a b)
      = ∑ d : Fin 128, (v : S1x128x128.Idx → EReal) (ix3 0 a d) * (v20 : S2048x384.Idx → EReal) (ix2 ⟨768 + d.val, by omega⟩ b) := by
  unfold k0_pay14
  pointwise []

theorem slab7 (v20 : FVec Ideal S2048x384 .bf16) (v : Vec Ideal S1x128x128 .bf16) (a : Fin 128) (b : Fin 384) :
    (k0_pay15 v20 v : S1x128x384.Idx → EReal) (ix3 0 a b)
      = ∑ d : Fin 128, (v : S1x128x128.Idx → EReal) (ix3 0 a d) * (v20 : S2048x384.Idx → EReal) (ix2 ⟨896 + d.val, by omega⟩ b) := by
  unfold k0_pay15
  pointwise []

theorem slab8 (v20 : FVec Ideal S2048x384 .bf16) (v : Vec Ideal S1x128x128 .bf16) (a : Fin 128) (b : Fin 384) :
    (k0_pay16 v20 v : S1x128x384.Idx → EReal) (ix3 0 a b)
      = ∑ d : Fin 128, (v : S1x128x128.Idx → EReal) (ix3 0 a d) * (v20 : S2048x384.Idx → EReal) (ix2 ⟨1024 + d.val, by omega⟩ b) := by
  unfold k0_pay16
  pointwise []

theorem slab9 (v20 : FVec Ideal S2048x384 .bf16) (v : Vec Ideal S1x128x128 .bf16) (a : Fin 128) (b : Fin 384) :
    (k0_pay18 (k0_pay17 v20 v) : S1x128x384.Idx → EReal) (ix3 0 a b)
      = ∑ d : Fin 128, (v : S1x128x128.Idx → EReal) (ix3 0 a d) * (v20 : S2048x384.Idx → EReal) (ix2 ⟨1152 + d.val, by omega⟩ b) := by
  unfold k0_pay18 k0_pay17
  pointwise []

theorem slab10 (v20 : FVec Ideal S2048x384 .bf16) (v : Vec Ideal S1x128x128 .bf16) (a : Fin 128) (b : Fin 384) :
    (k0_pay19 v20 v : S1x128x384.Idx → EReal) (ix3 0 a b)
      = ∑ d : Fin 128, (v : S1x128x128.Idx → EReal) (ix3 0 a d) * (v20 : S2048x384.Idx → EReal) (ix2 ⟨1280 + d.val, by omega⟩ b) := by
  unfold k0_pay19
  pointwise []

theorem slab11 (v20 : FVec Ideal S2048x384 .bf16) (v : Vec Ideal S1x128x128 .bf16) (a : Fin 128) (b : Fin 384) :
    (k0_pay20 v20 v : S1x128x384.Idx → EReal) (ix3 0 a b)
      = ∑ d : Fin 128, (v : S1x128x128.Idx → EReal) (ix3 0 a d) * (v20 : S2048x384.Idx → EReal) (ix2 ⟨1408 + d.val, by omega⟩ b) := by
  unfold k0_pay20
  pointwise []

theorem slab12 (v20 : FVec Ideal S2048x384 .bf16) (v : Vec Ideal S1x128x128 .bf16) (a : Fin 128) (b : Fin 384) :
    (k0_pay21 v20 v : S1x128x384.Idx → EReal) (ix3 0 a b)
      = ∑ d : Fin 128, (v : S1x128x128.Idx → EReal) (ix3 0 a d) * (v20 : S2048x384.Idx → EReal) (ix2 ⟨1536 + d.val, by omega⟩ b) := by
  unfold k0_pay21
  pointwise []

theorem slab13 (v20 : FVec Ideal S2048x384 .bf16) (v : Vec Ideal S1x128x128 .bf16) (a : Fin 128) (b : Fin 384) :
    (k0_pay1 (k0_pay22 v20 v) : S1x128x384.Idx → EReal) (ix3 0 a b)
      = ∑ d : Fin 128, (v : S1x128x128.Idx → EReal) (ix3 0 a d) * (v20 : S2048x384.Idx → EReal) (ix2 ⟨1664 + d.val, by omega⟩ b) := by
  unfold k0_pay1 k0_pay22
  pointwise []

theorem slab14 (v20 : FVec Ideal S2048x384 .bf16) (v : Vec Ideal S1x128x128 .bf16) (a : Fin 128) (b : Fin 384) :
    (k0_pay2 v20 v : S1x128x384.Idx → EReal) (ix3 0 a b)
      = ∑ d : Fin 128, (v : S1x128x128.Idx → EReal) (ix3 0 a d) * (v20 : S2048x384.Idx → EReal) (ix2 ⟨1792 + d.val, by omega⟩ b) := by
  unfold k0_pay2
  pointwise []

theorem slab15 (v20 : FVec Ideal S2048x384 .bf16) (v : Vec Ideal S1x128x128 .bf16) (a : Fin 128) (b : Fin 384) :
    (k0_pay3 v20 v : S1x128x384.Idx → EReal) (ix3 0 a b)
      = ∑ d : Fin 128, (v : S1x128x128.Idx → EReal) (ix3 0 a d) * (v20 : S2048x384.Idx → EReal) (ix2 ⟨1920 + d.val, by omega⟩ b) := by
  unfold k0_pay3
  pointwise []

/-- The block of scores. -/
def scores (x3 : Vec Ideal S16x128x128 .bf16) (Q : FVec Ideal S2048x384 .bf16) : S16x128x384.Idx → EReal := fun j =>
  ∑ d : Fin 128, (x3 : S16x128x128.Idx → EReal) (ix3 (j 0) (j 1) d)
    * (Q : S2048x384.Idx → EReal) (ix2 ⟨(j 0).val * 128 + d.val, by have : (j 0).val < 16 := (j 0).isLt; omega⟩ (j 2))

theorem slabG (x3 : Vec Ideal S16x128x128 .bf16) (Q : FVec Ideal S2048x384 .bf16) (n : Fin 16) (o : Fin 3 → ℕ) (ho : ∀ a, o a + S1x128x384.size a ≤ S16x128x384.size a)
    (q : Fin 3 → ℕ) (hq : ∀ a, q a + S1x128x128.size a ≤ S16x128x128.size a) (a : Fin 128) (b : Fin 384)
    (e : (Rect.unit (s := S16x128x384) o S1x128x384.size ho).emb (ix3 0 a b) = (ix3 n a b : S16x128x384.Idx))
    (f : ∀ d : Fin 128, (Rect.unit (s := S16x128x128) q S1x128x128.size hq).emb (ix3 0 a d) = (ix3 n a d : S16x128x128.Idx))
    (N : ℕ) (hN : N = n.val * 128) (p : ∀ d : Fin 128, N + d.val < 2048) :
    ∑ d : Fin 128, (View.ld x3 (Rect.unit (s := S16x128x128) q S1x128x128.size hq) : S1x128x128.Idx → EReal) (ix3 0 a d) * (Q : S2048x384.Idx → EReal) (ix2 ⟨N + d.val, p d⟩ b)
      = scores x3 Q ((Rect.unit (s := S16x128x384) o S1x128x384.size ho).emb (ix3 0 a b)) := by
  subst hN
  rw [e]
  refine Finset.sum_congr rfl fun d _ => ?_
  exact congrArg (fun z : S16x128x128.Idx => (x3 : S16x128x128.Idx → EReal) z * (Q : S2048x384.Idx → EReal) (ix2 ⟨n.val * 128 + d.val, p d⟩ b)) (f d)

theorem out0_5_eq (x0 : Vec Ideal S384x2048 .f32) (x1 : Vec Ideal S1x2048 .f32) (x2 : Vec Ideal S2048x2048 .bf16) (x3 : Vec Ideal S16x128x128 .bf16) :
    out0_5 x0 x1 x2 x3 = scores x3 (k0_pay5 x0 x1 x2) := by
  have hQ : k0_pay23 x0 x1 x2 x3 = k0_pay5 x0 x1 x2 := by
    unfold k0_pay23
    rw [View.ld_unit_zero (S := S384x2048) hz2, View.ld_unit_zero (S := S1x2048) hz2, View.ld_unit_zero (S := S2048x2048) hz2]
  rw [← hQ]
  funext y
  unfold out0_5
  refine View.canon_apply_of_pieces (Val := Elt Ideal) (e := .f32) (scores x3 (k0_pay23 x0 x1 x2 x3)) _ (fun p hp x => ?_) y (cover0_5 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  all_goals
    obtain ⟨z, a, b, rfl⟩ : ∃ (z : Fin 1) (a : Fin 128) (b : Fin 384), x = ix3 z a b := ⟨x 0, x 1, x 2, eq_ix3 x⟩
    obtain rfl : z = 0 := Subsingleton.elim _ _
  · exact (slab15 (k0_pay23 x0 x1 x2 x3) _ a b).trans (slabG x3 (k0_pay23 x0 x1 x2 x3) 15 ![15, 0, 0] inb_S16x128x384_S1x128x384_15_0_0 ![15, 0, 0] inb_S16x128x128_S1x128x128_15_0_0 a b
      (funext fun u => by fin_cases u <;> (apply Fin.ext; show _ + 1 * _ = _; simp))
      (fun d => funext fun u => by fin_cases u <;> (apply Fin.ext; show _ + 1 * _ = _; simp)) _ (by decide) _)
  · exact (slab14 (k0_pay23 x0 x1 x2 x3) _ a b).trans (slabG x3 (k0_pay23 x0 x1 x2 x3) 14 ![14, 0, 0] inb_S16x128x384_S1x128x384_14_0_0 ![14, 0, 0] inb_S16x128x128_S1x128x128_14_0_0 a b
      (funext fun u => by fin_cases u <;> (apply Fin.ext; show _ + 1 * _ = _; simp))
      (fun d => funext fun u => by fin_cases u <;> (apply Fin.ext; show _ + 1 * _ = _; simp)) _ (by decide) _)
  · exact (slab13 (k0_pay23 x0 x1 x2 x3) _ a b).trans (slabG x3 (k0_pay23 x0 x1 x2 x3) 13 ![13, 0, 0] inb_S16x128x384_S1x128x384_13_0_0 ![13, 0, 0] inb_S16x128x128_S1x128x128_13_0_0 a b
      (funext fun u => by fin_cases u <;> (apply Fin.ext; show _ + 1 * _ = _; simp))
      (fun d => funext fun u => by fin_cases u <;> (apply Fin.ext; show _ + 1 * _ = _; simp)) _ (by decide) _)
  · exact (slab12 (k0_pay23 x0 x1 x2 x3) _ a b).trans (slabG x3 (k0_pay23 x0 x1 x2 x3) 12 ![12, 0, 0] inb_S16x128x384_S1x128x384_12_0_0 ![12, 0, 0] inb_S16x128x128_S1x128x128_12_0_0 a b
      (funext fun u => by fin_cases u <;> (apply Fin.ext; show _ + 1 * _ = _; simp))
      (fun d => funext fun u => by fin_cases u <;> (apply Fin.ext; show _ + 1 * _ = _; simp)) _ (by decide) _)
  · exact (slab11 (k0_pay23 x0 x1 x2 x3) _ a b).trans (slabG x3 (k0_pay23 x0 x1 x2 x3) 11 ![11, 0, 0] inb_S16x128x384_S1x128x384_11_0_0 ![11, 0, 0] inb_S16x128x128_S1x128x128_11_0_0 a b
      (funext fun u => by fin_cases u <;> (apply Fin.ext; show _ + 1 * _ = _; simp))
      (fun d => funext fun u => by fin_cases u <;> (apply Fin.ext; show _ + 1 * _ = _; simp)) _ (by decide) _)
  · exact (slab10 (k0_pay23 x0 x1 x2 x3) _ a b).trans (slabG x3 (k0_pay23 x0 x1 x2 x3) 10 ![10, 0, 0] inb_S16x128x384_S1x128x384_10_0_0 ![10, 0, 0] inb_S16x128x128_S1x128x128_10_0_0 a b
      (funext fun u => by fin_cases u <;> (apply Fin.ext; show _ + 1 * _ = _; simp))
      (fun d => funext fun u => by fin_cases u <;> (apply Fin.ext; show _ + 1 * _ = _; simp)) _ (by decide) _)
  · exact (slab9 (k0_pay23 x0 x1 x2 x3) _ a b).trans (slabG x3 (k0_pay23 x0 x1 x2 x3) 9 ![9, 0, 0] inb_S16x128x384_S1x128x384_9_0_0 ![9, 0, 0] inb_S16x128x128_S1x128x128_9_0_0 a b
      (funext fun u => by fin_cases u <;> (apply Fin.ext; show _ + 1 * _ = _; simp))
      (fun d => funext fun u => by fin_cases u <;> (apply Fin.ext; show _ + 1 * _ = _; simp)) _ (by decide) _)
  · exact (slab8 (k0_pay23 x0 x1 x2 x3) _ a b).trans (slabG x3 (k0_pay23 x0 x1 x2 x3) 8 ![8, 0, 0] inb_S16x128x384_S1x128x384_8_0_0 ![8, 0, 0] inb_S16x128x128_S1x128x128_8_0_0 a b
      (funext fun u => by fin_cases u <;> (apply Fin.ext; show _ + 1 * _ = _; simp))
      (fun d => funext fun u => by fin_cases u <;> (apply Fin.ext; show _ + 1 * _ = _; simp)) _ (by decide) _)
  · exact (slab7 (k0_pay23 x0 x1 x2 x3) _ a b).trans (slabG x3 (k0_pay23 x0 x1 x2 x3) 7 ![7, 0, 0] inb_S16x128x384_S1x128x384_7_0_0 ![7, 0, 0] inb_S16x128x128_S1x128x128_7_0_0 a b
      (funext fun u => by fin_cases u <;> (apply Fin.ext; show _ + 1 * _ = _; simp))
      (fun d => funext fun u => by fin_cases u <;> (apply Fin.ext; show _ + 1 * _ = _; simp)) _ (by decide) _)
  · exact (slab6 (k0_pay23 x0 x1 x2 x3) _ a b).trans (slabG x3 (k0_pay23 x0 x1 x2 x3) 6 ![6, 0, 0] inb_S16x128x384_S1x128x384_6_0_0 ![6, 0, 0] inb_S16x128x128_S1x128x128_6_0_0 a b
      (funext fun u => by fin_cases u <;> (apply Fin.ext; show _ + 1 * _ = _; simp))
      (fun d => funext fun u => by fin_cases u <;> (apply Fin.ext; show _ + 1 * _ = _; simp)) _ (by decide) _)
  · exact (slab5 (k0_pay23 x0 x1 x2 x3) _ a b).trans (slabG x3 (k0_pay23 x0 x1 x2 x3) 5 ![5, 0, 0] inb_S16x128x384_S1x128x384_5_0_0 ![5, 0, 0] inb_S16x128x128_S1x128x128_5_0_0 a b
      (funext fun u => by fin_cases u <;> (apply Fin.ext; show _ + 1 * _ = _; simp))
      (fun d => funext fun u => by fin_cases u <;> (apply Fin.ext; show _ + 1 * _ = _; simp)) _ (by decide) _)
  · exact (slab4 (k0_pay23 x0 x1 x2 x3) _ a b).trans (slabG x3 (k0_pay23 x0 x1 x2 x3) 4 ![4, 0, 0] inb_S16x128x384_S1x128x384_4_0_0 ![4, 0, 0] inb_S16x128x128_S1x128x128_4_0_0 a b
      (funext fun u => by fin_cases u <;> (apply Fin.ext; show _ + 1 * _ = _; simp))
      (fun d => funext fun u => by fin_cases u <;> (apply Fin.ext; show _ + 1 * _ = _; simp)) _ (by decide) _)
  · exact (slab3 (k0_pay23 x0 x1 x2 x3) _ a b).trans (slabG x3 (k0_pay23 x0 x1 x2 x3) 3 ![3, 0, 0] inb_S16x128x384_S1x128x384_3_0_0 ![3, 0, 0] inb_S16x128x128_S1x128x128_3_0_0 a b
      (funext fun u => by fin_cases u <;> (apply Fin.ext; show _ + 1 * _ = _; simp))
      (fun d => funext fun u => by fin_cases u <;> (apply Fin.ext; show _ + 1 * _ = _; simp)) _ (by decide) _)
  · exact (slab2 (k0_pay23 x0 x1 x2 x3) _ a b).trans (slabG x3 (k0_pay23 x0 x1 x2 x3) 2 ![2, 0, 0] inb_S16x128x384_S1x128x384_2_0_0 ![2, 0, 0] inb_S16x128x128_S1x128x128_2_0_0 a b
      (funext fun u => by fin_cases u <;> (apply Fin.ext; show _ + 1 * _ = _; simp))
      (fun d => funext fun u => by fin_cases u <;> (apply Fin.ext; show _ + 1 * _ = _; simp)) _ (by decide) _)
  · exact (slab1 (View.ld x0 r0_0) (View.ld x1 r0_1) (View.ld x2 r0_2) _ a b).trans (slabG x3 (k0_pay23 x0 x1 x2 x3) 1 ![1, 0, 0] inb_S16x128x384_S1x128x384_1_0_0 ![1, 0, 0] inb_S16x128x128_S1x128x128_1_0_0 a b
      (funext fun u => by fin_cases u <;> (apply Fin.ext; show _ + 1 * _ = _; simp))
      (fun d => funext fun u => by fin_cases u <;> (apply Fin.ext; show _ + 1 * _ = _; simp)) _ (by decide) _)
  · exact (slab0 (View.ld x0 r0_0) (View.ld x1 r0_1) (View.ld x2 r0_2) _ a b).trans (slabG x3 (k0_pay23 x0 x1 x2 x3) 0 ![0, 0, 0] inb_S16x128x384_S1x128x384_0_0_0 ![0, 0, 0] inb_S16x128x128_S1x128x128_0_0_0 a b
      (funext fun u => by fin_cases u <;> (apply Fin.ext; show _ + 1 * _ = _; simp))
      (fun d => funext fun u => by fin_cases u <;> (apply Fin.ext; show _ + 1 * _ = _; simp)) _ (by decide) _)

theorem out0_4_eq (x0 : Vec Ideal S384x2048 .f32) (x1 : Vec Ideal S1x2048 .f32) (x2 : Vec Ideal S2048x2048 .bf16) (x3 : Vec Ideal S16x128x128 .bf16) :
    out0_4 x0 x1 x2 x3 = k0_pay4 x0 x1 := by
  unfold out0_4
  rw [View.canon_unit_zero hz2, View.ld_unit_zero (S := S384x2048) hz2, View.ld_unit_zero (S := S1x2048) hz2]

end PeerQ.K

end
-- ==== Proof.PeerQ.KernelArray.lean ====
/-
  The query projection's arrays: point `t` works on row block `t`.
-/
module

public import proofs.«01_k».proof.Proof.PeerQ.Spec
public import proofs.«01_k».proof.Proof.PeerQ.KernelStep
public import proofs.«01_k».proof.Proof.Gen.Kernel4Ideal.Value
public import Idealize.ShloMosaic.Lib.Pipeline.ValueKit.Point

@[expose] public section

set_option maxRecDepth 16384

noncomputable section

open Idealize.ShloMosaic Idealize.ShloMosaic.TcCoe Cert.Kernel4Ideal Cert.Kernel4Ideal.Gen
open Outproj (rms)

namespace PeerQ.K

variable (m : (ℓ : Loc nD τ sig) → Buf (Elt Ideal) ℓ) (c : Dev nD)

/-- The kernel's arguments. -/
def args : Args where
  h i j := (m (c, main_arg0) : S8448x2048.Idx → EReal) (ix2 i j)
  g j := (m (c, main_arg1) : S2048.Idx → EReal) (ix1 j)
  wq u n := (m (c, main_arg2) : S2048x2048.Idx → EReal) (ix2 u n)
  sk a b k d := (m (c, main_arg3) : S2x8x128x128.Idx → EReal) (ix4 a b k d)

theorem tlt (t : Fin cfg0.N) : t.val < 22 := lt_of_lt_of_eq t.isLt N_0

/-- Row `r` of the point's row block. -/
def row (t : Fin cfg0.N) (r : Fin 384) : Fin 8448 := ⟨t.val * 384 + r.val, by have := tlt t; omega⟩
theorem row_val (t : Fin cfg0.N) (r : Fin 384) : (row t r).val = t.val * 384 + r.val := rfl

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![0, 0, 0] := by decide +kernel
theorem idx4 : ∀ t : Fin cfg0.N, (cfg0.win 4).index t = ![t.val, 0] := by decide +kernel
theorem idx5 : ∀ t : Fin cfg0.N, (cfg0.win 5).index t = ![0, 0, t.val] := by decide +kernel

theorem V_g (k : Fin 2048) : (V m c main_v3 : S1x2048.Idx → EReal) (ix2 0 k) = (args m c).g k := by
  unfold_abbrev_sides
  after_results
  pointwise []

theorem V_w (n u : Fin 2048) : (V m c main_v5 : S2048x2048.Idx → EReal) (ix2 n u) = (args m c).wq u n := by
  unfold_abbrev_sides
  after_results
  pointwise []

theorem V_sk (s : Fin 16) (a d : Fin 128) :
    (V m c main_v2 : S16x128x128.Idx → EReal) (ix3 s a d) = (args m c).sk ⟨s.val % 2, by omega⟩ ⟨s.val / 2, by omega⟩ a d := by
  unfold_abbrev_sides
  after_results
  pointwise []

theorem blk0 (t : Fin cfg0.N) (r : Fin 384) (k : Fin 2048) :
    (iblk m c 0 t : S384x2048.Idx → EReal) (ix2 r k) = (args m c).h (row t r) k := by
  unfold args
  rw [← V_main_arg0 m c]
  blk_ext [iblk, idx0 t, row_val]

theorem blk1 (t : Fin cfg0.N) (k : Fin 2048) :
    (iblk m c 1 t : S1x2048.Idx → EReal) (ix2 0 k) = (args m c).g k := by
  rw [← V_g m c]
  blk_ext [iblk, idx1 t]

theorem blk2 (t : Fin cfg0.N) (n u : Fin 2048) :
    (iblk m c 2 t : S2048x2048.Idx → EReal) (ix2 n u) = (args m c).wq u n := by
  rw [← V_w m c]
  blk_ext [iblk, idx2 t]

theorem blk3 (t : Fin cfg0.N) (s : Fin 16) (a d : Fin 128) :
    (iblk m c 3 t : S16x128x128.Idx → EReal) (ix3 s a d) = (args m c).sk ⟨s.val % 2, by omega⟩ ⟨s.val / 2, by omega⟩ a d := by
  rw [← V_sk m c]
  blk_ext [iblk, idx3 t]

theorem pay4_blk (t : Fin cfg0.N) (r : Fin 384) (k : Fin 2048) :
    (k0_pay4 (iblk m c 0 t) (iblk m c 1 t) : S384x2048.Idx → EReal) (ix2 r k) = x (args m c) (row t r) k :=
  (pay4_at (iblk m c 0 t) (iblk m c 1 t) r k).trans
    (congrFun (congr (congrArg rms (funext fun u => blk0 m c t r u)) (funext fun u => blk1 m c t u)) k)

theorem pay5_blk (t : Fin cfg0.N) (n : Fin 2048) (r : Fin 384) :
    (k0_pay5 (iblk m c 0 t) (iblk m c 1 t) (iblk m c 2 t) : S2048x384.Idx → EReal) (ix2 n r) = q (args m c) (row t r) n := by
  refine (pay5_at (iblk m c 0 t) (iblk m c 1 t) (iblk m c 2 t) n r).trans (Finset.sum_congr rfl fun u _ => ?_)
  rw [blk2 m c t n u, pay4_blk m c t r u, mul_comm]

theorem scores_blk (t : Fin cfg0.N) (s : Fin 16) (a : Fin 128) (r : Fin 384) :
    scores (iblk m c 3 t) (k0_pay5 (iblk m c 0 t) (iblk m c 1 t) (iblk m c 2 t)) (ix3 s a r) = score (args m c) s a (row t r) :=
  Finset.sum_congr rfl fun d _ => congrArg₂ (fun u v : EReal => u * v) (blk3 m c t s a d) (pay5_blk m c t _ r)

theorem arr4 : (dats m 0 c).arrAt 4 cfg0.N = (fun i => x (args m c) (i 0) (i 1) : S8448x2048.Idx → EReal) := by
  refine (dats m 0 c).arrAt_eq_of_covers 4 _ (by decide +kernel) fun t hf y => ?_
  rw [after0_4, out0_4_eq]
  blk_simp [idx4 t]
  obtain ⟨r, w, rfl⟩ : ∃ (r : Fin 384) (w : Fin 2048), y = ix2 r w := ⟨y 0, y 1, eq_ix2 y⟩
  refine (pay4_blk m c t r w).trans ?_
  have e0 : ((win0_4.blk t).view.emb (ix2 r w) 0 : Fin 8448) = row t r := Fin.ext (by blk_simp [idx4 t] <;> (show _ = t.val * 384 + r.val) <;> omega)
  have e1 : ((win0_4.blk t).view.emb (ix2 r w) 1 : Fin 2048) = w := Fin.ext (by blk_simp [idx4 t] <;> (show _ = w.val) <;> omega)
  rw [e0, e1]

theorem arr5 : (dats m 0 c).arrAt 5 cfg0.N = (fun i => score (args m c) (i 0) (i 1) (i 2) : S16x128x8448.Idx → EReal) := by
  refine (dats m 0 c).arrAt_eq_of_covers 5 _ (by decide +kernel) fun t hf y => ?_
  rw [after0_5, out0_5_eq]
  blk_simp [idx5 t]
  obtain ⟨s, a, r, rfl⟩ : ∃ (s : Fin 16) (a : Fin 128) (r : Fin 384), y = ix3 s a r := ⟨y 0, y 1, y 2, eq_ix3 y⟩
  have e0 : ((win0_5.blk t).view.emb (ix3 s a r) 0 : Fin 16) = s := Fin.ext (by blk_simp [idx5 t] <;> (show _ = s.val) <;> omega)
  have e1 : ((win0_5.blk t).view.emb (ix3 s a r) 1 : Fin 128) = a := Fin.ext (by blk_simp [idx5 t] <;> (show _ = a.val) <;> omega)
  have e2 : ((win0_5.blk t).view.emb (ix3 s a r) 2 : Fin 8448) = row t r := Fin.ext (by blk_simp [idx5 t] <;> (show _ = t.val * 384 + r.val) <;> omega)
  rw [e0, e1, e2]
  exact scores_blk m c t s a r

end PeerQ.K

end
-- ==== Proof.PeerQ.Claims.lean ====
/-
  The claims about the query projection.
-/
module

public import proofs.«01_k».proof.Defs
public import proofs.«01_k».proof.Proof.Gen.Kernel4.Frame
public import proofs.«01_k».proof.Proof.Gen.Reference4Ideal.Run
public import proofs.«01_k».proof.Proof.PeerQ.KernelArray
public import Idealize.ShloMosaic.Lib.Claim

@[expose] public section

set_option maxRecDepth 16384

noncomputable section

open Idealize.ShloMosaic Idealize.ShloMosaic.TcCoe Idealize.SL.Sem
open Outproj (rms)

namespace PeerQ

namespace R
open Cert.Reference4Ideal Cert.Reference4Ideal.Gen

variable (h : FVec Ideal S8448x2048 .f32) (g : FVec Ideal S2048 .f32) (w : FVec Ideal S2048x2048 .f32) (sk : FVec Ideal S2x8x128x128 .f32)

/-- The reference's normalized rows. -/
abbrev normRows : FVec Ideal S8448x2048 .f32 :=
  mulf (mulf h (broadcastInDim S8448x2048 ![0, 1] bcast_S8448x1_S8448x2048_0_1 (Host.rsqrt (addf (Host.divf
    (broadcastInDim S8448x1 ![0] bcast_S8448_S8448x1_0 (Host.reduceAdd (mulf h h) (constant S_ .f32 0x00000000#32) reducesTo_S8448x2048_S8448_d1 h_S_))
    (broadcastInDim S8448x1 ![] bcast_S_S8448x1 (constant S_ .f32 0x45000000#32)))
    (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

/-- The reference's queries. -/
abbrev queries (x : FVec Ideal S8448x2048 .f32) : FVec Ideal S8448x2048 .f32 :=
  Host.dotGeneral dot_S8448x2048_S2048x2048_S8448x2048_1_0_0_1_n_n none x w

/-- The reference's scores of given queries. -/
abbrev scoresOf (q : FVec Ideal S8448x2048 .f32) : FVec Ideal S16x128x8448 .f32 :=
  shapeCast _ (transpose S8x2x128x8448 [1, 2, 3, 0] (transpose S8448x8x2x128 [3, 0, 1, 2]
    (Host.dotGeneral dot_S2x8x128x128_S8448x8x2x128_S8x2x128x8448_3_3_2_0_10_12 none sk
      (shapeCast _ q shapeCasts_S8448x2048_S8448x8x2x128) : FVec Ideal S8x2x128x8448 .f32)
    transposes_S8x2x128x8448_S8448x8x2x128_3_0_1_2) transposes_S8448x8x2x128_S8x2x128x8448_1_2_3_0) shapeCasts_S8x2x128x8448_S16x128x8448

theorem norm_at (i : Fin 8448) (k : Fin 2048) :
    (normRows h g : S8448x2048.Idx → EReal) (ix2 i k)
      = rms (fun u => (h : S8448x2048.Idx → EReal) (ix2 i u)) (fun u => (g : S2048.Idx → EReal) (ix1 u)) k := by
  pointwise []
  rfl

theorem queries_at (x : FVec Ideal S8448x2048 .f32) (i : Fin 8448) (n : Fin 2048) :
    (queries w x : S8448x2048.Idx → EReal) (ix2 i n)
      = ∑ u, (x : S8448x2048.Idx → EReal) (ix2 i u) * (w : S2048x2048.Idx → EReal) (ix2 u n) := by
  pointwise []

theorem scoresOf_at (q : FVec Ideal S8448x2048 .f32) (s : Fin 16) (a : Fin 128) (i : Fin 8448) :
    (scoresOf sk q : S16x128x8448.Idx → EReal) (ix3 s a i)
      = ∑ d : Fin 128, (sk : S2x8x128x128.Idx → EReal) (ix4 ⟨s.val % 2, by omega⟩ ⟨s.val / 2, by omega⟩ a d)
          * (q : S8448x2048.Idx → EReal) (ix2 i ⟨s.val * 128 + d.val, by omega⟩) := by
  pointwise []
  refine Finset.sum_congr rfl fun d _ => congrArg (fun n : Fin 2048 => (sk : S2x8x128x128.Idx → EReal) (ix4 ⟨s.val % 2, by omega⟩ ⟨s.val / 2, by omega⟩ a d) * (q : S8448x2048.Idx → EReal) (ix2 i n)) (Fin.ext ?_)
  show s.val / 2 * 256 + s.val % 2 * 128 + d.val = s.val * 128 + d.val
  omega

/-- The reference's arguments. -/
def args (m : (ℓ : Loc nD τ sig) → Buf (Elt Ideal) ℓ) (c : Dev nD) : Args where
  h i j := (m (c, main_arg0) : S8448x2048.Idx → EReal) (ix2 i j)
  g j := (m (c, main_arg1) : S2048.Idx → EReal) (ix1 j)
  wq u n := (m (c, main_arg2) : S2048x2048.Idx → EReal) (ix2 u n)
  sk a b k d := (m (c, main_arg3) : S2x8x128x128.Idx → EReal) (ix4 a b k d)

/-- The reference's first result. -/
abbrev rowsOut : FVec Ideal S8448x2048 .bf16 := truncf .bf16 (normRows h g) bitsLt_bf16_f32
/-- The reference's second result. -/
abbrev scoresOut : FVec Ideal S16x128x8448 .f32 := scoresOf sk (queries w (normRows h g))

theorem rowsOut_at (i : Fin 8448) (k : Fin 2048) : (rowsOut h g : S8448x2048.Idx → EReal) (ix2 i k) = (normRows h g : S8448x2048.Idx → EReal) (ix2 i k) := rfl

theorem result0 (m : (ℓ : Loc nD τ sig) → Buf (Elt Ideal) ℓ) (c : Dev nD) :
    (rowsOut (m (c, main_arg0)) (m (c, main_arg1)) : S8448x2048.Idx → EReal) = fun i => x (args m c) (i 0) (i 1) := by
  funext i
  obtain ⟨a, j, rfl⟩ : ∃ (a : Fin 8448) (j : Fin 2048), i = ix2 a j := ⟨i 0, i 1, eq_ix2 i⟩
  exact (rowsOut_at (m (c, main_arg0)) (m (c, main_arg1)) a j).trans (norm_at (m (c, main_arg0)) (m (c, main_arg1)) a j)

theorem result1 (m : (ℓ : Loc nD τ sig) → Buf (Elt Ideal) ℓ) (c : Dev nD) :
    (scoresOut (m (c, main_arg0)) (m (c, main_arg1)) (m (c, main_arg2)) (m (c, main_arg3)) : S16x128x8448.Idx → EReal)
      = fun i => score (args m c) (i 0) (i 1) (i 2) := by
  funext i
  obtain ⟨s, a, r, rfl⟩ : ∃ (s : Fin 16) (a : Fin 128) (r : Fin 8448), i = ix3 s a r := ⟨i 0, i 1, i 2, eq_ix3 i⟩
  refine (scoresOf_at (m (c, main_arg3)) (queries (m (c, main_arg2)) (normRows (m (c, main_arg0)) (m (c, main_arg1)))) s a r).trans ?_
  refine Finset.sum_congr rfl fun d _ => congrArg (fun z : EReal => (args m c).sk ⟨s.val % 2, by omega⟩ ⟨s.val / 2, by omega⟩ a d * z) ?_
  refine (queries_at (m (c, main_arg2)) (normRows (m (c, main_arg0)) (m (c, main_arg1))) r _).trans ?_
  exact Finset.sum_congr rfl fun u _ => congrArg (fun z : EReal => z * (args m c).wq u _) (norm_at (m (c, main_arg0)) (m (c, main_arg1)) r u)

end R

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)

/-- The two programs read the same arrays. -/
theorem args_eq (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    R.args m' c = K.args m c := by
  obtain ⟨h0, h1, h2, h3⟩ := h
  simp only [R.args, K.args, Args.mk.injEq]
  exact ⟨funext fun i => funext fun j => congrFun h0 (ix2 i j), funext fun i => congrFun h1 (ix1 i),
    funext fun i => funext fun j => congrFun h2 (ix2 i j),
    funext fun a => funext fun b => funext fun k => funext fun d => congrFun h3 (ix4 a b k d)⟩

end

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨_, _, Cert.Kernel4Ideal.Value.run_blocks (F := Ideal) m ρ, ?_⟩
  refine (θ_run Cert.Reference4Ideal.defs _ _).mono (fun _ h c => ?_) (Cert.Reference4Ideal.Value.run (F := Ideal) m' ρ')
  have e := args_eq m m' c (hagree c)
  obtain ⟨h0, h1, hk⟩ := h c
  exact ⟨h0.trans ((R.result0 m' c).trans (by rw [e]; exact (K.arr4 m c).symm)),
    h1.trans ((R.result1 m' c).trans (by rw [e]; exact (K.arr5 m c).symm)), hk⟩

end PeerQ

end
-- ==== Proof.FinalNorm.Claims.lean ====
/-
  The claims about the last normalization: point `t` works on row block `t`.
-/
module

public import proofs.«01_k».proof.Defs
public import proofs.«01_k».proof.Proof.Outproj.Spec
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.Value
public import Idealize.ShloMosaic.Lib.Pipeline.ValueKit.Point
public import Idealize.ShloMosaic.Lib.Claim

@[expose] public section

set_option maxRecDepth 16384

noncomputable section

open Idealize.ShloMosaic Idealize.ShloMosaic.TcCoe Idealize.ShloMosaic.Tactic Idealize.SL.Sem
open Outproj (rms)

namespace FinalNorm

namespace K
open Cert.Kernel5Ideal Cert.Kernel5Ideal.Gen

theorem hz2 : (![0, 0] : Fin 2 → Nat) = fun _ => 0 := funext fun a => by fin_cases a <;> rfl

theorem pay1_at (v0 : Vec Ideal S768x2048 .f32) (v11 : Vec Ideal S1x2048 .f32) (r : Fin 768) (k : Fin 2048) :
    (k0_pay1 v0 v11 : S768x2048.Idx → EReal) (ix2 r k)
      = rms (fun u => (v0 : S768x2048.Idx → EReal) (ix2 r u)) (fun u => (v11 : S1x2048.Idx → EReal) (ix2 0 u)) k := by
  unfold k0_pay1
  pointwise []
  rfl

theorem out0_2_eq (x0 : Vec Ideal S768x2048 .f32) (x1 : Vec Ideal S1x2048 .f32) : out0_2 x0 x1 = k0_pay1 x0 x1 := by
  unfold out0_2
  rw [View.canon_unit_zero hz2, View.ld_unit_zero (S := S768x2048) hz2, View.ld_unit_zero (S := S1x2048) hz2]

variable (m : (ℓ : Loc nD τ sig) → Buf (Elt Ideal) ℓ) (c : Dev nD)

/-- The kernel's rows. -/
def h (i : Fin 8448) (j : Fin 2048) : EReal := (m (c, main_arg0) : S8448x2048.Idx → EReal) (ix2 i j)
/-- The kernel's gain. -/
def g (j : Fin 2048) : EReal := (m (c, main_arg1) : S2048.Idx → EReal) (ix1 j)

theorem tlt (t : Fin cfg0.N) : t.val < 11 := lt_of_lt_of_eq t.isLt N_0

/-- Row `r` of the point's row block. -/
def row (t : Fin cfg0.N) (r : Fin 768) : Fin 8448 := ⟨t.val * 768 + r.val, by have := tlt t; omega⟩
theorem row_val (t : Fin cfg0.N) (r : Fin 768) : (row t r).val = t.val * 768 + r.val := rfl

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![t.val, 0] := by decide +kernel

theorem V_g (k : Fin 2048) : (V m c main_v0 : S1x2048.Idx → EReal) (ix2 0 k) = g m c k := by
  unfold_abbrev_sides
  after_results
  pointwise []
  rfl

theorem blk0 (t : Fin cfg0.N) (r : Fin 768) (k : Fin 2048) :
    (iblk m c 0 t : S768x2048.Idx → EReal) (ix2 r k) = h m c (row t r) k := by
  unfold h
  rw [← V_main_arg0 m c]
  blk_ext [iblk, idx0 t, row_val]

theorem blk1 (t : Fin cfg0.N) (k : Fin 2048) :
    (iblk m c 1 t : S1x2048.Idx → EReal) (ix2 0 k) = g m c k := by
  rw [← V_g m c]
  blk_ext [iblk, idx1 t]

theorem pay1_blk (t : Fin cfg0.N) (r : Fin 768) (k : Fin 2048) :
    (k0_pay1 (iblk m c 0 t) (iblk m c 1 t) : S768x2048.Idx → EReal) (ix2 r k) = rms (h m c (row t r)) (g m c) k :=
  (pay1_at (iblk m c 0 t) (iblk m c 1 t) r k).trans
    (congrFun (congr (congrArg rms (funext fun u => blk0 m c t r u)) (funext fun u => blk1 m c t u)) k)

theorem arr2 : (dats m 0 c).arrAt 2 cfg0.N = (fun i => rms (h m c (i 0)) (g m c) (i 1) : S8448x2048.Idx → EReal) := by
  refine (dats m 0 c).arrAt_eq_of_covers 2 _ (by decide +kernel) fun t hf y => ?_
  rw [after0_2, out0_2_eq]
  blk_simp [idx2 t]
  obtain ⟨r, w, rfl⟩ : ∃ (r : Fin 768) (w : Fin 2048), y = ix2 r w := ⟨y 0, y 1, eq_ix2 y⟩
  refine (pay1_blk m c t r w).trans ?_
  have e0 : ((win0_2.blk t).view.emb (ix2 r w) 0 : Fin 8448) = row t r := Fin.ext (by blk_simp [idx2 t] <;> (show _ = t.val * 768 + r.val) <;> omega)
  have e1 : ((win0_2.blk t).view.emb (ix2 r w) 1 : Fin 2048) = w := Fin.ext (by blk_simp [idx2 t] <;> (show _ = w.val) <;> omega)
  rw [e0, e1]

end K

namespace R
open Cert.Reference5Ideal Cert.Reference5Ideal.Gen

variable (h : FVec Ideal S8448x2048 .f32) (g : FVec Ideal S2048 .f32)

/-- The reference's normalized rows. -/
abbrev normRows : FVec Ideal S8448x2048 .f32 :=
  mulf (mulf h (broadcastInDim S8448x2048 ![0, 1] bcast_S8448x1_S8448x2048_0_1 (Host.rsqrt (addf (Host.divf
    (broadcastInDim S8448x1 ![0] bcast_S8448_S8448x1_0 (Host.reduceAdd (mulf h h) (constant S_ .f32 0x00000000#32) reducesTo_S8448x2048_S8448_d1 h_S_))
    (broadcastInDim S8448x1 ![] bcast_S_S8448x1 (constant S_ .f32 0x45000000#32)))
    (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 g))

theorem norm_at (i : Fin 8448) (k : Fin 2048) :
    (normRows h g : S8448x2048.Idx → EReal) (ix2 i k)
      = rms (fun u => (h : S8448x2048.Idx → EReal) (ix2 i u)) (fun u => (g : S2048.Idx → EReal) (ix1 u)) k := by
  pointwise []
  rfl

theorem result (m : (ℓ : Loc nD τ sig) → Buf (Elt Ideal) ℓ) (c : Dev nD) :
    (normRows (m (c, main_arg0)) (m (c, main_arg1)) : S8448x2048.Idx → EReal)
      = fun i => rms (fun u => (m (c, main_arg0) : S8448x2048.Idx → EReal) (ix2 (i 0) u)) (fun u => (m (c, main_arg1) : S2048.Idx → EReal) (ix1 u)) (i 1) := by
  funext i
  obtain ⟨a, j, rfl⟩ : ∃ (a : Fin 8448) (j : Fin 2048), i = ix2 a j := ⟨i 0, i 1, eq_ix2 i⟩
  exact norm_at (m (c, main_arg0)) (m (c, main_arg1)) a j

end R

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨h0, hk⟩ := h c
  obtain ⟨e0, e1⟩ := hagree c
  refine ⟨h0.trans ((R.result m' c).trans (Eq.trans ?_ (K.arr2 m c).symm)), hk⟩
  funext i
  exact congrFun (congr (congrArg rms (funext fun u => congrFun e0 (ix2 (i 0) u))) (funext fun u => congrFun e1 (ix1 u))) (i 1)

end FinalNorm

end
-- ==== Proof.Decode.Spec.lean ====
/-
  What one decoding step computes before the state updates, written once over the extended reals: the convolution of the
  three kept rows and the new one, the step sizes and decays of the state space heads, and the matrix-memory heads'
  stabilizers, weights, normalizers and read-out coefficients. The kernel's body and the reference are both shown to be
  these functions.
-/
module

public import Idealize.ShloMosaic.Lib.Pointwise

@[expose] public section

noncomputable section

open Idealize.ShloMosaic

namespace Decode

/-- The absolute value. -/
abbrev aabs (x : EReal) : EReal := FloatOps.absf (F := Ideal) (φ := .f32) x

/-- The softplus. -/
def soft (x : EReal) : EReal := max x 0 + Ideal.log1p (Ideal.exp (-(aabs x)))

/-- The logistic function times its argument. -/
def silu (x : EReal) : EReal := x * Ideal.div 1 (1 + Ideal.exp (-x))

/-- What the step reads. -/
@[ext] structure Args where
  P : Fin 8448 → Fin 11264 → EReal
  S : Fin 8448 → Fin 128 → EReal
  H : Fin 128 → Fin 3 → Fin 3072 → EReal
  n : Fin 128 → Fin 8 → Fin 128 → EReal
  m : Fin 128 → Fin 8 → EReal
  cw : Fin 4 → Fin 3072 → EReal
  cb : Fin 3072 → EReal
  dtb : Fin 32 → EReal
  al : Fin 32 → EReal
  ib : Fin 8 → EReal
  fb : Fin 8 → EReal
  ks : EReal

variable (A : Args) (r : Fin 128)

/-- The row of the projections that sequence `r` owns. -/
def row (r : Fin 128) : Fin 8448 := ⟨8192 + r.val, by omega⟩

/-- The convolved and gated row. -/
def conv (c : Fin 3072) : EReal :=
  silu (A.cb c + A.cw 0 c * A.H r 0 c + A.cw 1 c * A.H r 1 c + A.cw 2 c * A.H r 2 c
    + A.cw 3 c * A.P (row r) ⟨2048 + c.val, by omega⟩)

def dt (h : Fin 32) : EReal := soft (A.S (row r) ⟨h.val, by omega⟩ + A.dtb h)
def da (h : Fin 32) : EReal := Ideal.exp (dt A r h * -(Ideal.exp (A.al h)))
def q (h : Fin 8) (d : Fin 128) : EReal := A.P (row r) ⟨5120 + (h.val * 128 + d.val), by omega⟩
def k (h : Fin 8) (d : Fin 128) : EReal := A.P (row r) ⟨6144 + (h.val * 128 + d.val), by omega⟩ * A.ks
def li (h : Fin 8) : EReal := A.S (row r) ⟨32 + h.val, by omega⟩ + A.ib h
def lf (h : Fin 8) : EReal := -(soft (-(A.S (row r) ⟨40 + h.val, by omega⟩ + A.fb h)))
def inter (h : Fin 8) : EReal := lf A r h + A.m r h
def mNew (h : Fin 8) : EReal := max (inter A r h) (li A r h)
def wIntra (h : Fin 8) : EReal := Ideal.exp (li A r h - mNew A r h)
def wInter (h : Fin 8) : EReal := Ideal.exp (inter A r h - mNew A r h)
def qkw (h : Fin 8) : EReal := (∑ d : Fin 128, q A r h d * k A r h d) * wIntra A r h
def den (h : Fin 8) : EReal := qkw A r h + wInter A r h * ∑ d : Fin 128, q A r h d * A.n r h d
def inv (h : Fin 8) : EReal := Ideal.div 1 (max (aabs (den A r h)) (Ideal.exp (-(mNew A r h))))
def nNew (h : Fin 8) (d : Fin 128) : EReal := wInter A r h * A.n r h d + wIntra A r h * k A r h d

/-! ## The arrays it returns, by row and column -/

def xsOut (d : Fin 2048) : EReal := conv A r ⟨d.val, by omega⟩
def xdtOut (d : Fin 2048) : EReal := conv A r ⟨d.val, by omega⟩ * dt A r ⟨d.val / 64, by omega⟩
def bcOut (d : Fin 1024) : EReal := conv A r ⟨2048 + d.val, by omega⟩
def kOut (u : Fin 1024) : EReal := k A r ⟨u.val / 128, by omega⟩ ⟨u.val % 128, by omega⟩
def a1Out (h : Fin 8) : EReal := qkw A r h * inv A r h
def a2Out (h : Fin 8) : EReal := wInter A r h * inv A r h
def nOut (u : Fin 1024) : EReal := nNew A r ⟨u.val / 128, by omega⟩ ⟨u.val % 128, by omega⟩

/-! ## Products with a head's indicator -/

/-- A sum over all lanes against a head's indicator is the sum over the head's lanes. -/
theorem sum_head (f : Fin 1024 → EReal) (h : Fin 8) :
    (∑ u : Fin 1024, if u.val / 128 = h.val then f u else 0) = ∑ d : Fin 128, f ⟨h.val * 128 + d.val, by omega⟩ := by
  have e : (∑ u : Fin 1024, if u.val / 128 = h.val then f u else 0)
      = ∑ p : Fin 8 × Fin 128, if p.1 = h then f ⟨p.1.val * 128 + p.2.val, by omega⟩ else 0 := by
    refine (Fintype.sum_equiv (finProdFinEquiv (m := 8) (n := 128)) _ _ fun p => ?_).symm
    have hv : (finProdFinEquiv (m := 8) (n := 128) p).val = p.2.val + 128 * p.1.val := rfl
    have hq : (finProdFinEquiv (m := 8) (n := 128) p).val / 128 = p.1.val := by rw [hv]; omega
    by_cases hp : p.1 = h
    · rw [if_pos hp, if_pos (by rw [hq, hp])]
      exact congrArg f (Fin.ext (by rw [hv]; show p.1.val * 128 + p.2.val = _; omega))
    · rw [if_neg hp, if_neg (by rw [hq]; exact fun hh => hp (Fin.ext hh))]
  rw [e, Fintype.sum_prod_type, Finset.sum_eq_single h]
  · simp only [if_true]
  · intro b _ hb
    simp only [if_neg hb, Finset.sum_const_zero]
  · intro hn; exact absurd (Finset.mem_univ h) hn

/-- A sum over heads against one head's indicator is that head's term. -/
theorem sum_one {N : ℕ} (f : Fin N → EReal) (v : ℕ) (hv : v < N) :
    (∑ u : Fin N, if u.val = v then f u else 0) = f ⟨v, hv⟩ := by
  rw [Finset.sum_eq_single (⟨v, hv⟩ : Fin N)]
  · simp only [if_true]
  · intro b _ hb
    exact if_neg fun hh => hb (Fin.ext hh)
  · intro hn; exact absurd (Finset.mem_univ _) hn

end Decode

end
-- ==== Proof.Decode.Body.lean ====
/-
  The kernel body's arithmetic, read element by element: from vectors that hold the step's inputs, the values the body
  stores are the step's. A head's sum over lanes and a head's scalar spread over its lanes are products with the heads'
  indicator.
-/
module

public import proofs.«01_k».proof.Proof.Decode.Spec
public import proofs.«01_k».proof.Proof.Gen.Kernel6Ideal.Skeleton

@[expose] public section

noncomputable section

open Idealize.ShloMosaic Cert.Kernel6Ideal Cert.Kernel6Ideal.Gen

namespace Decode.K

theorem zsub (x : EReal) : 0 - x = -x := by rw [sub_eq_add_neg, zero_add]

/-- The factor the body multiplies the keys by. -/
abbrev ks : EReal := Named.named (F := Ideal) Cert.Kernel6Ideal.κ "s" (φ := .f32) 0x3DB504F3#32

variable {A : Args}

theorem conv_at {v0 v2 v9 v15 v21 : Vec Ideal S1x3072 .f32} {v3 v10 v16 v22 : Vec Ideal S128x3072 .f32}
    (hb : ∀ c, v0 (ix2 0 c) = A.cb c) (w0 : ∀ c, v2 (ix2 0 c) = A.cw 0 c) (w1 : ∀ c, v9 (ix2 0 c) = A.cw 1 c)
    (w2 : ∀ c, v15 (ix2 0 c) = A.cw 2 c) (w3 : ∀ c, v21 (ix2 0 c) = A.cw 3 c)
    (x0 : ∀ r c, v3 (ix2 r c) = A.H r 0 c) (x1 : ∀ r c, v10 (ix2 r c) = A.H r 1 c) (x2 : ∀ r c, v16 (ix2 r c) = A.H r 2 c)
    (x3 : ∀ r c, v22 (ix2 r c) = A.P (row r) ⟨2048 + c.val, by omega⟩) (r : Fin 128) (c : Fin 3072) :
    k0_pay5 v0 v2 v3 v9 v10 v15 v16 v21 v22 (ix2 r c) = conv A r c := by
  pointwise [k0_pay5]
  simp only [hb, w0, w1, w2, w3, x0, x1, x2, x3, zsub, conv, silu]

theorem xs_at {v0 v2 v9 v15 v21 : Vec Ideal S1x3072 .f32} {v3 v10 v16 v22 : Vec Ideal S128x3072 .f32}
    (h : ∀ r c, k0_pay5 v0 v2 v3 v9 v10 v15 v16 v21 v22 (ix2 r c) = conv A r c) (r : Fin 128) (c : Fin 2048) :
    k0_pay6 v0 v2 v3 v9 v10 v15 v16 v21 v22 (ix2 r c) = conv A r ⟨c.val, by omega⟩ := by
  pointwise [k0_pay6]
  exact h r _

theorem bc_at {v34 : FVec Ideal S128x3072 .f32} (h : ∀ r c, v34 (ix2 r c) = conv A r c) (r : Fin 128) (c : Fin 1024) :
    k0_pay11 v34 (ix2 r c) = conv A r ⟨2048 + c.val, by omega⟩ := by
  pointwise [k0_pay11]
  exact h r _

section
variable {v36 : Vec Ideal S128x128 .f32} (sm : ∀ r j, v36 (ix2 r j) = A.S (row r) j)
include sm

theorem dt_at {v39 : Vec Ideal S1x32 .f32} (hd : ∀ h, v39 (ix2 0 h) = A.dtb h) (r : Fin 128) (h : Fin 32) :
    k0_pay8 v36 v39 (ix2 r h) = dt A r h := by
  pointwise [k0_pay8, k0_pay7]
  simp only [sm, hd, zsub, dt, soft]

theorem da_at {v39 v51 : Vec Ideal S1x32 .f32} (hd : ∀ h, v39 (ix2 0 h) = A.dtb h) (ha : ∀ h, v51 (ix2 0 h) = -(Ideal.exp (A.al h)))
    (r : Fin 128) (h : Fin 32) : k0_pay9 v36 v39 v51 (ix2 r h) = da A r h := by
  pointwise [k0_pay9]
  simp only [dt_at sm hd, ha, da]

theorem xdt_at {v39 : Vec Ideal S1x32 .f32} (hd : ∀ h, v39 (ix2 0 h) = A.dtb h) {v35 : FVec Ideal S128x2048 .f32}
    {v58 : Vec Ideal S32x2048 .f32} (he : ∀ h c, v58 (ix2 h c) = if h.val = c.val / 64 then 1 else 0)
    (hx : ∀ r (c : Fin 2048), v35 (ix2 r c) = conv A r ⟨c.val, by omega⟩) (r : Fin 128) (c : Fin 2048) :
    k0_pay10 v35 v36 v39 v58 (ix2 r c) = conv A r ⟨c.val, by omega⟩ * dt A r ⟨c.val / 64, by omega⟩ := by
  pointwise [k0_pay10]
  simp only [dt_at sm hd, he, hx, mul_ite, mul_one, mul_zero]
  rw [sum_one (fun u => dt A r u) (c.val / 64) (by omega)]

theorem li_at {v66 : Vec Ideal S1x8 .f32} (hi : ∀ h, v66 (ix2 0 h) = A.ib h) (r : Fin 128) (h : Fin 8) :
    k0_pay12 v36 v66 (ix2 r h) = li A r h := by
  pointwise [k0_pay12, k0_pay7]
  simp only [sm, hi, li]

theorem fg_at (r : Fin 128) (h : Fin 8) : k0_pay13 v36 (ix2 r h) = A.S (row r) ⟨40 + h.val, by omega⟩ := by
  pointwise [k0_pay13, k0_pay7]
  exact sm r _

end

section
variable {v69 v70 : FVec Ideal S128x8 .f32} {v71 : Vec Ideal S1x8 .f32} {v87 : Vec Ideal S128x8 .f32}
variable (hl : ∀ r h, v69 (ix2 r h) = li A r h) (hf : ∀ r (h : Fin 8), v70 (ix2 r h) = A.S (row r) ⟨40 + h.val, by omega⟩)
variable (hb : ∀ h, v71 (ix2 0 h) = A.fb h) (hm : ∀ r h, v87 (ix2 r h) = A.m r h)

include hf hb in
theorem lf_at (r : Fin 128) (h : Fin 8) : k0_pay14 v70 v71 (ix2 r h) = lf A r h := by
  pointwise [k0_pay14]
  simp only [hf, hb, zsub, lf, soft]

include hl hf hb hm

theorem m_at (r : Fin 128) (h : Fin 8) : k0_pay15 v69 v70 v71 v87 (ix2 r h) = mNew A r h := by
  pointwise [k0_pay15]
  simp only [lf_at hf hb, hl, hm, mNew, inter]

theorem wi_at (r : Fin 128) (h : Fin 8) : k0_pay16 v69 v70 v71 v87 (ix2 r h) = wIntra A r h := by
  pointwise [k0_pay16]
  simp only [m_at hl hf hb hm, hl, wIntra]

theorem we_at (r : Fin 128) (h : Fin 8) : k0_pay17 v69 v70 v71 v87 (ix2 r h) = wInter A r h := by
  pointwise [k0_pay17]
  simp only [m_at hl hf hb hm, lf_at hf hb, hm, wInter, inter]

end

/-- The head of a lane and the lane within it. -/
abbrev hd (u : Fin 1024) : Fin 8 := ⟨u.val / 128, by omega⟩
abbrev ln (u : Fin 1024) : Fin 128 := ⟨u.val % 128, by omega⟩

theorem hd_mk (h : Fin 8) (d : Fin 128) (p : h.val * 128 + d.val < 1024) : hd ⟨h.val * 128 + d.val, p⟩ = h :=
  Fin.ext (by show (h.val * 128 + d.val) / 128 = h.val; omega)
theorem ln_mk (h : Fin 8) (d : Fin 128) (p : h.val * 128 + d.val < 1024) : ln ⟨h.val * 128 + d.val, p⟩ = d :=
  Fin.ext (by show (h.val * 128 + d.val) % 128 = d.val; omega)

section
variable (hA : A.ks = ks)
include hA

theorem k_at {v97 : Vec Ideal S128x1024 .f32} (hk : ∀ r (u : Fin 1024), v97 (ix2 r u) = A.P (row r) ⟨6144 + u.val, by omega⟩)
    (r : Fin 128) (u : Fin 1024) : k0_pay19 v97 (ix2 r u) = k A r (hd u) (ln u) := by
  pointwise [k0_pay19]
  rw [hk, k, hA]
  refine congrArg (fun z : EReal => z * ks) (congrArg (A.P (row r)) (Fin.ext ?_))
  show 6144 + u.val = 6144 + (u.val / 128 * 128 + u.val % 128); omega

variable {v69 v70 : FVec Ideal S128x8 .f32} {v71 : Vec Ideal S1x8 .f32} {v87 : Vec Ideal S128x8 .f32}
variable (hl : ∀ r h, v69 (ix2 r h) = li A r h) (hf : ∀ r (h : Fin 8), v70 (ix2 r h) = A.S (row r) ⟨40 + h.val, by omega⟩)
variable (hb : ∀ h, v71 (ix2 0 h) = A.fb h) (hm : ∀ r h, v87 (ix2 r h) = A.m r h)
variable {v95 v97 v101 : Vec Ideal S128x1024 .f32} {v103 : Vec Ideal S1024x8 .f32}
variable (hq : ∀ r (u : Fin 1024), v95 (ix2 r u) = q A r (hd u) (ln u))
variable (hk : ∀ r (u : Fin 1024), v97 (ix2 r u) = A.P (row r) ⟨6144 + u.val, by omega⟩)
variable (hn : ∀ r (u : Fin 1024), v101 (ix2 r u) = A.n r (hd u) (ln u))
variable (hs : ∀ (u : Fin 1024) (h : Fin 8), v103 (ix2 u h) = if u.val / 128 = h.val then 1 else 0)
include hl hf hb hm hq hk hs

theorem qkw_at (r : Fin 128) (h : Fin 8) : k0_pay22 v69 v70 v71 v87 v95 v97 v103 (ix2 r h) = qkw A r h := by
  pointwise [k0_pay22, k0_pay18, k0_pay21]
  simp only [wi_at hl hf hb hm, hq, k_at hA hk, hs, mul_ite, mul_one, mul_zero]
  rw [sum_head (fun u => q A r (hd u) (ln u) * k A r (hd u) (ln u)) h]
  simp only [hd_mk, ln_mk, qkw]

include hn

theorem den_at (r : Fin 128) (h : Fin 8) :
    k0_pay23 v69 v70 v71 v87 v95 v97 v101 v103 (ix2 r h) = aabs (den A r h) := by
  pointwise [k0_pay23, k0_pay18, k0_pay20, k0_pay21]
  simp only [qkw_at hA hl hf hb hm hq hk hs, we_at hl hf hb hm, hq, hn, hs, mul_ite, mul_one, mul_zero]
  rw [sum_head (fun u => q A r (hd u) (ln u) * A.n r (hd u) (ln u)) h]
  simp only [hd_mk, ln_mk, den]

end

section
variable {v89 v91 v94 v107 v112 : FVec Ideal S128x8 .f32}
variable (hm : ∀ r h, v89 (ix2 r h) = mNew A r h) (hd' : ∀ r h, v112 (ix2 r h) = aabs (den A r h))
include hm hd'

theorem inv_at (r : Fin 128) (h : Fin 8) : k0_pay1 v89 v112 (k0_pay24 (F := Ideal)) (ix2 r h) = inv A r h := by
  pointwise [k0_pay1, k0_pay24]
  simp only [hm, hd', zsub, inv]

theorem a1_at (hq : ∀ r h, v107 (ix2 r h) = qkw A r h) (r : Fin 128) (h : Fin 8) :
    k0_pay2 v89 v107 v112 (k0_pay24 (F := Ideal)) (ix2 r h) = qkw A r h * inv A r h := by
  pointwise [k0_pay2]
  rw [hq, inv_at hm hd']

theorem a2_at (hw : ∀ r h, v94 (ix2 r h) = wInter A r h) (r : Fin 128) (h : Fin 8) :
    k0_pay3 v89 v94 v112 (k0_pay24 (F := Ideal)) (ix2 r h) = wInter A r h * inv A r h := by
  pointwise [k0_pay3]
  rw [hw, inv_at hm hd']

end

theorem n_at {v91 v94 : FVec Ideal S128x8 .f32} {v100 v102 : FVec Ideal S128x1024 .f32} {v127 : Vec Ideal S8x1024 .f32}
    (hi : ∀ r h, v91 (ix2 r h) = wIntra A r h) (hw : ∀ r h, v94 (ix2 r h) = wInter A r h)
    (hk : ∀ r u, v100 (ix2 r u) = k A r (hd u) (ln u)) (hn : ∀ r u, v102 (ix2 r u) = A.n r (hd u) (ln u))
    (hx : ∀ (h : Fin 8) (u : Fin 1024), v127 (ix2 h u) = if h.val = u.val / 128 then 1 else 0) (r : Fin 128) (u : Fin 1024) :
    k0_pay4 v91 v94 v100 v102 v127 (ix2 r u) = nNew A r (hd u) (ln u) := by
  pointwise [k0_pay4]
  simp only [hi, hw, hk, hn, hx, mul_ite, mul_one, mul_zero]
  rw [sum_one (fun h => wInter A r h) (u.val / 128) (by omega), sum_one (fun h => wIntra A r h) (u.val / 128) (by omega)]
  rfl

end Decode.K

end
-- ==== Proof.Decode.FrameK.lean ====
/-
  The idealized program of the decoding step's preparation: its one grid point's body run on whole buffers, what every output
  buffer holds after it, the run of the launch, and that the arguments end as they were.
-/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value

@[expose] public section

set_option maxRecDepth 16384

noncomputable section

namespace Decode.K

open Cert Cert.Kernel6Ideal Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 6400000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1680000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 9).trans (((dats 0 c).arrAt_in 9 rfl _).trans ((hA c 9).trans (V_main_arg4 m c))),
      ((h c).1 4).trans (((dats 0 c).arrAt_in 4 rfl _).trans ((hA c 4).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

abbrev r0_0 : Rect S1x3072 := Rect.unit (s := S1x3072) ![0, 0] S1x3072.size inb_S1x3072_S1x3072_0_0
abbrev r0_1 : Rect S4x3072 := Rect.unit (s := S4x3072) ![0, 0] S1x3072.size inb_S4x3072_S1x3072_0_0
abbrev r0_2 : Rect S128x3072 := Rect.unit (s := S128x3072) ![0, 0] S128x3072.size inb_S128x3072_S128x3072_0_0
abbrev r0_3 : Rect S4x3072 := Rect.unit (s := S4x3072) ![1, 0] S1x3072.size inb_S4x3072_S1x3072_1_0
abbrev r0_4 : Rect S4x3072 := Rect.unit (s := S4x3072) ![2, 0] S1x3072.size inb_S4x3072_S1x3072_2_0
abbrev r0_5 : Rect S4x3072 := Rect.unit (s := S4x3072) ![3, 0] S1x3072.size inb_S4x3072_S1x3072_3_0
abbrev r0_6 : Rect S128x128 := Rect.unit (s := S128x128) ![0, 0] S128x128.size inb_S128x128_S128x128_0_0
abbrev r0_7 : Rect S1x32 := Rect.unit (s := S1x32) ![0, 0] S1x32.size inb_S1x32_S1x32_0_0
abbrev r0_8 : Rect S128x32 := Rect.unit (s := S128x32) ![0, 0] S128x32.size inb_S128x32_S128x32_0_0
abbrev r0_9 : Rect S128x2048 := Rect.unit (s := S128x2048) ![0, 0] S128x2048.size inb_S128x2048_S128x2048_0_0
abbrev r0_10 : Rect S32x2048 := Rect.unit (s := S32x2048) ![0, 0] S32x2048.size inb_S32x2048_S32x2048_0_0
abbrev r0_11 : Rect S128x1024 := Rect.unit (s := S128x1024) ![0, 0] S128x1024.size inb_S128x1024_S128x1024_0_0
abbrev r0_12 : Rect S1x8 := Rect.unit (s := S1x8) ![0, 0] S1x8.size inb_S1x8_S1x8_0_0
abbrev r0_13 : Rect S128x8 := Rect.unit (s := S128x8) ![0, 0] S128x8.size inb_S128x8_S128x8_0_0
abbrev r0_14 : Rect S128x2048 := Rect.unit (s := S128x2048) ![0, 0] S128x1024.size inb_S128x2048_S128x1024_0_0
abbrev r0_15 : Rect S128x2048 := Rect.unit (s := S128x2048) ![0, 1024] S128x1024.size inb_S128x2048_S128x1024_0_1024
abbrev r0_16 : Rect S1024x8 := Rect.unit (s := S1024x8) ![0, 0] S1024x8.size inb_S1024x8_S1024x8_0_0
abbrev r0_17 : Rect S8x1024 := Rect.unit (s := S8x1024) ![0, 0] S8x1024.size inb_S8x1024_S8x1024_0_0

def k0_pay25 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x2048 .f32 :=
  k0_pay6 (View.ld x5 r0_0) (View.ld x4 r0_1) (View.ld x1 r0_2) (View.ld x4 r0_3) (View.ld x2 r0_2) (View.ld x4 r0_4) (View.ld x3 r0_2) (View.ld x4 r0_5) (View.ld x0 r0_2) -- `v35`
def k0_pay26 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x8 .f32 :=
  k0_pay12 (View.ld x6 r0_6) (View.ld x12 r0_12) -- `v69`
def k0_pay27 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x8 .f32 :=
  k0_pay13 (View.ld x6 r0_6) -- `v70`
def k0_pay28 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x8 .f32 :=
  k0_pay15 (k0_pay26 x0 x1 x2 x3 x4 x5 x6 x7 x8 x9 x10 x11 x12 x13 x14 x15 x16) (k0_pay27 x0 x1 x2 x3 x4 x5 x6 x7 x8 x9 x10 x11 x12 x13 x14 x15 x16) (View.ld x13 r0_12) (View.ld x9 r0_13) -- `v89`
def k0_pay29 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x8 .f32 :=
  k0_pay16 (k0_pay26 x0 x1 x2 x3 x4 x5 x6 x7 x8 x9 x10 x11 x12 x13 x14 x15 x16) (k0_pay27 x0 x1 x2 x3 x4 x5 x6 x7 x8 x9 x10 x11 x12 x13 x14 x15 x16) (View.ld x13 r0_12) (View.ld x9 r0_13) -- `v91`
def k0_pay30 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x8 .f32 :=
  k0_pay17 (k0_pay26 x0 x1 x2 x3 x4 x5 x6 x7 x8 x9 x10 x11 x12 x13 x14 x15 x16) (k0_pay27 x0 x1 x2 x3 x4 x5 x6 x7 x8 x9 x10 x11 x12 x13 x14 x15 x16) (View.ld x13 r0_12) (View.ld x9 r0_13) -- `v94`
def k0_pay31 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x1024 .f32 :=
  k0_pay19 (View.ld x7 r0_15) -- `v100`
def k0_pay32 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x8 .f32 :=
  k0_pay23 (k0_pay26 x0 x1 x2 x3 x4 x5 x6 x7 x8 x9 x10 x11 x12 x13 x14 x15 x16) (k0_pay27 x0 x1 x2 x3 x4 x5 x6 x7 x8 x9 x10 x11 x12 x13 x14 x15 x16) (View.ld x13 r0_12) (View.ld x9 r0_13) (View.ld x7 r0_14) (View.ld x7 r0_15) (View.ld x8 r0_11) (View.ld x15 r0_16) -- `v112`
def k0_pay33 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : FVec F S128x8 .f32 :=
  k0_pay24 (F := F) -- `v113`

def out0_17 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x2048 .f32 :=
  View.canon [⟨r0_9, k0_pay25 x0 x1 x2 x3 x4 x5 x6 x7 x8 x9 x10 x11 x12 x13 x14 x15 x16⟩]

theorem cover0_17 (p0 : Vec F S128x2048 .f32) (y : S128x2048.Idx) :
    ∃ pc ∈ ([⟨r0_9, p0⟩] : List (View.Piece (Elt F) S128x2048 .f32)), y ∈ pc.1.set :=
  View.cover_of_tiled [⟨r0_9, p0⟩] S128x2048.size (by rfl) y

def out0_18 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x2048 .f32 :=
  View.canon [⟨r0_9, k0_pay10 (k0_pay25 x0 x1 x2 x3 x4 x5 x6 x7 x8 x9 x10 x11 x12 x13 x14 x15 x16) (View.ld x6 r0_6) (View.ld x10 r0_7) (View.ld x14 r0_10)⟩]

theorem cover0_18 (p0 : Vec F S128x2048 .f32) (y : S128x2048.Idx) :
    ∃ pc ∈ ([⟨r0_9, p0⟩] : List (View.Piece (Elt F) S128x2048 .f32)), y ∈ pc.1.set :=
  View.cover_of_tiled [⟨r0_9, p0⟩] S128x2048.size (by rfl) y

def out0_19 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x1024 .f32 :=
  View.canon [⟨r0_11, k0_pay11 (k0_pay5 (View.ld x5 r0_0) (View.ld x4 r0_1) (View.ld x1 r0_2) (View.ld x4 r0_3) (View.ld x2 r0_2) (View.ld x4 r0_4) (View.ld x3 r0_2) (View.ld x4 r0_5) (View.ld x0 r0_2))⟩]

theorem cover0_19 (p0 : Vec F S128x1024 .f32) (y : S128x1024.Idx) :
    ∃ pc ∈ ([⟨r0_11, p0⟩] : List (View.Piece (Elt F) S128x1024 .f32)), y ∈ pc.1.set :=
  View.cover_of_tiled [⟨r0_11, p0⟩] S128x1024.size (by rfl) y

def out0_20 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x32 .f32 :=
  View.canon [⟨r0_8, k0_pay9 (View.ld x6 r0_6) (View.ld x10 r0_7) (View.ld x11 r0_7)⟩]

theorem cover0_20 (p0 : Vec F S128x32 .f32) (y : S128x32.Idx) :
    ∃ pc ∈ ([⟨r0_8, p0⟩] : List (View.Piece (Elt F) S128x32 .f32)), y ∈ pc.1.set :=
  View.cover_of_tiled [⟨r0_8, p0⟩] S128x32.size (by rfl) y

def out0_21 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x1024 .f32 :=
  View.canon [⟨r0_11, k0_pay31 x0 x1 x2 x3 x4 x5 x6 x7 x8 x9 x10 x11 x12 x13 x14 x15 x16⟩]

theorem cover0_21 (p0 : Vec F S128x1024 .f32) (y : S128x1024.Idx) :
    ∃ pc ∈ ([⟨r0_11, p0⟩] : List (View.Piece (Elt F) S128x1024 .f32)), y ∈ pc.1.set :=
  View.cover_of_tiled [⟨r0_11, p0⟩] S128x1024.size (by rfl) y

def out0_22 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x8 .f32 :=
  View.canon [⟨r0_13, k0_pay2 (k0_pay28 x0 x1 x2 x3 x4 x5 x6 x7 x8 x9 x10 x11 x12 x13 x14 x15 x16) (k0_pay22 (k0_pay26 x0 x1 x2 x3 x4 x5 x6 x7 x8 x9 x10 x11 x12 x13 x14 x15 x16) (k0_pay27 x0 x1 x2 x3 x4 x5 x6 x7 x8 x9 x10 x11 x12 x13 x14 x15 x16) (View.ld x13 r0_12) (View.ld x9 r0_13) (View.ld x7 r0_14) (View.ld x7 r0_15) (View.ld x15 r0_16)) (k0_pay32 x0 x1 x2 x3 x4 x5 x6 x7 x8 x9 x10 x11 x12 x13 x14 x15 x16) (k0_pay33 x0 x1 x2 x3 x4 x5 x6 x7 x8 x9 x10 x11 x12 x13 x14 x15 x16)⟩]

theorem cover0_22 (p0 : Vec F S128x8 .f32) (y : S128x8.Idx) :
    ∃ pc ∈ ([⟨r0_13, p0⟩] : List (View.Piece (Elt F) S128x8 .f32)), y ∈ pc.1.set :=
  View.cover_of_tiled [⟨r0_13, p0⟩] S128x8.size (by rfl) y

def out0_23 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x8 .f32 :=
  View.canon [⟨r0_13, k0_pay3 (k0_pay28 x0 x1 x2 x3 x4 x5 x6 x7 x8 x9 x10 x11 x12 x13 x14 x15 x16) (k0_pay30 x0 x1 x2 x3 x4 x5 x6 x7 x8 x9 x10 x11 x12 x13 x14 x15 x16) (k0_pay32 x0 x1 x2 x3 x4 x5 x6 x7 x8 x9 x10 x11 x12 x13 x14 x15 x16) (k0_pay33 x0 x1 x2 x3 x4 x5 x6 x7 x8 x9 x10 x11 x12 x13 x14 x15 x16)⟩]

theorem cover0_23 (p0 : Vec F S128x8 .f32) (y : S128x8.Idx) :
    ∃ pc ∈ ([⟨r0_13, p0⟩] : List (View.Piece (Elt F) S128x8 .f32)), y ∈ pc.1.set :=
  View.cover_of_tiled [⟨r0_13, p0⟩] S128x8.size (by rfl) y

def out0_24 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x8 .f32 :=
  View.canon [⟨r0_13, k0_pay29 x0 x1 x2 x3 x4 x5 x6 x7 x8 x9 x10 x11 x12 x13 x14 x15 x16⟩]

theorem cover0_24 (p0 : Vec F S128x8 .f32) (y : S128x8.Idx) :
    ∃ pc ∈ ([⟨r0_13, p0⟩] : List (View.Piece (Elt F) S128x8 .f32)), y ∈ pc.1.set :=
  View.cover_of_tiled [⟨r0_13, p0⟩] S128x8.size (by rfl) y

def out0_25 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x8 .f32 :=
  View.canon [⟨r0_13, k0_pay30 x0 x1 x2 x3 x4 x5 x6 x7 x8 x9 x10 x11 x12 x13 x14 x15 x16⟩]

theorem cover0_25 (p0 : Vec F S128x8 .f32) (y : S128x8.Idx) :
    ∃ pc ∈ ([⟨r0_13, p0⟩] : List (View.Piece (Elt F) S128x8 .f32)), y ∈ pc.1.set :=
  View.cover_of_tiled [⟨r0_13, p0⟩] S128x8.size (by rfl) y

def out0_26 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x8 .f32 :=
  View.canon [⟨r0_13, k0_pay28 x0 x1 x2 x3 x4 x5 x6 x7 x8 x9 x10 x11 x12 x13 x14 x15 x16⟩]

theorem cover0_26 (p0 : Vec F S128x8 .f32) (y : S128x8.Idx) :
    ∃ pc ∈ ([⟨r0_13, p0⟩] : List (View.Piece (Elt F) S128x8 .f32)), y ∈ pc.1.set :=
  View.cover_of_tiled [⟨r0_13, p0⟩] S128x8.size (by rfl) y

def out0_27 (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) : Vec F S128x1024 .f32 :=
  View.canon [⟨r0_11, k0_pay4 (k0_pay29 x0 x1 x2 x3 x4 x5 x6 x7 x8 x9 x10 x11 x12 x13 x14 x15 x16) (k0_pay30 x0 x1 x2 x3 x4 x5 x6 x7 x8 x9 x10 x11 x12 x13 x14 x15 x16) (k0_pay31 x0 x1 x2 x3 x4 x5 x6 x7 x8 x9 x10 x11 x12 x13 x14 x15 x16) (k0_pay20 (View.ld x8 r0_11)) (View.ld x16 r0_17)⟩]

theorem cover0_27 (p0 : Vec F S128x1024 .f32) (y : S128x1024.Idx) :
    ∃ pc ∈ ([⟨r0_11, p0⟩] : List (View.Piece (Elt F) S128x1024 .f32)), y ∈ pc.1.set :=
  View.cover_of_tiled [⟨r0_11, p0⟩] S128x1024.size (by rfl) y

set_option maxHeartbeats 1000000 in
theorem sound_kernel (c : Dev nD) (E : Set ℕ) (arg0 : Memref sig .tc .vmem S128x3072 .f32) (harg0 : arg0.IsWhole) (arg1 : Memref sig .tc .vmem S128x3072 .f32) (harg1 : arg1.IsWhole) (arg2 : Memref sig .tc .vmem S128x3072 .f32) (harg2 : arg2.IsWhole) (arg3 : Memref sig .tc .vmem S128x3072 .f32) (harg3 : arg3.IsWhole) (arg4 : Memref sig .tc .vmem S4x3072 .f32) (harg4 : arg4.IsWhole) (arg5 : Memref sig .tc .vmem S1x3072 .f32) (harg5 : arg5.IsWhole) (arg6 : Memref sig .tc .vmem S128x128 .f32) (harg6 : arg6.IsWhole) (arg7 : Memref sig .tc .vmem S128x2048 .f32) (harg7 : arg7.IsWhole) (arg8 : Memref sig .tc .vmem S128x1024 .f32) (harg8 : arg8.IsWhole) (arg9 : Memref sig .tc .vmem S128x8 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x8 .f32) (harg12 : arg12.IsWhole) (arg13 : Memref sig .tc .vmem S1x8 .f32) (harg13 : arg13.IsWhole) (arg14 : Memref sig .tc .vmem S32x2048 .f32) (harg14 : arg14.IsWhole) (arg15 : Memref sig .tc .vmem S1024x8 .f32) (harg15 : arg15.IsWhole) (arg16 : Memref sig .tc .vmem S8x1024 .f32) (harg16 : arg16.IsWhole) (arg17 : Memref sig .tc .vmem S128x2048 .f32) (harg17 : arg17.IsWhole) (arg18 : Memref sig .tc .vmem S128x2048 .f32) (harg18 : arg18.IsWhole) (arg19 : Memref sig .tc .vmem S128x1024 .f32) (harg19 : arg19.IsWhole) (arg20 : Memref sig .tc .vmem S128x32 .f32) (harg20 : arg20.IsWhole) (arg21 : Memref sig .tc .vmem S128x1024 .f32) (harg21 : arg21.IsWhole) (arg22 : Memref sig .tc .vmem S128x8 .f32) (harg22 : arg22.IsWhole) (arg23 : Memref sig .tc .vmem S128x8 .f32) (harg23 : arg23.IsWhole) (arg24 : Memref sig .tc .vmem S128x8 .f32) (harg24 : arg24.IsWhole) (arg25 : Memref sig .tc .vmem S128x8 .f32) (harg25 : arg25.IsWhole) (arg26 : Memref sig .tc .vmem S128x8 .f32) (harg26 : arg26.IsWhole) (arg27 : Memref sig .tc .vmem S128x1024 .f32) (harg27 : arg27.IsWhole)
    (x0 : Vec F S128x3072 .f32) (x1 : Vec F S128x3072 .f32) (x2 : Vec F S128x3072 .f32) (x3 : Vec F S128x3072 .f32) (x4 : Vec F S4x3072 .f32) (x5 : Vec F S1x3072 .f32) (x6 : Vec F S128x128 .f32) (x7 : Vec F S128x2048 .f32) (x8 : Vec F S128x1024 .f32) (x9 : Vec F S128x8 .f32) (x10 : Vec F S1x32 .f32) (x11 : Vec F S1x32 .f32) (x12 : Vec F S1x8 .f32) (x13 : Vec F S1x8 .f32) (x14 : Vec F S32x2048 .f32) (x15 : Vec F S1024x8 .f32) (x16 : Vec F S8x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (out0_17 x0 x1 x2 x3 x4 x5 x6 x7 x8 x9 x10 x11 x12 x13 x14 x15 x16) ∗ owns (c : Thread nD τ) arg18 fullShare (out0_18 x0 x1 x2 x3 x4 x5 x6 x7 x8 x9 x10 x11 x12 x13 x14 x15 x16) ∗ owns (c : Thread nD τ) arg19 fullShare (out0_19 x0 x1 x2 x3 x4 x5 x6 x7 x8 x9 x10 x11 x12 x13 x14 x15 x16) ∗ owns (c : Thread nD τ) arg20 fullShare (out0_20 x0 x1 x2 x3 x4 x5 x6 x7 x8 x9 x10 x11 x12 x13 x14 x15 x16) ∗ owns (c : Thread nD τ) arg21 fullShare (out0_21 x0 x1 x2 x3 x4 x5 x6 x7 x8 x9 x10 x11 x12 x13 x14 x15 x16) ∗ owns (c : Thread nD τ) arg22 fullShare (out0_22 x0 x1 x2 x3 x4 x5 x6 x7 x8 x9 x10 x11 x12 x13 x14 x15 x16) ∗ owns (c : Thread nD τ) arg23 fullShare (out0_23 x0 x1 x2 x3 x4 x5 x6 x7 x8 x9 x10 x11 x12 x13 x14 x15 x16) ∗ owns (c : Thread nD τ) arg24 fullShare (out0_24 x0 x1 x2 x3 x4 x5 x6 x7 x8 x9 x10 x11 x12 x13 x14 x15 x16) ∗ owns (c : Thread nD τ) arg25 fullShare (out0_25 x0 x1 x2 x3 x4 x5 x6 x7 x8 x9 x10 x11 x12 x13 x14 x15 x16) ∗ owns (c : Thread nD τ) arg26 fullShare (out0_26 x0 x1 x2 x3 x4 x5 x6 x7 x8 x9 x10 x11 x12 x13 x14 x15 x16) ∗ owns (c : Thread nD τ) arg27 fullShare (out0_27 x0 x1 x2 x3 x4 x5 x6 x7 x8 x9 x10 x11 x12 x13 x14 x15 x16)) -∗ K ⟨⟩))
      ⊢ wp frame (wpE (defs₀ (F := F)) Variants.none c none) E (cc0_sample_prep arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_sample_prep_eq_skeleton]; unfold cc0_sample_prep_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  iexists _; isplitr
  swap; · iexact H27
  ipureintro
  refine (View.read_writes_eq_canon _ _ _ (cover0_27 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs₀_row (t : Fin cfg0.N) :
    defs₀ (F := F) .tc cfg0.body (cfg0.bodyArgs t (cfg0.slots t)) = bodyAt0 t := by
  unfold defs₀; rw [Defs.onTc_tc]

set_option maxHeartbeats 6400000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 6400000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Decode.K

end
-- ==== Proof.Decode.KernelArray.lean ====
/-
  The arrays the kernel of the decoding step's preparation reads and returns: the host's slices, transposes and reshapes
  read by index, and each array it returns as the step's function of the arguments.
-/
module

public import proofs.«01_k».proof.Proof.Decode.Body
public import proofs.«01_k».proof.Proof.Decode.FrameK
public import Idealize.ShloMosaic.Lib.Pipeline.ValueKit.Point

@[expose] public section

set_option maxRecDepth 16384

noncomputable section

open Idealize.ShloMosaic Idealize.ShloMosaic.TcCoe Idealize.ShloMosaic.Tactic Cert.Kernel6Ideal Cert.Kernel6Ideal.Gen

namespace Decode.K

theorem hz2 : (![0, 0] : Fin 2 → Nat) = fun _ => 0 := funext fun a => by fin_cases a <;> rfl

/-- The bit of a test, as a value. -/
theorem bit_u (p : Prop) [Decidable p] :
    FloatOps.uitofp (F := Ideal) FTy.f32 (BitVec.ofBool (decide p)) = if p then 1 else 0 := by
  by_cases h : p
  · simp only [h, decide_true, if_true]
    show (((1 : ℕ) : ℝ) : EReal) = 1
    norm_num
  · simp only [h, decide_false, if_false]
    show (((0 : ℕ) : ℝ) : EReal) = 0
    norm_num

/-- A diagonal's entry. -/
theorem diag (a b : Nat) (ha : a < 2 ^ 31) (hb : b < 2 ^ 31) :
    FloatOps.uitofp (F := Ideal) FTy.f32 (IntOp.cmpi .eq (IntOp.addi (BitVec.ofNat 32 a) 0#32) (BitVec.ofNat 32 b)) = if a = b then 1 else 0 := by
  have e : IntOp.addi (BitVec.ofNat 32 a) 0#32 = BitVec.ofNat 32 a := BitVec.add_zero _
  have f : IntOp.cmpi .eq (BitVec.ofNat 32 a) (BitVec.ofNat 32 b) = BitVec.ofBool (decide (a = b)) := by
    show BitVec.ofBool (BitVec.ofNat 32 a == BitVec.ofNat 32 b) = _
    refine congrArg BitVec.ofBool (Bool.eq_iff_iff.mpr ?_)
    rw [beq_iff_eq, decide_eq_true_iff, ← BitVec.toNat_inj, BitVec.toNat_ofNat, BitVec.toNat_ofNat,
      Nat.mod_eq_of_lt (by omega), Nat.mod_eq_of_lt (by omega)]
  rw [e, f, bit_u]

variable (m : (ℓ : Loc nD τ sig) → Buf (Elt Ideal) ℓ) (c : Dev nD)

/-- The arguments, read by index. -/
def args : Args where
  P i j := (m (c, main_arg0) : S8448x11264.Idx → EReal) (ix2 i j)
  S i j := (m (c, main_arg1) : S8448x128.Idx → EReal) (ix2 i j)
  H r t d := (m (c, main_arg2) : S128x3x3072.Idx → EReal) (ix3 r t d)
  n r h d := (m (c, main_arg3) : S128x8x128.Idx → EReal) (ix3 r h d)
  m r h := (m (c, main_arg4) : S128x8.Idx → EReal) (ix2 r h)
  cw t d := (m (c, main_arg5) : S4x3072.Idx → EReal) (ix2 t d)
  cb d := (m (c, main_arg6) : S3072.Idx → EReal) (ix1 d)
  dtb h := (m (c, main_arg7) : S32.Idx → EReal) (ix1 h)
  al h := (m (c, main_arg8) : S32.Idx → EReal) (ix1 h)
  ib h := (m (c, main_arg9) : S8.Idx → EReal) (ix1 h)
  fb h := (m (c, main_arg10) : S8.Idx → EReal) (ix1 h)
  ks := ks

/-! ## The arrays at the region's entry -/

theorem V_x (r : Fin 128) (d : Fin 3072) : (V m c main_v19 : S128x3072.Idx → EReal) (ix2 r d) = (args m c).P (row r) ⟨2048 + d.val, by omega⟩ := by
  unfold_abbrev_sides
  after_results
  pointwise []
  rfl
theorem V_h0 (r : Fin 128) (d : Fin 3072) : (V m c main_v31 : S128x3072.Idx → EReal) (ix2 r d) = (args m c).H r 0 d := by
  unfold_abbrev_sides
  after_results
  pointwise []
theorem V_h1 (r : Fin 128) (d : Fin 3072) : (V m c main_v33 : S128x3072.Idx → EReal) (ix2 r d) = (args m c).H r 1 d := by
  unfold_abbrev_sides
  after_results
  pointwise []
theorem V_h2 (r : Fin 128) (d : Fin 3072) : (V m c main_v35 : S128x3072.Idx → EReal) (ix2 r d) = (args m c).H r 2 d := by
  unfold_abbrev_sides
  after_results
  pointwise []
theorem V_cb (d : Fin 3072) : (V m c main_v22 : S1x3072.Idx → EReal) (ix2 0 d) = (args m c).cb d := by
  unfold_abbrev_sides
  after_results
  pointwise []
theorem V_s (r j : Fin 128) : (V m c main_v23 : S128x128.Idx → EReal) (ix2 r j) = (args m c).S (row r) j := by
  unfold_abbrev_sides
  after_results
  pointwise []
  rfl
theorem V_qk (r : Fin 128) (j : Fin 2048) : (V m c main_v24 : S128x2048.Idx → EReal) (ix2 r j) = (args m c).P (row r) ⟨5120 + j.val, by omega⟩ := by
  unfold_abbrev_sides
  after_results
  pointwise []
  rfl
theorem V_n (r : Fin 128) (u : Fin 1024) : (V m c main_v21 : S128x1024.Idx → EReal) (ix2 r u) = (args m c).n r (hd u) (ln u) := by
  unfold_abbrev_sides
  after_results
  pointwise []
theorem V_dtb (h : Fin 32) : (V m c main_v25 : S1x32.Idx → EReal) (ix2 0 h) = (args m c).dtb h := by
  unfold_abbrev_sides
  after_results
  pointwise []
theorem V_al (h : Fin 32) : (V m c main_v26 : S1x32.Idx → EReal) (ix2 0 h) = -(Ideal.exp ((args m c).al h)) := by
  unfold_abbrev_sides
  after_results
  pointwise []
  rfl
theorem V_ib (h : Fin 8) : (V m c main_v27 : S1x8.Idx → EReal) (ix2 0 h) = (args m c).ib h := by
  unfold_abbrev_sides
  after_results
  pointwise []
theorem V_fb (h : Fin 8) : (V m c main_v28 : S1x8.Idx → EReal) (ix2 0 h) = (args m c).fb h := by
  unfold_abbrev_sides
  after_results
  pointwise []
theorem V_e32 (h : Fin 32) (d : Fin 2048) :
    (V m c main_v9 : S32x2048.Idx → EReal) (ix2 h d) = (if h.val = d.val / 64 then 1 else 0 : EReal) := by
  unfold_abbrev_sides
  after_results
  pointwise []
  exact diag _ _ (by omega) (by omega)
theorem V_hx (h : Fin 8) (u : Fin 1024) :
    (V m c main_v17 : S8x1024.Idx → EReal) (ix2 h u) = (if h.val = u.val / 128 then 1 else 0 : EReal) := by
  unfold_abbrev_sides
  after_results
  pointwise []
  exact diag _ _ (by omega) (by omega)
theorem V_hs (u : Fin 1024) (h : Fin 8) :
    (V m c main_v29 : S1024x8.Idx → EReal) (ix2 u h) = (if u.val / 128 = h.val then 1 else 0 : EReal) := by
  unfold_abbrev_sides
  after_results
  pointwise []
  refine (diag _ _ (by omega) (by omega)).trans (if_congr eq_comm rfl rfl)

/-! ## What the body leaves in its output buffers -/

section
variable {A : Args}
  {x0 x1 x2 x3 : Vec Ideal S128x3072 .f32} {x4 : Vec Ideal S4x3072 .f32} {x5 : Vec Ideal S1x3072 .f32} {x6 : Vec Ideal S128x128 .f32}
  {x7 : Vec Ideal S128x2048 .f32} {x8 : Vec Ideal S128x1024 .f32} {x9 : Vec Ideal S128x8 .f32} {x10 x11 : Vec Ideal S1x32 .f32}
  {x12 x13 : Vec Ideal S1x8 .f32} {x14 : Vec Ideal S32x2048 .f32} {x15 : Vec Ideal S1024x8 .f32} {x16 : Vec Ideal S8x1024 .f32}

/-- The input buffers hold the step's arguments. -/
structure Holds (A : Args) (x0 x1 x2 x3 : Vec Ideal S128x3072 .f32) (x4 : Vec Ideal S4x3072 .f32) (x5 : Vec Ideal S1x3072 .f32)
    (x6 : Vec Ideal S128x128 .f32) (x7 : Vec Ideal S128x2048 .f32) (x8 : Vec Ideal S128x1024 .f32) (x9 : Vec Ideal S128x8 .f32)
    (x10 x11 : Vec Ideal S1x32 .f32) (x12 x13 : Vec Ideal S1x8 .f32) (x14 : Vec Ideal S32x2048 .f32) (x15 : Vec Ideal S1024x8 .f32)
    (x16 : Vec Ideal S8x1024 .f32) : Prop where
  x : ∀ r (d : Fin 3072), x0 (ix2 r d) = A.P (row r) ⟨2048 + d.val, by omega⟩
  h0 : ∀ r d, x1 (ix2 r d) = A.H r 0 d
  h1 : ∀ r d, x2 (ix2 r d) = A.H r 1 d
  h2 : ∀ r d, x3 (ix2 r d) = A.H r 2 d
  cw : ∀ t d, x4 (ix2 t d) = A.cw t d
  cb : ∀ d, x5 (ix2 0 d) = A.cb d
  s : ∀ r j, x6 (ix2 r j) = A.S (row r) j
  qk : ∀ r (j : Fin 2048), x7 (ix2 r j) = A.P (row r) ⟨5120 + j.val, by omega⟩
  n : ∀ r (u : Fin 1024), x8 (ix2 r u) = A.n r (hd u) (ln u)
  m : ∀ r h, x9 (ix2 r h) = A.m r h
  dtb : ∀ h, x10 (ix2 0 h) = A.dtb h
  al : ∀ h, x11 (ix2 0 h) = -(Ideal.exp (A.al h))
  ib : ∀ h, x12 (ix2 0 h) = A.ib h
  fb : ∀ h, x13 (ix2 0 h) = A.fb h
  e32 : ∀ (h : Fin 32) (d : Fin 2048), x14 (ix2 h d) = if h.val = d.val / 64 then 1 else 0
  hs : ∀ (u : Fin 1024) (h : Fin 8), x15 (ix2 u h) = if u.val / 128 = h.val then 1 else 0
  hx : ∀ (h : Fin 8) (u : Fin 1024), x16 (ix2 h u) = if h.val = u.val / 128 then 1 else 0
  ks : A.ks = ks

theorem ld_w0 (x : Vec Ideal S4x3072 .f32) (d : Fin 3072) : View.ld x r0_1 (ix2 0 d) = x (ix2 0 d) :=
  congrArg x (funext fun a => by fin_cases a <;> (apply Fin.ext; show _ + 1 * _ = _; simp))
theorem ld_w1 (x : Vec Ideal S4x3072 .f32) (d : Fin 3072) : View.ld x r0_3 (ix2 0 d) = x (ix2 1 d) :=
  congrArg x (funext fun a => by fin_cases a <;> (apply Fin.ext; show _ + 1 * _ = _; simp))
theorem ld_w2 (x : Vec Ideal S4x3072 .f32) (d : Fin 3072) : View.ld x r0_4 (ix2 0 d) = x (ix2 2 d) :=
  congrArg x (funext fun a => by fin_cases a <;> (apply Fin.ext; show _ + 1 * _ = _; simp))
theorem ld_w3 (x : Vec Ideal S4x3072 .f32) (d : Fin 3072) : View.ld x r0_5 (ix2 0 d) = x (ix2 3 d) :=
  congrArg x (funext fun a => by fin_cases a <;> (apply Fin.ext; show _ + 1 * _ = _; simp))
theorem ld_q (x : Vec Ideal S128x2048 .f32) (r : Fin 128) (u : Fin 1024) : View.ld x r0_14 (ix2 r u) = x (ix2 r ⟨u.val, by omega⟩) :=
  congrArg x (funext fun a => by fin_cases a <;> (apply Fin.ext; show _ + 1 * _ = _; simp))
theorem ld_k (x : Vec Ideal S128x2048 .f32) (r : Fin 128) (u : Fin 1024) : View.ld x r0_15 (ix2 r u) = x (ix2 r ⟨1024 + u.val, by omega⟩) :=
  congrArg x (funext fun a => by fin_cases a <;> (apply Fin.ext; show _ + 1 * _ = _; simp))

theorem ld_1 (x : Vec Ideal S1x3072 .f32) : View.ld x r0_0 = x := View.ld_unit_zero (S := S1x3072) hz2 _ x
theorem ld_2 (x : Vec Ideal S128x3072 .f32) : View.ld x r0_2 = x := View.ld_unit_zero (S := S128x3072) hz2 _ x
theorem ld_6 (x : Vec Ideal S128x128 .f32) : View.ld x r0_6 = x := View.ld_unit_zero (S := S128x128) hz2 _ x
theorem ld_7 (x : Vec Ideal S1x32 .f32) : View.ld x r0_7 = x := View.ld_unit_zero (S := S1x32) hz2 _ x
theorem ld_10 (x : Vec Ideal S32x2048 .f32) : View.ld x r0_10 = x := View.ld_unit_zero (S := S32x2048) hz2 _ x
theorem ld_11 (x : Vec Ideal S128x1024 .f32) : View.ld x r0_11 = x := View.ld_unit_zero (S := S128x1024) hz2 _ x
theorem ld_12 (x : Vec Ideal S1x8 .f32) : View.ld x r0_12 = x := View.ld_unit_zero (S := S1x8) hz2 _ x
theorem ld_13 (x : Vec Ideal S128x8 .f32) : View.ld x r0_13 = x := View.ld_unit_zero (S := S128x8) hz2 _ x
theorem ld_16 (x : Vec Ideal S1024x8 .f32) : View.ld x r0_16 = x := View.ld_unit_zero (S := S1024x8) hz2 _ x
theorem ld_17 (x : Vec Ideal S8x1024 .f32) : View.ld x r0_17 = x := View.ld_unit_zero (S := S8x1024) hz2 _ x

variable (B : Holds A x0 x1 x2 x3 x4 x5 x6 x7 x8 x9 x10 x11 x12 x13 x14 x15 x16)
include B

theorem qHolds (r : Fin 128) (u : Fin 1024) : View.ld x7 r0_14 (ix2 r u) = q A r (hd u) (ln u) := by
  rw [ld_q, B.qk, q]
  refine congrArg (A.P (row r)) (Fin.ext ?_)
  show 5120 + u.val = 5120 + (u.val / 128 * 128 + u.val % 128); omega

theorem kHolds (r : Fin 128) (u : Fin 1024) : View.ld x7 r0_15 (ix2 r u) = A.P (row r) ⟨6144 + u.val, by omega⟩ := by
  rw [ld_k, B.qk]
  refine congrArg (A.P (row r)) (Fin.ext ?_)
  show 5120 + (1024 + u.val) = 6144 + u.val; omega

theorem convHolds (r : Fin 128) (d : Fin 3072) :
    k0_pay5 x5 (View.ld x4 r0_1) x1 (View.ld x4 r0_3) x2 (View.ld x4 r0_4) x3 (View.ld x4 r0_5) x0 (ix2 r d) = conv A r d :=
  conv_at B.cb (fun d => (ld_w0 x4 d).trans (B.cw _ d)) (fun d => (ld_w1 x4 d).trans (B.cw _ d)) (fun d => (ld_w2 x4 d).trans (B.cw _ d))
    (fun d => (ld_w3 x4 d).trans (B.cw _ d)) B.h0 B.h1 B.h2 B.x r d

theorem out17 (r : Fin 128) (d : Fin 2048) : out0_17 x0 x1 x2 x3 x4 x5 x6 x7 x8 x9 x10 x11 x12 x13 x14 x15 x16 (ix2 r d) = conv A r ⟨d.val, by omega⟩ := by
  unfold out0_17 k0_pay25
  rw [View.canon_unit_zero hz2]
  simp only [ld_1, ld_2]
  exact xs_at (convHolds B) r d

theorem out18 (r : Fin 128) (d : Fin 2048) :
    out0_18 x0 x1 x2 x3 x4 x5 x6 x7 x8 x9 x10 x11 x12 x13 x14 x15 x16 (ix2 r d) = conv A r ⟨d.val, by omega⟩ * dt A r ⟨d.val / 64, by omega⟩ := by
  unfold out0_18 k0_pay25
  rw [View.canon_unit_zero hz2]
  simp only [ld_1, ld_2, ld_6, ld_7, ld_10]
  exact xdt_at B.s B.dtb B.e32 (xs_at (convHolds B)) r d

theorem out19 (r : Fin 128) (d : Fin 1024) : out0_19 x0 x1 x2 x3 x4 x5 x6 x7 x8 x9 x10 x11 x12 x13 x14 x15 x16 (ix2 r d) = conv A r ⟨2048 + d.val, by omega⟩ := by
  unfold out0_19
  rw [View.canon_unit_zero hz2]
  simp only [ld_1, ld_2]
  exact bc_at (convHolds B) r d

theorem out20 (r : Fin 128) (h : Fin 32) : out0_20 x0 x1 x2 x3 x4 x5 x6 x7 x8 x9 x10 x11 x12 x13 x14 x15 x16 (ix2 r h) = da A r h := by
  unfold out0_20
  rw [View.canon_unit_zero hz2]
  simp only [ld_6, ld_7]
  exact da_at B.s B.dtb B.al r h

theorem out21 (r : Fin 128) (u : Fin 1024) : out0_21 x0 x1 x2 x3 x4 x5 x6 x7 x8 x9 x10 x11 x12 x13 x14 x15 x16 (ix2 r u) = k A r (hd u) (ln u) := by
  unfold out0_21 k0_pay31
  rw [View.canon_unit_zero hz2]
  exact k_at B.ks (kHolds B) r u

theorem out22 (r : Fin 128) (h : Fin 8) : out0_22 x0 x1 x2 x3 x4 x5 x6 x7 x8 x9 x10 x11 x12 x13 x14 x15 x16 (ix2 r h) = qkw A r h * inv A r h := by
  unfold out0_22 k0_pay28 k0_pay32 k0_pay33 k0_pay27 k0_pay26
  rw [View.canon_unit_zero hz2]
  simp only [ld_6, ld_11, ld_12, ld_13, ld_16]
  exact a1_at (m_at (li_at B.s B.ib) (fg_at B.s) B.fb B.m)
    (den_at B.ks (li_at B.s B.ib) (fg_at B.s) B.fb B.m (qHolds B) (kHolds B) B.n B.hs)
    (qkw_at B.ks (li_at B.s B.ib) (fg_at B.s) B.fb B.m (qHolds B) (kHolds B) B.hs) r h

theorem out23 (r : Fin 128) (h : Fin 8) : out0_23 x0 x1 x2 x3 x4 x5 x6 x7 x8 x9 x10 x11 x12 x13 x14 x15 x16 (ix2 r h) = wInter A r h * inv A r h := by
  unfold out0_23 k0_pay28 k0_pay30 k0_pay32 k0_pay33 k0_pay27 k0_pay26
  rw [View.canon_unit_zero hz2]
  simp only [ld_6, ld_11, ld_12, ld_13, ld_16]
  exact a2_at (m_at (li_at B.s B.ib) (fg_at B.s) B.fb B.m)
    (den_at B.ks (li_at B.s B.ib) (fg_at B.s) B.fb B.m (qHolds B) (kHolds B) B.n B.hs)
    (we_at (li_at B.s B.ib) (fg_at B.s) B.fb B.m) r h

theorem out24 (r : Fin 128) (h : Fin 8) : out0_24 x0 x1 x2 x3 x4 x5 x6 x7 x8 x9 x10 x11 x12 x13 x14 x15 x16 (ix2 r h) = wIntra A r h := by
  unfold out0_24 k0_pay29 k0_pay27 k0_pay26
  rw [View.canon_unit_zero hz2]
  simp only [ld_6, ld_12, ld_13]
  exact wi_at (li_at B.s B.ib) (fg_at B.s) B.fb B.m r h

theorem out25 (r : Fin 128) (h : Fin 8) : out0_25 x0 x1 x2 x3 x4 x5 x6 x7 x8 x9 x10 x11 x12 x13 x14 x15 x16 (ix2 r h) = wInter A r h := by
  unfold out0_25 k0_pay30 k0_pay27 k0_pay26
  rw [View.canon_unit_zero hz2]
  simp only [ld_6, ld_12, ld_13]
  exact we_at (li_at B.s B.ib) (fg_at B.s) B.fb B.m r h

theorem out26 (r : Fin 128) (h : Fin 8) : out0_26 x0 x1 x2 x3 x4 x5 x6 x7 x8 x9 x10 x11 x12 x13 x14 x15 x16 (ix2 r h) = mNew A r h := by
  unfold out0_26 k0_pay28 k0_pay27 k0_pay26
  rw [View.canon_unit_zero hz2]
  simp only [ld_6, ld_12, ld_13]
  exact m_at (li_at B.s B.ib) (fg_at B.s) B.fb B.m r h

theorem nHolds (r : Fin 128) (u : Fin 1024) : k0_pay20 x8 (ix2 r u) = A.n r (hd u) (ln u) := by
  pointwise [k0_pay20]
  exact B.n r u

theorem out27 (r : Fin 128) (u : Fin 1024) : out0_27 x0 x1 x2 x3 x4 x5 x6 x7 x8 x9 x10 x11 x12 x13 x14 x15 x16 (ix2 r u) = nNew A r (hd u) (ln u) := by
  unfold out0_27 k0_pay31 k0_pay30 k0_pay29 k0_pay27 k0_pay26
  rw [View.canon_unit_zero hz2]
  simp only [ld_6, ld_11, ld_12, ld_13, ld_17]
  exact n_at (wi_at (li_at B.s B.ib) (fg_at B.s) B.fb B.m) (we_at (li_at B.s B.ib) (fg_at B.s) B.fb B.m) (k_at B.ks (kHolds B))
    (nHolds B) B.hx r u

end

end Decode.K

end
-- ==== Proof.Decode.KernelRun.lean ====
/-
  The run of the kernel of the decoding step's preparation: its input blocks hold the step's arguments, and each array it
  returns is the step's function of them.
-/
module

public import proofs.«01_k».proof.Proof.Decode.KernelArray

@[expose] public section

set_option maxRecDepth 16384

noncomputable section

open Idealize.ShloMosaic Idealize.ShloMosaic.TcCoe Idealize.ShloMosaic.Tactic Idealize.SL.Sem Cert.Kernel6Ideal Cert.Kernel6Ideal.Gen

namespace Decode.K

variable (m : (ℓ : Loc nD τ sig) → Buf (Elt Ideal) ℓ) (c : Dev nD)

/-! ## Where the one point's blocks lie -/

theorem idx0 : ∀ t : Fin cfg0.N, (cfg0.win 0).index t = ![0, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![0, 0] := by decide +kernel
theorem idx11 : ∀ t : Fin cfg0.N, (cfg0.win 11).index t = ![0, 0] := by decide +kernel
theorem idx12 : ∀ t : Fin cfg0.N, (cfg0.win 12).index t = ![0, 0] := by decide +kernel
theorem idx13 : ∀ t : Fin cfg0.N, (cfg0.win 13).index t = ![0, 0] := by decide +kernel
theorem idx14 : ∀ t : Fin cfg0.N, (cfg0.win 14).index t = ![0, 0] := by decide +kernel
theorem idx15 : ∀ t : Fin cfg0.N, (cfg0.win 15).index t = ![0, 0] := by decide +kernel
theorem idx16 : ∀ t : Fin cfg0.N, (cfg0.win 16).index t = ![0, 0] := by decide +kernel
theorem idx17 : ∀ t : Fin cfg0.N, (cfg0.win 17).index t = ![0, 0] := by decide +kernel
theorem idx18 : ∀ t : Fin cfg0.N, (cfg0.win 18).index t = ![0, 0] := by decide +kernel
theorem idx19 : ∀ t : Fin cfg0.N, (cfg0.win 19).index t = ![0, 0] := by decide +kernel
theorem idx20 : ∀ t : Fin cfg0.N, (cfg0.win 20).index t = ![0, 0] := by decide +kernel
theorem idx21 : ∀ t : Fin cfg0.N, (cfg0.win 21).index t = ![0, 0] := by decide +kernel
theorem idx22 : ∀ t : Fin cfg0.N, (cfg0.win 22).index t = ![0, 0] := by decide +kernel
theorem idx23 : ∀ t : Fin cfg0.N, (cfg0.win 23).index t = ![0, 0] := by decide +kernel
theorem idx24 : ∀ t : Fin cfg0.N, (cfg0.win 24).index t = ![0, 0] := by decide +kernel
theorem idx25 : ∀ t : Fin cfg0.N, (cfg0.win 25).index t = ![0, 0] := by decide +kernel
theorem idx26 : ∀ t : Fin cfg0.N, (cfg0.win 26).index t = ![0, 0] := by decide +kernel
theorem idx27 : ∀ t : Fin cfg0.N, (cfg0.win 27).index t = ![0, 0] := by decide +kernel

/-! ## The input blocks -/

theorem blk0 (t : Fin cfg0.N) (a : Fin 128) (b : Fin 3072) :
    (iblk m c 0 t : S128x3072.Idx → EReal) (ix2 a b) = (V m c main_v19 : S128x3072.Idx → EReal) (ix2 a b) := by
  blk_ext [iblk, idx0 t]

theorem blk1 (t : Fin cfg0.N) (a : Fin 128) (b : Fin 3072) :
    (iblk m c 1 t : S128x3072.Idx → EReal) (ix2 a b) = (V m c main_v31 : S128x3072.Idx → EReal) (ix2 a b) := by
  blk_ext [iblk, idx1 t]

theorem blk2 (t : Fin cfg0.N) (a : Fin 128) (b : Fin 3072) :
    (iblk m c 2 t : S128x3072.Idx → EReal) (ix2 a b) = (V m c main_v33 : S128x3072.Idx → EReal) (ix2 a b) := by
  blk_ext [iblk, idx2 t]

theorem blk3 (t : Fin cfg0.N) (a : Fin 128) (b : Fin 3072) :
    (iblk m c 3 t : S128x3072.Idx → EReal) (ix2 a b) = (V m c main_v35 : S128x3072.Idx → EReal) (ix2 a b) := by
  blk_ext [iblk, idx3 t]

theorem blk4 (t : Fin cfg0.N) (a : Fin 4) (b : Fin 3072) :
    (iblk m c 4 t : S4x3072.Idx → EReal) (ix2 a b) = (V m c main_arg5 : S4x3072.Idx → EReal) (ix2 a b) := by
  blk_ext [iblk, idx4 t]

theorem blk5 (t : Fin cfg0.N) (b : Fin 3072) :
    (iblk m c 5 t : S1x3072.Idx → EReal) (ix2 0 b) = (V m c main_v22 : S1x3072.Idx → EReal) (ix2 0 b) := by
  blk_ext [iblk, idx5 t]

theorem blk6 (t : Fin cfg0.N) (a : Fin 128) (b : Fin 128) :
    (iblk m c 6 t : S128x128.Idx → EReal) (ix2 a b) = (V m c main_v23 : S128x128.Idx → EReal) (ix2 a b) := by
  blk_ext [iblk, idx6 t]

theorem blk7 (t : Fin cfg0.N) (a : Fin 128) (b : Fin 2048) :
    (iblk m c 7 t : S128x2048.Idx → EReal) (ix2 a b) = (V m c main_v24 : S128x2048.Idx → EReal) (ix2 a b) := by
  blk_ext [iblk, idx7 t]

theorem blk8 (t : Fin cfg0.N) (a : Fin 128) (b : Fin 1024) :
    (iblk m c 8 t : S128x1024.Idx → EReal) (ix2 a b) = (V m c main_v21 : S128x1024.Idx → EReal) (ix2 a b) := by
  blk_ext [iblk, idx8 t]

theorem blk9 (t : Fin cfg0.N) (a : Fin 128) (b : Fin 8) :
    (iblk m c 9 t : S128x8.Idx → EReal) (ix2 a b) = (V m c main_arg4 : S128x8.Idx → EReal) (ix2 a b) := by
  blk_ext [iblk, idx9 t]

theorem blk10 (t : Fin cfg0.N) (b : Fin 32) :
    (iblk m c 10 t : S1x32.Idx → EReal) (ix2 0 b) = (V m c main_v25 : S1x32.Idx → EReal) (ix2 0 b) := by
  blk_ext [iblk, idx10 t]

theorem blk11 (t : Fin cfg0.N) (b : Fin 32) :
    (iblk m c 11 t : S1x32.Idx → EReal) (ix2 0 b) = (V m c main_v26 : S1x32.Idx → EReal) (ix2 0 b) := by
  blk_ext [iblk, idx11 t]

theorem blk12 (t : Fin cfg0.N) (b : Fin 8) :
    (iblk m c 12 t : S1x8.Idx → EReal) (ix2 0 b) = (V m c main_v27 : S1x8.Idx → EReal) (ix2 0 b) := by
  blk_ext [iblk, idx12 t]

theorem blk13 (t : Fin cfg0.N) (b : Fin 8) :
    (iblk m c 13 t : S1x8.Idx → EReal) (ix2 0 b) = (V m c main_v28 : S1x8.Idx → EReal) (ix2 0 b) := by
  blk_ext [iblk, idx13 t]

theorem blk14 (t : Fin cfg0.N) (a : Fin 32) (b : Fin 2048) :
    (iblk m c 14 t : S32x2048.Idx → EReal) (ix2 a b) = (V m c main_v9 : S32x2048.Idx → EReal) (ix2 a b) := by
  blk_ext [iblk, idx14 t]

theorem blk15 (t : Fin cfg0.N) (a : Fin 1024) (b : Fin 8) :
    (iblk m c 15 t : S1024x8.Idx → EReal) (ix2 a b) = (V m c main_v29 : S1024x8.Idx → EReal) (ix2 a b) := by
  blk_ext [iblk, idx15 t]

theorem blk16 (t : Fin cfg0.N) (a : Fin 8) (b : Fin 1024) :
    (iblk m c 16 t : S8x1024.Idx → EReal) (ix2 a b) = (V m c main_v17 : S8x1024.Idx → EReal) (ix2 a b) := by
  blk_ext [iblk, idx16 t]

theorem holds (t : Fin cfg0.N) : Holds (args m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  x a b := (blk0 m c t a b).trans (V_x m c a b)
  h0 a b := (blk1 m c t a b).trans (V_h0 m c a b)
  h1 a b := (blk2 m c t a b).trans (V_h1 m c a b)
  h2 a b := (blk3 m c t a b).trans (V_h2 m c a b)
  cw a b := (blk4 m c t a b).trans (congrFun (V_main_arg5 m c) (ix2 a b))
  cb b := (blk5 m c t b).trans (V_cb m c b)
  s a b := (blk6 m c t a b).trans (V_s m c a b)
  qk a b := (blk7 m c t a b).trans (V_qk m c a b)
  n a b := (blk8 m c t a b).trans (V_n m c a b)
  m a b := (blk9 m c t a b).trans (congrFun (V_main_arg4 m c) (ix2 a b))
  dtb b := (blk10 m c t b).trans (V_dtb m c b)
  al b := (blk11 m c t b).trans (V_al m c b)
  ib b := (blk12 m c t b).trans (V_ib m c b)
  fb b := (blk13 m c t b).trans (V_fb m c b)
  e32 a b := (blk14 m c t a b).trans (V_e32 m c a b)
  hs a b := (blk15 m c t a b).trans (V_hs m c a b)
  hx a b := (blk16 m c t a b).trans (V_hx m c a b)
  ks := rfl

/-! ## The output arrays -/

theorem arr17 : (dats m 0 c).arrAt 17 cfg0.N = (fun i => xsOut (args m c) (i 0) (i 1) : S128x2048.Idx → EReal) := by
  refine (dats m 0 c).arrAt_eq_of_covers 17 _ (by decide +kernel) fun t hf y => ?_
  rw [after0_17]
  blk_simp [idx17 t]
  obtain ⟨r, d, rfl⟩ : ∃ (r : Fin 128) (d : Fin 2048), y = ix2 r d := ⟨y 0, y 1, eq_ix2 y⟩
  refine (out17 (holds m c t) r d).trans ?_
  have e0 : ((win0_17.blk t).view.emb (ix2 r d) 0 : Fin 128) = r := Fin.ext (by blk_simp [idx17 t] <;> (show _ = r.val) <;> omega)
  have e1 : ((win0_17.blk t).view.emb (ix2 r d) 1 : Fin 2048) = d := Fin.ext (by blk_simp [idx17 t] <;> (show _ = d.val) <;> omega)
  rw [e0, e1]
  rfl

theorem arr18 : (dats m 0 c).arrAt 18 cfg0.N = (fun i => xdtOut (args m c) (i 0) (i 1) : S128x2048.Idx → EReal) := by
  refine (dats m 0 c).arrAt_eq_of_covers 18 _ (by decide +kernel) fun t hf y => ?_
  rw [after0_18]
  blk_simp [idx18 t]
  obtain ⟨r, d, rfl⟩ : ∃ (r : Fin 128) (d : Fin 2048), y = ix2 r d := ⟨y 0, y 1, eq_ix2 y⟩
  refine (out18 (holds m c t) r d).trans ?_
  have e0 : ((win0_18.blk t).view.emb (ix2 r d) 0 : Fin 128) = r := Fin.ext (by blk_simp [idx18 t] <;> (show _ = r.val) <;> omega)
  have e1 : ((win0_18.blk t).view.emb (ix2 r d) 1 : Fin 2048) = d := Fin.ext (by blk_simp [idx18 t] <;> (show _ = d.val) <;> omega)
  rw [e0, e1]
  rfl

theorem arr19 : (dats m 0 c).arrAt 19 cfg0.N = (fun i => bcOut (args m c) (i 0) (i 1) : S128x1024.Idx → EReal) := by
  refine (dats m 0 c).arrAt_eq_of_covers 19 _ (by decide +kernel) fun t hf y => ?_
  rw [after0_19]
  blk_simp [idx19 t]
  obtain ⟨r, d, rfl⟩ : ∃ (r : Fin 128) (d : Fin 1024), y = ix2 r d := ⟨y 0, y 1, eq_ix2 y⟩
  refine (out19 (holds m c t) r d).trans ?_
  have e0 : ((win0_19.blk t).view.emb (ix2 r d) 0 : Fin 128) = r := Fin.ext (by blk_simp [idx19 t] <;> (show _ = r.val) <;> omega)
  have e1 : ((win0_19.blk t).view.emb (ix2 r d) 1 : Fin 1024) = d := Fin.ext (by blk_simp [idx19 t] <;> (show _ = d.val) <;> omega)
  rw [e0, e1]
  rfl

theorem arr20 : (dats m 0 c).arrAt 20 cfg0.N = (fun i => da (args m c) (i 0) (i 1) : S128x32.Idx → EReal) := by
  refine (dats m 0 c).arrAt_eq_of_covers 20 _ (by decide +kernel) fun t hf y => ?_
  rw [after0_20]
  blk_simp [idx20 t]
  obtain ⟨r, d, rfl⟩ : ∃ (r : Fin 128) (d : Fin 32), y = ix2 r d := ⟨y 0, y 1, eq_ix2 y⟩
  refine (out20 (holds m c t) r d).trans ?_
  have e0 : ((win0_20.blk t).view.emb (ix2 r d) 0 : Fin 128) = r := Fin.ext (by blk_simp [idx20 t] <;> (show _ = r.val) <;> omega)
  have e1 : ((win0_20.blk t).view.emb (ix2 r d) 1 : Fin 32) = d := Fin.ext (by blk_simp [idx20 t] <;> (show _ = d.val) <;> omega)
  rw [e0, e1]

theorem arr21 : (dats m 0 c).arrAt 21 cfg0.N = (fun i => kOut (args m c) (i 0) (i 1) : S128x1024.Idx → EReal) := by
  refine (dats m 0 c).arrAt_eq_of_covers 21 _ (by decide +kernel) fun t hf y => ?_
  rw [after0_21]
  blk_simp [idx21 t]
  obtain ⟨r, d, rfl⟩ : ∃ (r : Fin 128) (d : Fin 1024), y = ix2 r d := ⟨y 0, y 1, eq_ix2 y⟩
  refine (out21 (holds m c t) r d).trans ?_
  have e0 : ((win0_21.blk t).view.emb (ix2 r d) 0 : Fin 128) = r := Fin.ext (by blk_simp [idx21 t] <;> (show _ = r.val) <;> omega)
  have e1 : ((win0_21.blk t).view.emb (ix2 r d) 1 : Fin 1024) = d := Fin.ext (by blk_simp [idx21 t] <;> (show _ = d.val) <;> omega)
  rw [e0, e1]
  rfl

theorem arr22 : (dats m 0 c).arrAt 22 cfg0.N = (fun i => a1Out (args m c) (i 0) (i 1) : S128x8.Idx → EReal) := by
  refine (dats m 0 c).arrAt_eq_of_covers 22 _ (by decide +kernel) fun t hf y => ?_
  rw [after0_22]
  blk_simp [idx22 t]
  obtain ⟨r, d, rfl⟩ : ∃ (r : Fin 128) (d : Fin 8), y = ix2 r d := ⟨y 0, y 1, eq_ix2 y⟩
  refine (out22 (holds m c t) r d).trans ?_
  have e0 : ((win0_22.blk t).view.emb (ix2 r d) 0 : Fin 128) = r := Fin.ext (by blk_simp [idx22 t] <;> (show _ = r.val) <;> omega)
  have e1 : ((win0_22.blk t).view.emb (ix2 r d) 1 : Fin 8) = d := Fin.ext (by blk_simp [idx22 t] <;> (show _ = d.val) <;> omega)
  rw [e0, e1]
  rfl

theorem arr23 : (dats m 0 c).arrAt 23 cfg0.N = (fun i => a2Out (args m c) (i 0) (i 1) : S128x8.Idx → EReal) := by
  refine (dats m 0 c).arrAt_eq_of_covers 23 _ (by decide +kernel) fun t hf y => ?_
  rw [after0_23]
  blk_simp [idx23 t]
  obtain ⟨r, d, rfl⟩ : ∃ (r : Fin 128) (d : Fin 8), y = ix2 r d := ⟨y 0, y 1, eq_ix2 y⟩
  refine (out23 (holds m c t) r d).trans ?_
  have e0 : ((win0_23.blk t).view.emb (ix2 r d) 0 : Fin 128) = r := Fin.ext (by blk_simp [idx23 t] <;> (show _ = r.val) <;> omega)
  have e1 : ((win0_23.blk t).view.emb (ix2 r d) 1 : Fin 8) = d := Fin.ext (by blk_simp [idx23 t] <;> (show _ = d.val) <;> omega)
  rw [e0, e1]
  rfl

theorem arr24 : (dats m 0 c).arrAt 24 cfg0.N = (fun i => wIntra (args m c) (i 0) (i 1) : S128x8.Idx → EReal) := by
  refine (dats m 0 c).arrAt_eq_of_covers 24 _ (by decide +kernel) fun t hf y => ?_
  rw [after0_24]
  blk_simp [idx24 t]
  obtain ⟨r, d, rfl⟩ : ∃ (r : Fin 128) (d : Fin 8), y = ix2 r d := ⟨y 0, y 1, eq_ix2 y⟩
  refine (out24 (holds m c t) r d).trans ?_
  have e0 : ((win0_24.blk t).view.emb (ix2 r d) 0 : Fin 128) = r := Fin.ext (by blk_simp [idx24 t] <;> (show _ = r.val) <;> omega)
  have e1 : ((win0_24.blk t).view.emb (ix2 r d) 1 : Fin 8) = d := Fin.ext (by blk_simp [idx24 t] <;> (show _ = d.val) <;> omega)
  rw [e0, e1]

theorem arr25 : (dats m 0 c).arrAt 25 cfg0.N = (fun i => wInter (args m c) (i 0) (i 1) : S128x8.Idx → EReal) := by
  refine (dats m 0 c).arrAt_eq_of_covers 25 _ (by decide +kernel) fun t hf y => ?_
  rw [after0_25]
  blk_simp [idx25 t]
  obtain ⟨r, d, rfl⟩ : ∃ (r : Fin 128) (d : Fin 8), y = ix2 r d := ⟨y 0, y 1, eq_ix2 y⟩
  refine (out25 (holds m c t) r d).trans ?_
  have e0 : ((win0_25.blk t).view.emb (ix2 r d) 0 : Fin 128) = r := Fin.ext (by blk_simp [idx25 t] <;> (show _ = r.val) <;> omega)
  have e1 : ((win0_25.blk t).view.emb (ix2 r d) 1 : Fin 8) = d := Fin.ext (by blk_simp [idx25 t] <;> (show _ = d.val) <;> omega)
  rw [e0, e1]

theorem arr26 : (dats m 0 c).arrAt 26 cfg0.N = (fun i => mNew (args m c) (i 0) (i 1) : S128x8.Idx → EReal) := by
  refine (dats m 0 c).arrAt_eq_of_covers 26 _ (by decide +kernel) fun t hf y => ?_
  rw [after0_26]
  blk_simp [idx26 t]
  obtain ⟨r, d, rfl⟩ : ∃ (r : Fin 128) (d : Fin 8), y = ix2 r d := ⟨y 0, y 1, eq_ix2 y⟩
  refine (out26 (holds m c t) r d).trans ?_
  have e0 : ((win0_26.blk t).view.emb (ix2 r d) 0 : Fin 128) = r := Fin.ext (by blk_simp [idx26 t] <;> (show _ = r.val) <;> omega)
  have e1 : ((win0_26.blk t).view.emb (ix2 r d) 1 : Fin 8) = d := Fin.ext (by blk_simp [idx26 t] <;> (show _ = d.val) <;> omega)
  rw [e0, e1]

theorem arr27 : (dats m 0 c).arrAt 27 cfg0.N = (fun i => nOut (args m c) (i 0) (i 1) : S128x1024.Idx → EReal) := by
  refine (dats m 0 c).arrAt_eq_of_covers 27 _ (by decide +kernel) fun t hf y => ?_
  rw [after0_27]
  blk_simp [idx27 t]
  obtain ⟨r, d, rfl⟩ : ∃ (r : Fin 128) (d : Fin 1024), y = ix2 r d := ⟨y 0, y 1, eq_ix2 y⟩
  refine (out27 (holds m c t) r d).trans ?_
  have e0 : ((win0_27.blk t).view.emb (ix2 r d) 0 : Fin 128) = r := Fin.ext (by blk_simp [idx27 t] <;> (show _ = r.val) <;> omega)
  have e1 : ((win0_27.blk t).view.emb (ix2 r d) 1 : Fin 1024) = d := Fin.ext (by blk_simp [idx27 t] <;> (show _ = d.val) <;> omega)
  rw [e0, e1]
  rfl

set_option maxHeartbeats 2000000 in
/-- The run, with every array it returns named. -/
theorem run_named (ρ : Dev nD → PrngReg) :
    θ_run defs (onTc (τ := τ) (main (F := Ideal))) ⟨m, fun _ => 0, ρ⟩ fun r => ∀ c : Dev nD,
      r.2.mem ((c.tc : Thread nD τ).loc main_v36_0) = (fun i => xsOut (args m c) (i 0) (i 1) : S128x2048.Idx → EReal)
      ∧ r.2.mem ((c.tc : Thread nD τ).loc main_v36_1) = (fun i => xdtOut (args m c) (i 0) (i 1) : S128x2048.Idx → EReal)
      ∧ r.2.mem ((c.tc : Thread nD τ).loc main_v36_2) = (fun i => bcOut (args m c) (i 0) (i 1) : S128x1024.Idx → EReal)
      ∧ r.2.mem ((c.tc : Thread nD τ).loc main_v36_3) = (fun i => da (args m c) (i 0) (i 1) : S128x32.Idx → EReal)
      ∧ r.2.mem ((c.tc : Thread nD τ).loc main_v36_4) = (fun i => kOut (args m c) (i 0) (i 1) : S128x1024.Idx → EReal)
      ∧ r.2.mem ((c.tc : Thread nD τ).loc main_v36_5) = (fun i => a1Out (args m c) (i 0) (i 1) : S128x8.Idx → EReal)
      ∧ r.2.mem ((c.tc : Thread nD τ).loc main_v36_6) = (fun i => a2Out (args m c) (i 0) (i 1) : S128x8.Idx → EReal)
      ∧ r.2.mem ((c.tc : Thread nD τ).loc main_v36_7) = (fun i => wIntra (args m c) (i 0) (i 1) : S128x8.Idx → EReal)
      ∧ r.2.mem ((c.tc : Thread nD τ).loc main_v36_8) = (fun i => wInter (args m c) (i 0) (i 1) : S128x8.Idx → EReal)
      ∧ r.2.mem ((c.tc : Thread nD τ).loc main_v36_9) = (fun i => mNew (args m c) (i 0) (i 1) : S128x8.Idx → EReal)
      ∧ r.2.mem ((c.tc : Thread nD τ).loc main_v36_10) = (fun i => nOut (args m c) (i 0) (i 1) : S128x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (run_main (F := Ideal) m ρ)
  exact ⟨((h c).1 17).trans (arr17 m c),
    ((h c).1 18).trans (arr18 m c),
    ((h c).1 19).trans (arr19 m c),
    ((h c).1 20).trans (arr20 m c),
    ((h c).1 21).trans (arr21 m c),
    ((h c).1 22).trans (arr22 m c),
    ((h c).1 23).trans (arr23 m c),
    ((h c).1 24).trans (arr24 m c),
    ((h c).1 25).trans (arr25 m c),
    ((h c).1 26).trans (arr26 m c),
    ((h c).1 27).trans (arr27 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 9).trans (((dats m 0 c).arrAt_in 9 rfl _).trans ((A_eq m c 9).trans (V_main_arg4 m c))),
    ((h c).1 4).trans (((dats m 0 c).arrAt_in 4 rfl _).trans ((A_eq m c 4).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

end Decode.K

end
-- ==== Proof.Decode.RefArray.lean ====
/-
  The reference of the decoding step's preparation, array by array: each of its results is the step's function of the
  arguments.
-/
module

public import proofs.«01_k».proof.Proof.Decode.Spec
public import proofs.«01_k».proof.Proof.Gen.Reference6Ideal.Run

@[expose] public section

set_option maxRecDepth 16384

noncomputable section

open Idealize.SL.Sem Idealize.ShloMosaic Idealize.ShloMosaic.StableHlo Idealize.ShloMosaic.TcCoe Cert.Reference6Ideal Cert.Reference6Ideal.Gen Cert.Reference6Ideal.Value

namespace Decode.R

/-- The factor the keys are multiplied by. -/
def ks : EReal := Ideal.div 1 (Ideal.sqrt (Ideal.ofBits .f32 0x43000000#32))

theorem soft_of_test (x : EReal) : (if x ≠ x then x else max x 0 + Ideal.log1p (Ideal.exp (-(aabs x)))) = soft x := by
  rw [if_neg (fun hx => hx rfl)]; rfl

variable (P : FVec Ideal S8448x11264 .f32) (S : FVec Ideal S8448x128 .f32) (H : FVec Ideal S128x3x3072 .f32)
  (n : FVec Ideal S128x8x128 .f32) (mm : FVec Ideal S128x8 .f32) (cw : FVec Ideal S4x3072 .f32) (cb : FVec Ideal S3072 .f32)
  (dtb : FVec Ideal S32 .f32) (al : FVec Ideal S32 .f32) (ib : FVec Ideal S8 .f32) (fb : FVec Ideal S8 .f32)

/-- The arguments, read by index. -/
def args : Args where
  P i j := P (ix2 i j)
  S i j := S (ix2 i j)
  H r t c := H (ix3 r t c)
  n r h d := n (ix3 r h d)
  m r h := mm (ix2 r h)
  cw t c := cw (ix2 t c)
  cb c := cb (ix1 c)
  dtb h := dtb (ix1 h)
  al h := al (ix1 h)
  ib h := ib (ix1 h)
  fb h := fb (ix1 h)
  ks := ks

/-! ## The reference's values -/

def ps : FVec Ideal S128x11264 .f32 := extractStridedSlice S128x11264 ![8192, 0] P slices_S8448x11264_S128x11264_8192_0
def sm : FVec Ideal S128x128 .f32 := extractStridedSlice S128x128 ![8192, 0] S slices_S8448x128_S128x128_8192_0

def full : FVec Ideal S128x4x3072 .f32 :=
  concatenate S128x4x3072 1 [⟨S128x3x3072, H⟩, ⟨S128x1x3072, (broadcastInDim S128x1x3072 ![0, 2] bcast_S128x3072_S128x1x3072_0_2
    (extractStridedSlice S128x3072 ![0, 2048] (ps P) slices_S128x11264_S128x3072_0_2048))⟩] concatenates_S128x3x3072_S128x1x3072_S128x4x3072_d1

/-- A row of the filter spread over the sequences. -/
def wide (w : FVec Ideal S3072 .f32) : FVec Ideal S128x1x3072 .f32 :=
  broadcastInDim S128x1x3072 ![0, 1, 2] bcast_S1x1x3072_S128x1x3072_0_1_2 (broadcastInDim S1x1x3072 ![2] bcast_S3072_S1x1x3072_2 w)

def pre : FVec Ideal S128x1x3072 .f32 :=
  addf (wide cb) (addf (addf (addf (addf (broadcastInDim S128x1x3072 ![] bcast_S_S128x1x3072 (constant S_ .f32 0x00000000#32))
    (mulf (wide (shapeCast _ (extractStridedSlice S1x3072 ![0, 0] cw slices_S4x3072_S1x3072_0_0) shapeCasts_S1x3072_S3072))
      (extractStridedSlice S128x1x3072 ![0, 0, 0] (full P H) slices_S128x4x3072_S128x1x3072_0_0_0)))
    (mulf (wide (shapeCast _ (extractStridedSlice S1x3072 ![1, 0] cw slices_S4x3072_S1x3072_1_0) shapeCasts_S1x3072_S3072))
      (extractStridedSlice S128x1x3072 ![0, 1, 0] (full P H) slices_S128x4x3072_S128x1x3072_0_1_0)))
    (mulf (wide (shapeCast _ (extractStridedSlice S1x3072 ![2, 0] cw slices_S4x3072_S1x3072_2_0) shapeCasts_S1x3072_S3072))
      (extractStridedSlice S128x1x3072 ![0, 2, 0] (full P H) slices_S128x4x3072_S128x1x3072_0_2_0)))
    (mulf (wide (shapeCast _ (extractStridedSlice S1x3072 ![3, 0] cw slices_S4x3072_S1x3072_3_0) shapeCasts_S1x3072_S3072))
      (extractStridedSlice S128x1x3072 ![0, 3, 0] (full P H) slices_S128x4x3072_S128x1x3072_0_3_0)))

def xbc : FVec Ideal S128x1x3072 .f32 :=
  mulf (pre P H cw cb) (Host.divf (broadcastInDim S128x1x3072 ![] bcast_S_S128x1x3072 (constant S_ .f32 0x3F800000#32))
    (addf (broadcastInDim S128x1x3072 ![] bcast_S_S128x1x3072 (constant S_ .f32 0x3F800000#32)) (Host.exp (Host.negf (pre P H cw cb)))))

def xs : FVec Ideal S128x2048 .f32 :=
  shapeCast _ (extractStridedSlice S128x1x2048 ![0, 0, 0] (xbc P H cw cb) slices_S128x1x3072_S128x1x2048_0_0_0) shapeCasts_S128x1x2048_S128x2048
def bc : FVec Ideal S128x1024 .f32 :=
  shapeCast _ (extractStridedSlice S128x1x1024 ![0, 0, 2048] (xbc P H cw cb) slices_S128x1x3072_S128x1x1024_0_0_2048) shapeCasts_S128x1x1024_S128x1024

def z32 : FVec Ideal S128x32 .f32 := broadcastInDim S128x32 ![] bcast_S_S128x32 (constant S_ .f32 0x00000000#32)
def soft32 (x : FVec Ideal S128x32 .f32) : FVec Ideal S128x32 .f32 :=
  select (cmpf .une (subf x z32) (subf x z32)) (addf x z32) (addf (maximumf x z32) (Host.log1p (Host.exp (Host.negf (Host.absf (subf x z32))))))
def z8 : FVec Ideal S128x8 .f32 := broadcastInDim S128x8 ![] bcast_S_S128x8 (constant S_ .f32 0x00000000#32)
def soft8 (x : FVec Ideal S128x8 .f32) : FVec Ideal S128x8 .f32 :=
  select (cmpf .une (subf x z8) (subf x z8)) (addf x z8) (addf (maximumf x z8) (Host.log1p (Host.exp (Host.negf (Host.absf (subf x z8))))))

def dtv : FVec Ideal S128x32 .f32 :=
  soft32 (addf (extractStridedSlice S128x32 ![0, 0] (sm S) slices_S128x128_S128x32_0_0)
    (broadcastInDim S128x32 ![0, 1] bcast_S1x32_S128x32_0_1 (broadcastInDim S1x32 ![1] bcast_S32_S1x32_1 dtb)))

def xdt : FVec Ideal S128x2048 .f32 :=
  shapeCast _ (mulf (shapeCast _ (xs P H cw cb) shapeCasts_S128x2048_S128x32x64)
    (broadcastInDim S128x32x64 ![0, 1, 2] bcast_S128x32x1_S128x32x64_0_1_2 (broadcastInDim S128x32x1 ![0, 1] bcast_S128x32_S128x32x1_0_1 (dtv S dtb))))
    shapeCasts_S128x32x64_S128x2048

def dav : FVec Ideal S128x32 .f32 :=
  Host.exp (mulf (dtv S dtb) (broadcastInDim S128x32 ![0, 1] bcast_S1x32_S128x32_0_1 (broadcastInDim S1x32 ![1] bcast_S32_S1x32_1 (Host.negf (Host.exp al)))))

def qv : FVec Ideal S128x8x128 .f32 :=
  shapeCast _ (extractStridedSlice S128x1024 ![0, 5120] (ps P) slices_S128x11264_S128x1024_0_5120) shapeCasts_S128x1024_S128x8x128
def kv : FVec Ideal S128x8x128 .f32 :=
  mulf (shapeCast _ (extractStridedSlice S128x1024 ![0, 6144] (ps P) slices_S128x11264_S128x1024_0_6144) shapeCasts_S128x1024_S128x8x128)
    (broadcastInDim S128x8x128 ![] bcast_S_S128x8x128 (Host.divf (constant S_ .f32 0x3F800000#32) (Host.sqrt (constant S_ .f32 0x43000000#32))))
def kf : FVec Ideal S128x1024 .f32 := shapeCast _ (kv P) shapeCasts_S128x8x128_S128x1024

def biased (o : Nat) (h : S128x128.Slices ![0, o] S128x8) (b : FVec Ideal S8 .f32) : FVec Ideal S128x8 .f32 :=
  addf (extractStridedSlice S128x8 ![0, o] (sm S) h) (broadcastInDim S128x8 ![0, 1] bcast_S1x8_S128x8_0_1 (broadcastInDim S1x8 ![1] bcast_S8_S1x8_1 b))
def liv : FVec Ideal S128x8 .f32 := biased S 32 slices_S128x128_S128x8_0_32 ib
def interv : FVec Ideal S128x8 .f32 := addf (Host.negf (soft8 (Host.negf (biased S 40 slices_S128x128_S128x8_0_40 fb)))) mm
def mv : FVec Ideal S128x8 .f32 := maximumf (interv S mm fb) (liv S ib)
def wiv : FVec Ideal S128x8 .f32 := Host.exp (subf (liv S ib) (mv S mm ib fb))
def wev : FVec Ideal S128x8 .f32 := Host.exp (subf (interv S mm fb) (mv S mm ib fb))
def qkwv : FVec Ideal S128x8 .f32 :=
  mulf (Host.dotGeneral dot_S128x8x128_S128x8x128_S128x8_2_2_n_n_01_01 none (qv P) (kv P)) (wiv S mm ib fb)
def denv : FVec Ideal S128x8 .f32 :=
  addf (qkwv P S mm ib fb) (mulf (wev S mm ib fb) (Host.dotGeneral dot_S128x8x128_S128x8x128_S128x8_2_2_n_n_01_01 none (qv P) n))
def invv : FVec Ideal S128x8 .f32 :=
  Host.divf (broadcastInDim S128x8 ![] bcast_S_S128x8 (constant S_ .f32 0x3F800000#32))
    (maximumf (Host.absf (denv P S n mm ib fb)) (Host.exp (Host.negf (mv S mm ib fb))))
def spread (w : FVec Ideal S128x8 .f32) : FVec Ideal S128x8x128 .f32 :=
  broadcastInDim S128x8x128 ![0, 1, 2] bcast_S128x8x1_S128x8x128_0_1_2 (broadcastInDim S128x8x1 ![0, 1] bcast_S128x8_S128x8x1_0_1 w)
def nv : FVec Ideal S128x1024 .f32 :=
  shapeCast _ (addf (mulf (spread (wev S mm ib fb)) n) (mulf (spread (wiv S mm ib fb)) (kv P))) shapeCasts_S128x8x128_S128x1024

/-! ## Read by index -/

theorem ps_at (r : Fin 128) (j : Fin 11264) : ps P (ix2 r j) = P (ix2 (row r) j) := by
  pointwise [ps]
  rfl
theorem sm_at (r : Fin 128) (j : Fin 128) : sm S (ix2 r j) = S (ix2 (row r) j) := by
  pointwise [sm]
  rfl

theorem full_old (r : Fin 128) (k : Fin 4) (hk : k.val < 3) (c : Fin 3072) : full P H (ix3 r k c) = H (ix3 r ⟨k.val, hk⟩ c) := by
  pointwise [full]
  rw [dif_pos hk]

theorem full_new (r : Fin 128) (c : Fin 3072) : full P H (ix3 r 3 c) = P (ix2 (row r) ⟨2048 + c.val, by omega⟩) := by
  pointwise [full]
  rw [ps_at]

theorem xbc_at (r : Fin 128) (c : Fin 3072) : xbc P H cw cb (ix3 r 0 c) = conv (args P S H n mm cw cb dtb al ib fb) r c := by
  pointwise [xbc, pre, wide]
  simp only [full_new]
  rw [full_old P H r 0 (by decide) c, full_old P H r 1 (by decide) c, full_old P H r 2 (by decide) c]
  simp only [zero_add, conv, silu, add_assoc]
  rfl

theorem xs_at (r : Fin 128) (c : Fin 2048) : xs P H cw cb (ix2 r c) = conv (args P S H n mm cw cb dtb al ib fb) r ⟨c.val, by omega⟩ := by
  pointwise [xs]
  exact xbc_at P S H n mm cw cb dtb al ib fb r _

theorem bc_at (r : Fin 128) (c : Fin 1024) : bc P H cw cb (ix2 r c) = conv (args P S H n mm cw cb dtb al ib fb) r ⟨2048 + c.val, by omega⟩ := by
  pointwise [bc]
  exact xbc_at P S H n mm cw cb dtb al ib fb r _

theorem soft32_at (x : FVec Ideal S128x32 .f32) (r : Fin 128) (h : Fin 32) : soft32 x (ix2 r h) = soft (x (ix2 r h)) := by
  pointwise [soft32, z32]
  exact soft_of_test _

theorem soft8_at (x : FVec Ideal S128x8 .f32) (r : Fin 128) (h : Fin 8) : soft8 x (ix2 r h) = soft (x (ix2 r h)) := by
  pointwise [soft8, z8]
  exact soft_of_test _

theorem dt_at (r : Fin 128) (h : Fin 32) : dtv S dtb (ix2 r h) = dt (args P S H n mm cw cb dtb al ib fb) r h := by
  unfold dtv
  rw [soft32_at]
  pointwise []
  rw [sm_at]
  rfl

theorem xdt_at (r : Fin 128) (c : Fin 2048) :
    xdt P S H cw cb dtb (ix2 r c) = conv (args P S H n mm cw cb dtb al ib fb) r ⟨c.val, by omega⟩ * dt (args P S H n mm cw cb dtb al ib fb) r ⟨c.val / 64, by omega⟩ := by
  pointwise [xdt]
  rw [xs_at P S H n mm cw cb dtb al ib fb, dt_at P S H n mm cw cb dtb al ib fb]

theorem da_at (r : Fin 128) (h : Fin 32) : dav S dtb al (ix2 r h) = da (args P S H n mm cw cb dtb al ib fb) r h := by
  pointwise [dav]
  rw [dt_at P S H n mm cw cb dtb al ib fb]
  rfl

theorem q_at (r : Fin 128) (h : Fin 8) (d : Fin 128) : qv P (ix3 r h d) = q (args P S H n mm cw cb dtb al ib fb) r h d := by
  pointwise [qv]
  rw [ps_at]
  rfl

theorem k_at (r : Fin 128) (h : Fin 8) (d : Fin 128) : kv P (ix3 r h d) = k (args P S H n mm cw cb dtb al ib fb) r h d := by
  pointwise [kv]
  rw [ps_at]
  rfl

theorem kf_at (r : Fin 128) (u : Fin 1024) : kf P (ix2 r u) = k (args P S H n mm cw cb dtb al ib fb) r ⟨u.val / 128, by omega⟩ ⟨u.val % 128, by omega⟩ := by
  pointwise [kf]
  exact k_at P S H n mm cw cb dtb al ib fb r _ _

theorem li_at (r : Fin 128) (h : Fin 8) : liv S ib (ix2 r h) = li (args P S H n mm cw cb dtb al ib fb) r h := by
  pointwise [liv, biased]
  rw [sm_at]
  rfl

theorem inter_at (r : Fin 128) (h : Fin 8) : interv S mm fb (ix2 r h) = inter (args P S H n mm cw cb dtb al ib fb) r h := by
  unfold interv
  pointwise []
  rw [soft8_at]
  pointwise [biased]
  rw [sm_at]
  rfl

theorem m_at (r : Fin 128) (h : Fin 8) : mv S mm ib fb (ix2 r h) = mNew (args P S H n mm cw cb dtb al ib fb) r h := by
  pointwise [mv]
  rw [inter_at P S H n mm cw cb dtb al ib fb, li_at P S H n mm cw cb dtb al ib fb]
  rfl

theorem wi_at (r : Fin 128) (h : Fin 8) : wiv S mm ib fb (ix2 r h) = wIntra (args P S H n mm cw cb dtb al ib fb) r h := by
  pointwise [wiv]
  rw [m_at P S H n mm cw cb dtb al ib fb, li_at P S H n mm cw cb dtb al ib fb]
  rfl

theorem we_at (r : Fin 128) (h : Fin 8) : wev S mm ib fb (ix2 r h) = wInter (args P S H n mm cw cb dtb al ib fb) r h := by
  pointwise [wev]
  rw [m_at P S H n mm cw cb dtb al ib fb, inter_at P S H n mm cw cb dtb al ib fb]
  rfl

theorem qkw_at (r : Fin 128) (h : Fin 8) : qkwv P S mm ib fb (ix2 r h) = qkw (args P S H n mm cw cb dtb al ib fb) r h := by
  pointwise [qkwv]
  simp only [q_at P S H n mm cw cb dtb al ib fb, k_at P S H n mm cw cb dtb al ib fb, wi_at P S H n mm cw cb dtb al ib fb, qkw]

theorem den_at (r : Fin 128) (h : Fin 8) : denv P S n mm ib fb (ix2 r h) = den (args P S H n mm cw cb dtb al ib fb) r h := by
  pointwise [denv]
  simp only [q_at P S H n mm cw cb dtb al ib fb, qkw_at P S H n mm cw cb dtb al ib fb, we_at P S H n mm cw cb dtb al ib fb, den]
  rfl

theorem inv_at (r : Fin 128) (h : Fin 8) : invv P S n mm ib fb (ix2 r h) = inv (args P S H n mm cw cb dtb al ib fb) r h := by
  pointwise [invv]
  rw [den_at P S H n mm cw cb dtb al ib fb, m_at P S H n mm cw cb dtb al ib fb]
  rfl

theorem n_at (r : Fin 128) (u : Fin 1024) : nv P S n mm ib fb (ix2 r u) = nNew (args P S H n mm cw cb dtb al ib fb) r ⟨u.val / 128, by omega⟩ ⟨u.val % 128, by omega⟩ := by
  pointwise [nv, spread]
  rw [we_at P S H n mm cw cb dtb al ib fb, wi_at P S H n mm cw cb dtb al ib fb, k_at P S H n mm cw cb dtb al ib fb]
  rfl

/-! ## The reference's run, its results by name -/

variable (m : (ℓ : Loc nD τ sig) → Buf (Elt Ideal) ℓ) (c : Dev nD)

abbrev a0 : FVec Ideal S8448x11264 .f32 := m ((c.tc : Thread nD τ).loc main_arg0)
abbrev a1 : FVec Ideal S8448x128 .f32 := m ((c.tc : Thread nD τ).loc main_arg1)
abbrev a2 : FVec Ideal S128x3x3072 .f32 := m ((c.tc : Thread nD τ).loc main_arg2)
abbrev a3 : FVec Ideal S128x8x128 .f32 := m ((c.tc : Thread nD τ).loc main_arg3)
abbrev a4 : FVec Ideal S128x8 .f32 := m ((c.tc : Thread nD τ).loc main_arg4)
abbrev a5 : FVec Ideal S4x3072 .f32 := m ((c.tc : Thread nD τ).loc main_arg5)
abbrev a6 : FVec Ideal S3072 .f32 := m ((c.tc : Thread nD τ).loc main_arg6)
abbrev a7 : FVec Ideal S32 .f32 := m ((c.tc : Thread nD τ).loc main_arg7)
abbrev a8 : FVec Ideal S32 .f32 := m ((c.tc : Thread nD τ).loc main_arg8)
abbrev a9 : FVec Ideal S8 .f32 := m ((c.tc : Thread nD τ).loc main_arg9)
abbrev a10 : FVec Ideal S8 .f32 := m ((c.tc : Thread nD τ).loc main_arg10)

/-- The arguments of the run. -/
abbrev rargs : Args := args (a0 m c) (a1 m c) (a2 m c) (a3 m c) (a4 m c) (a5 m c) (a6 m c) (a7 m c) (a8 m c) (a9 m c) (a10 m c)

theorem run_named (ρ : Dev nD → PrngReg) :
    θ_run defs (onTc (τ := τ) (main (F := Ideal))) ⟨m, fun _ => 0, ρ⟩ fun r => ∀ c : Dev nD,
      r.2.mem ((c.tc : Thread nD τ).loc main_v39) = xs (a0 m c) (a2 m c) (a5 m c) (a6 m c)
      ∧ r.2.mem ((c.tc : Thread nD τ).loc main_v92) = xdt (a0 m c) (a1 m c) (a2 m c) (a5 m c) (a6 m c) (a7 m c)
      ∧ r.2.mem ((c.tc : Thread nD τ).loc main_v41) = bc (a0 m c) (a2 m c) (a5 m c) (a6 m c)
      ∧ r.2.mem ((c.tc : Thread nD τ).loc main_v98) = dav (a1 m c) (a7 m c) (a8 m c)
      ∧ r.2.mem ((c.tc : Thread nD τ).loc main_v99) = kf (a0 m c)
      ∧ r.2.mem ((c.tc : Thread nD τ).loc main_v100) = mulf (qkwv (a0 m c) (a1 m c) (a4 m c) (a9 m c) (a10 m c)) (invv (a0 m c) (a1 m c) (a3 m c) (a4 m c) (a9 m c) (a10 m c))
      ∧ r.2.mem ((c.tc : Thread nD τ).loc main_v101) = mulf (wev (a1 m c) (a4 m c) (a9 m c) (a10 m c)) (invv (a0 m c) (a1 m c) (a3 m c) (a4 m c) (a9 m c) (a10 m c))
      ∧ r.2.mem ((c.tc : Thread nD τ).loc main_v71) = wiv (a1 m c) (a4 m c) (a9 m c) (a10 m c)
      ∧ r.2.mem ((c.tc : Thread nD τ).loc main_v73) = wev (a1 m c) (a4 m c) (a9 m c) (a10 m c)
      ∧ r.2.mem ((c.tc : Thread nD τ).loc main_v69) = mv (a1 m c) (a4 m c) (a9 m c) (a10 m c)
      ∧ r.2.mem ((c.tc : Thread nD τ).loc main_v102) = nv (a0 m c) (a1 m c) (a3 m c) (a4 m c) (a9 m c) (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ?_) (Cert.Reference6Ideal.Value.run (F := Ideal) m ρ)
  obtain ⟨h0, h1, h2, h3, h4, h5, h6, h7, h8, h9, h10, hk⟩ := h c
  exact ⟨h0.trans rfl, h1.trans rfl, h2.trans rfl, h3.trans rfl, h4.trans rfl, h5.trans rfl, h6.trans rfl, h7.trans rfl, h8.trans rfl, h9.trans rfl, h10.trans rfl, hk⟩

end Decode.R

end
-- ==== Proof.Decode.Claims.lean ====
/-
  The claims about the preparation of one decoding step.
-/
module

public import proofs.«01_k».proof.Defs
public import proofs.«01_k».proof.Proof.Decode.FrameP
public import proofs.«01_k».proof.Proof.Decode.KernelRun
public import proofs.«01_k».proof.Proof.Decode.RefArray
public import proofs.«01_k».proof.Proof.Mlstm.Claims
public import Idealize.ShloMosaic.Lib.Claim

@[expose] public section

set_option maxRecDepth 16384

noncomputable section

open Idealize.ShloMosaic Idealize.ShloMosaic.TcCoe Idealize.SL.Sem

namespace Decode

/-- The kernel's named factor is the reference's quotient. -/
theorem ks_eq : K.ks = R.ks := Mlstm.ks_eq

section
variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ)

/-- The two programs read the same arrays. -/
theorem args_eq (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) :
    R.rargs m' c = K.args m c := by
  obtain ⟨h0, h1, h2, h3, h4, h5, h6, h7, h8, h9, h10⟩ := h
  simp only [R.rargs, R.args, K.args, Args.mk.injEq]
  exact ⟨funext fun i => funext fun j => congrFun h0 (ix2 i j), funext fun i => funext fun j => congrFun h1 (ix2 i j),
    funext fun i => funext fun j => funext fun k => congrFun h2 (ix3 i j k), funext fun i => funext fun j => funext fun k => congrFun h3 (ix3 i j k),
    funext fun i => funext fun j => congrFun h4 (ix2 i j), funext fun i => funext fun j => congrFun h5 (ix2 i j),
    funext fun i => congrFun h6 (ix1 i), funext fun i => congrFun h7 (ix1 i), funext fun i => congrFun h8 (ix1 i),
    funext fun i => congrFun h9 (ix1 i), funext fun i => congrFun h10 (ix1 i), ks_eq.symm⟩

end

section
open Cert.Reference6Ideal
variable (m : (ℓ : Loc nD τ sig) → Buf (Elt Ideal) ℓ) (c : Dev nD)

theorem R.res_xs : R.xs (R.a0 m c) (R.a2 m c) (R.a5 m c) (R.a6 m c) = (fun i => xsOut (R.rargs m c) (i 0) (i 1) : S128x2048.Idx → EReal) := by
  funext i
  obtain ⟨r, d, rfl⟩ : ∃ (r : Fin 128) (d : Fin 2048), i = ix2 r d := ⟨i 0, i 1, eq_ix2 i⟩
  exact R.xs_at (R.a0 m c) (R.a1 m c) (R.a2 m c) (R.a3 m c) (R.a4 m c) (R.a5 m c) (R.a6 m c) (R.a7 m c) (R.a8 m c) (R.a9 m c) (R.a10 m c) r d

theorem R.res_xdt : R.xdt (R.a0 m c) (R.a1 m c) (R.a2 m c) (R.a5 m c) (R.a6 m c) (R.a7 m c) = (fun i => xdtOut (R.rargs m c) (i 0) (i 1) : S128x2048.Idx → EReal) := by
  funext i
  obtain ⟨r, d, rfl⟩ : ∃ (r : Fin 128) (d : Fin 2048), i = ix2 r d := ⟨i 0, i 1, eq_ix2 i⟩
  exact R.xdt_at (R.a0 m c) (R.a1 m c) (R.a2 m c) (R.a3 m c) (R.a4 m c) (R.a5 m c) (R.a6 m c) (R.a7 m c) (R.a8 m c) (R.a9 m c) (R.a10 m c) r d

theorem R.res_bc : R.bc (R.a0 m c) (R.a2 m c) (R.a5 m c) (R.a6 m c) = (fun i => bcOut (R.rargs m c) (i 0) (i 1) : S128x1024.Idx → EReal) := by
  funext i
  obtain ⟨r, d, rfl⟩ : ∃ (r : Fin 128) (d : Fin 1024), i = ix2 r d := ⟨i 0, i 1, eq_ix2 i⟩
  exact R.bc_at (R.a0 m c) (R.a1 m c) (R.a2 m c) (R.a3 m c) (R.a4 m c) (R.a5 m c) (R.a6 m c) (R.a7 m c) (R.a8 m c) (R.a9 m c) (R.a10 m c) r d

theorem R.res_da : R.dav (R.a1 m c) (R.a7 m c) (R.a8 m c) = (fun i => da (R.rargs m c) (i 0) (i 1) : S128x32.Idx → EReal) := by
  funext i
  obtain ⟨r, d, rfl⟩ : ∃ (r : Fin 128) (d : Fin 32), i = ix2 r d := ⟨i 0, i 1, eq_ix2 i⟩
  exact R.da_at (R.a0 m c) (R.a1 m c) (R.a2 m c) (R.a3 m c) (R.a4 m c) (R.a5 m c) (R.a6 m c) (R.a7 m c) (R.a8 m c) (R.a9 m c) (R.a10 m c) r d

theorem R.res_kf : R.kf (R.a0 m c) = (fun i => kOut (R.rargs m c) (i 0) (i 1) : S128x1024.Idx → EReal) := by
  funext i
  obtain ⟨r, d, rfl⟩ : ∃ (r : Fin 128) (d : Fin 1024), i = ix2 r d := ⟨i 0, i 1, eq_ix2 i⟩
  exact R.kf_at (R.a0 m c) (R.a1 m c) (R.a2 m c) (R.a3 m c) (R.a4 m c) (R.a5 m c) (R.a6 m c) (R.a7 m c) (R.a8 m c) (R.a9 m c) (R.a10 m c) r d

theorem R.res_a1 : mulf (R.qkwv (R.a0 m c) (R.a1 m c) (R.a4 m c) (R.a9 m c) (R.a10 m c)) (R.invv (R.a0 m c) (R.a1 m c) (R.a3 m c) (R.a4 m c) (R.a9 m c) (R.a10 m c)) = (fun i => a1Out (R.rargs m c) (i 0) (i 1) : S128x8.Idx → EReal) := by
  funext i
  obtain ⟨r, d, rfl⟩ : ∃ (r : Fin 128) (d : Fin 8), i = ix2 r d := ⟨i 0, i 1, eq_ix2 i⟩
  exact congr (congrArg HMul.hMul (R.qkw_at (R.a0 m c) (R.a1 m c) (R.a2 m c) (R.a3 m c) (R.a4 m c) (R.a5 m c) (R.a6 m c) (R.a7 m c) (R.a8 m c) (R.a9 m c) (R.a10 m c) r d)) (R.inv_at (R.a0 m c) (R.a1 m c) (R.a2 m c) (R.a3 m c) (R.a4 m c) (R.a5 m c) (R.a6 m c) (R.a7 m c) (R.a8 m c) (R.a9 m c) (R.a10 m c) r d)

theorem R.res_a2 : mulf (R.wev (R.a1 m c) (R.a4 m c) (R.a9 m c) (R.a10 m c)) (R.invv (R.a0 m c) (R.a1 m c) (R.a3 m c) (R.a4 m c) (R.a9 m c) (R.a10 m c)) = (fun i => a2Out (R.rargs m c) (i 0) (i 1) : S128x8.Idx → EReal) := by
  funext i
  obtain ⟨r, d, rfl⟩ : ∃ (r : Fin 128) (d : Fin 8), i = ix2 r d := ⟨i 0, i 1, eq_ix2 i⟩
  exact congr (congrArg HMul.hMul (R.we_at (R.a0 m c) (R.a1 m c) (R.a2 m c) (R.a3 m c) (R.a4 m c) (R.a5 m c) (R.a6 m c) (R.a7 m c) (R.a8 m c) (R.a9 m c) (R.a10 m c) r d)) (R.inv_at (R.a0 m c) (R.a1 m c) (R.a2 m c) (R.a3 m c) (R.a4 m c) (R.a5 m c) (R.a6 m c) (R.a7 m c) (R.a8 m c) (R.a9 m c) (R.a10 m c) r d)

theorem R.res_wi : R.wiv (R.a1 m c) (R.a4 m c) (R.a9 m c) (R.a10 m c) = (fun i => wIntra (R.rargs m c) (i 0) (i 1) : S128x8.Idx → EReal) := by
  funext i
  obtain ⟨r, d, rfl⟩ : ∃ (r : Fin 128) (d : Fin 8), i = ix2 r d := ⟨i 0, i 1, eq_ix2 i⟩
  exact R.wi_at (R.a0 m c) (R.a1 m c) (R.a2 m c) (R.a3 m c) (R.a4 m c) (R.a5 m c) (R.a6 m c) (R.a7 m c) (R.a8 m c) (R.a9 m c) (R.a10 m c) r d

theorem R.res_we : R.wev (R.a1 m c) (R.a4 m c) (R.a9 m c) (R.a10 m c) = (fun i => wInter (R.rargs m c) (i 0) (i 1) : S128x8.Idx → EReal) := by
  funext i
  obtain ⟨r, d, rfl⟩ : ∃ (r : Fin 128) (d : Fin 8), i = ix2 r d := ⟨i 0, i 1, eq_ix2 i⟩
  exact R.we_at (R.a0 m c) (R.a1 m c) (R.a2 m c) (R.a3 m c) (R.a4 m c) (R.a5 m c) (R.a6 m c) (R.a7 m c) (R.a8 m c) (R.a9 m c) (R.a10 m c) r d

theorem R.res_m : R.mv (R.a1 m c) (R.a4 m c) (R.a9 m c) (R.a10 m c) = (fun i => mNew (R.rargs m c) (i 0) (i 1) : S128x8.Idx → EReal) := by
  funext i
  obtain ⟨r, d, rfl⟩ : ∃ (r : Fin 128) (d : Fin 8), i = ix2 r d := ⟨i 0, i 1, eq_ix2 i⟩
  exact R.m_at (R.a0 m c) (R.a1 m c) (R.a2 m c) (R.a3 m c) (R.a4 m c) (R.a5 m c) (R.a6 m c) (R.a7 m c) (R.a8 m c) (R.a9 m c) (R.a10 m c) r d

theorem R.res_n : R.nv (R.a0 m c) (R.a1 m c) (R.a3 m c) (R.a4 m c) (R.a9 m c) (R.a10 m c) = (fun i => nOut (R.rargs m c) (i 0) (i 1) : S128x1024.Idx → EReal) := by
  funext i
  obtain ⟨r, d, rfl⟩ : ∃ (r : Fin 128) (d : Fin 1024), i = ix2 r d := ⟨i 0, i 1, eq_ix2 i⟩
  exact R.n_at (R.a0 m c) (R.a1 m c) (R.a2 m c) (R.a3 m c) (R.a4 m c) (R.a5 m c) (R.a6 m c) (R.a7 m c) (R.a8 m c) (R.a9 m c) (R.a10 m c) r d

end

theorem frame_p : Cert.quiescent_Kernel6 := fun m ρ _ => P.frame m ρ
theorem frame_pi : Cert.quiescent_Kernel6Ideal := fun m ρ _ => K.frame m ρ
theorem frame_ri : Cert.quiescent_Reference6Ideal := fun m ρ _ =>
  (θ_run Cert.Reference6Ideal.defs _ _).mono (fun r h => ⟨fun c => (h c).2.2.2.2.2.2.2.2.2.2.2, Idealize.ShloMosaic.sem_eq_zero_of_no_sems (by decide) r.2⟩)
    (Cert.Reference6Ideal.Value.run (F := Ideal) m ρ)

theorem preserves : Cert.preserves_Kernel6_Kernel6Ideal :=
  IdealRules.named_const.statement Cert.Kernel6Ideal.κ "s" .f32 0x3DB504F3#32 (((Real.sqrt 128)⁻¹ : ℝ) : EReal) rfl

theorem algebraic : Cert.algebraic_Kernel6Ideal_Reference6Ideal := by
  intro m ρ m' ρ' _ hagree
  refine ⟨_, _, _, _, _, _, _, _, _, _, _, K.run_named m ρ, ?_⟩
  refine (θ_run Cert.Reference6Ideal.defs _ _).mono (fun _ h c => ?_) (R.run_named m' ρ')
  have e := args_eq m m' c (hagree c)
  obtain ⟨h0, h1, h2, h3, h4, h5, h6, h7, h8, h9, h10, hk⟩ := h c
  exact ⟨h0.trans ((R.res_xs m' c).trans (by rw [e])),
    h1.trans ((R.res_xdt m' c).trans (by rw [e])),
    h2.trans ((R.res_bc m' c).trans (by rw [e])),
    h3.trans ((R.res_da m' c).trans (by rw [e])),
    h4.trans ((R.res_kf m' c).trans (by rw [e])),
    h5.trans ((R.res_a1 m' c).trans (by rw [e])),
    h6.trans ((R.res_a2 m' c).trans (by rw [e])),
    h7.trans ((R.res_wi m' c).trans (by rw [e])),
    h8.trans ((R.res_we m' c).trans (by rw [e])),
    h9.trans ((R.res_m m' c).trans (by rw [e])),
    h10.trans ((R.res_n m' c).trans (by rw [e])), hk⟩

end Decode

end
-- ==== Proof.lean ====
module

public import proofs.«01_k».proof.Defs
public import proofs.«01_k».proof.Proof.Mlstm.Claims
public import proofs.«01_k».proof.Proof.InProj.Claims
public import proofs.«01_k».proof.Proof.Outproj.Claims
public import proofs.«01_k».proof.Proof.PeerQ.Claims
public import proofs.«01_k».proof.Proof.FinalNorm.Claims
public import proofs.«01_k».proof.Proof.Decode.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Mlstm.frame_p, Mlstm.frame_pi, Mlstm.frame_ri,
  InProj.frame_p, InProj.frame_pi, InProj.frame_ri,
  Outproj.frame_p, Outproj.frame_pi, Outproj.frame_ri, PeerQ.frame_p, PeerQ.frame_pi, PeerQ.frame_ri,
  FinalNorm.frame_p, FinalNorm.frame_pi, FinalNorm.frame_ri, Decode.frame_p, Decode.frame_pi, Decode.frame_ri,
  Mlstm.preserves, Mlstm.algebraic, InProj.preserves, InProj.algebraic, Outproj.preserves, Outproj.algebraic, PeerQ.preserves, PeerQ.algebraic,
  FinalNorm.preserves, FinalNorm.algebraic, Decode.preserves, Decode.algebraic⟩

end Cert.Proof

end
